-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x512 : Shape := ⟨2, ![8, 512]⟩
abbrev S272x256 : Shape := ⟨2, ![272, 256]⟩
abbrev S2x256 : Shape := ⟨2, ![2, 256]⟩
abbrev S2x256x512 : Shape := ⟨3, ![2, 256, 512]⟩
abbrev S2x512x256 : Shape := ⟨3, ![2, 512, 256]⟩
abbrev S2x512x4 : Shape := ⟨3, ![2, 512, 4]⟩
abbrev S2x512 : Shape := ⟨2, ![2, 512]⟩
abbrev S2x256x4 : Shape := ⟨3, ![2, 256, 4]⟩
abbrev S2x2x256x4 : Shape := ⟨4, ![2, 2, 256, 4]⟩
abbrev S2x2x4 : Shape := ⟨3, ![2, 2, 4]⟩
abbrev S2x256x8 : Shape := ⟨3, ![2, 256, 8]⟩
abbrev S2x256x256 : Shape := ⟨3, ![2, 256, 256]⟩
abbrev S256 : Shape := ⟨1, ![256]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S272x256 : S_.BroadcastsInDim S272x256 (![] : Fin 0 → Fin S272x256.rank)
  reducesTo_S272x256_S_d0_1 : S272x256.ReducesTo [0, 1] S_
  bcast_S_S2x256 : S_.BroadcastsInDim S2x256 (![] : Fin 0 → Fin S2x256.rank)
  reducesTo_S2x256_S_d0_1 : S2x256.ReducesTo [0, 1] S_
  bcast_S_S2x256x512 : S_.BroadcastsInDim S2x256x512 (![] : Fin 0 → Fin S2x256x512.rank)
  reducesTo_S2x256x512_S_d0_1_2 : S2x256x512.ReducesTo [0, 1, 2] S_
  bcast_S_S2x512x256 : S_.BroadcastsInDim S2x512x256 (![] : Fin 0 → Fin S2x512x256.rank)
  reducesTo_S2x512x256_S_d0_1_2 : S2x512x256.ReducesTo [0, 1, 2] S_
  bcast_S_S2x512x4 : S_.BroadcastsInDim S2x512x4 (![] : Fin 0 → Fin S2x512x4.rank)
  reducesTo_S2x512x4_S_d0_1_2 : S2x512x4.ReducesTo [0, 1, 2] S_
  bcast_S_S2x512 : S_.BroadcastsInDim S2x512 (![] : Fin 0 → Fin S2x512.rank)
  reducesTo_S2x512_S_d0_1 : S2x512.ReducesTo [0, 1] S_
  bcast_S_S2x256x4 : S_.BroadcastsInDim S2x256x4 (![] : Fin 0 → Fin S2x256x4.rank)
  reducesTo_S2x256x4_S_d0_1_2 : S2x256x4.ReducesTo [0, 1, 2] S_
  bcast_S_S2x2x256x4 : S_.BroadcastsInDim S2x2x256x4 (![] : Fin 0 → Fin S2x2x256x4.rank)
  reducesTo_S2x2x256x4_S_d0_1_2_3 : S2x2x256x4.ReducesTo [0, 1, 2, 3] S_
  bcast_S_S2x2x4 : S_.BroadcastsInDim S2x2x4 (![] : Fin 0 → Fin S2x2x4.rank)
  reducesTo_S2x2x4_S_d0_1_2 : S2x2x4.ReducesTo [0, 1, 2] S_
  bcast_S_S2x256x8 : S_.BroadcastsInDim S2x256x8 (![] : Fin 0 → Fin S2x256x8.rank)
  reducesTo_S2x256x8_S_d0_1_2 : S2x256x8.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S256 : S_.BroadcastsInDim S256 (![] : Fin 0 → Fin S256.rank)
  reducesTo_S256_S_d0 : S256.ReducesTo [0] S_

variable [Facts]

def fn_part5 {F : FTy → Type} [FloatOps F] (main_v81 : IVec S_ 1) (main_v84 : IVec S256 1) : IVec S_ 1 :=
  let main_c_33 : IVec S_ 1 := constantI S_ 1 1#1
  let main_v85 : IVec S_ 1 := (fun x v => Host.reduce IntOp.andi x v reducesTo_S256_S_d0 h_S_) main_v84 main_c_33
  let main_v86 : IVec S_ 1 := andi main_v81 main_v85
  main_v86

def fn_part4 {F : FTy → Type} [FloatOps F] (main_arg14 : FVec F S2x256x8 .f32) (main_arg15 : FVec F S2x256x256 .f32) (main_arg16 : FVec F S256 .f32) (main_v66 : IVec S_ 1) (main_v67 : FVec F S2x2x4 .f32) : IVec S_ 1 :=
  let main_cst_26 : FVec F S_ .f32 := constant S_ .f32 0x7F800000#32
  let main_v68 : FVec F S2x2x4 .f32 := broadcastInDim S2x2x4 ![] bcast_S_S2x2x4 main_cst_26
  let main_v69 : IVec S2x2x4 1 := cmpf .olt main_v67 main_v68
  let main_c_27 : IVec S_ 1 := constantI S_ 1 1#1
  let main_v70 : IVec S_ 1 := (fun x v => Host.reduce IntOp.andi x v reducesTo_S2x2x4_S_d0_1_2 h_S_) main_v69 main_c_27
  let main_v71 : IVec S_ 1 := andi main_v66 main_v70
  let main_v72 : FVec F S2x256x8 .f32 := Host.absf main_arg14
  let main_cst_28 : FVec F S_ .f32 := constant S_ .f32 0x7F800000#32
  let main_v73 : FVec F S2x256x8 .f32 := broadcastInDim S2x256x8 ![] bcast_S_S2x256x8 main_cst_28
  let main_v74 : IVec S2x256x8 1 := cmpf .olt main_v72 main_v73
  let main_c_29 : IVec S_ 1 := constantI S_ 1 1#1
  let main_v75 : IVec S_ 1 := (fun x v => Host.reduce IntOp.andi x v reducesTo_S2x256x8_S_d0_1_2 h_S_) main_v74 main_c_29
  let main_v76 : IVec S_ 1 := andi main_v71 main_v75
  let main_v77 : FVec F S2x256x256 .f32 := Host.absf main_arg15
  let main_cst_30 : FVec F S_ .f32 := constant S_ .f32 0x7F800000#32
  let main_v78 : FVec F S2x256x256 .f32 := broadcastInDim S2x256x256 ![] bcast_S_S2x256x256 main_cst_30
  let main_v79 : IVec S2x256x256 1 := cmpf .olt main_v77 main_v78
  let main_c_31 : IVec S_ 1 := constantI S_ 1 1#1
  let main_v80 : IVec S_ 1 := (fun x v => Host.reduce IntOp.andi x v reducesTo_S2x256x256_S_d0_1_2 h_S_) main_v79 main_c_31
  let main_v81 : IVec S_ 1 := andi main_v76 main_v80
  let main_v82 : FVec F S256 .f32 := Host.absf main_arg16
  let main_cst_32 : FVec F S_ .f32 := constant S_ .f32 0x7F800000#32
  let main_v83 : FVec F S256 .f32 := broadcastInDim S256 ![] bcast_S_S256 main_cst_32
  let main_v84 : IVec S256 1 := cmpf .olt main_v82 main_v83
  fn_part5 (F := F) main_v81 main_v84

def fn_part3 {F : FTy → Type} [FloatOps F] (main_arg10 : FVec F S2x2x256x4 .f32) (main_arg11 : FVec F S2x2x256x4 .f32) (main_arg12 : FVec F S2x2x4 .f32) (main_arg13 : FVec F S2x2x4 .f32) (main_arg14 : FVec F S2x256x8 .f32) (main_arg15 : FVec F S2x256x256 .f32) (main_arg16 : FVec F S256 .f32) (main_v46 : IVec S_ 1) (main_v49 : IVec S2x256x4 1) (main_c_19 : IVec S_ 1) : IVec S_ 1 :=
  let main_v50 : IVec S_ 1 := (fun x v => Host.reduce IntOp.andi x v reducesTo_S2x256x4_S_d0_1_2 h_S_) main_v49 main_c_19
  let main_v51 : IVec S_ 1 := andi main_v46 main_v50
  let main_v52 : FVec F S2x2x256x4 .f32 := Host.absf main_arg10
  let main_cst_20 : FVec F S_ .f32 := constant S_ .f32 0x7F800000#32
  let main_v53 : FVec F S2x2x256x4 .f32 := broadcastInDim S2x2x256x4 ![] bcast_S_S2x2x256x4 main_cst_20
  let main_v54 : IVec S2x2x256x4 1 := cmpf .olt main_v52 main_v53
  let main_c_21 : IVec S_ 1 := constantI S_ 1 1#1
  let main_v55 : IVec S_ 1 := (fun x v => Host.reduce IntOp.andi x v reducesTo_S2x2x256x4_S_d0_1_2_3 h_S_) main_v54 main_c_21
  let main_v56 : IVec S_ 1 := andi main_v51 main_v55
  let main_v57 : FVec F S2x2x256x4 .f32 := Host.absf main_arg11
  let main_cst_22 : FVec F S_ .f32 := constant S_ .f32 0x7F800000#32
  let main_v58 : FVec F S2x2x256x4 .f32 := broadcastInDim S2x2x256x4 ![] bcast_S_S2x2x256x4 main_cst_22
  let main_v59 : IVec S2x2x256x4 1 := cmpf .olt main_v57 main_v58
  let main_c_23 : IVec S_ 1 := constantI S_ 1 1#1
  let main_v60 : IVec S_ 1 := (fun x v => Host.reduce IntOp.andi x v reducesTo_S2x2x256x4_S_d0_1_2_3 h_S_) main_v59 main_c_23
  let main_v61 : IVec S_ 1 := andi main_v56 main_v60
  let main_v62 : FVec F S2x2x4 .f32 := Host.absf main_arg12
  let main_cst_24 : FVec F S_ .f32 := constant S_ .f32 0x7F800000#32
  let main_v63 : FVec F S2x2x4 .f32 := broadcastInDim S2x2x4 ![] bcast_S_S2x2x4 main_cst_24
  let main_v64 : IVec S2x2x4 1 := cmpf .olt main_v62 main_v63
  let main_c_25 : IVec S_ 1 := constantI S_ 1 1#1
  let main_v65 : IVec S_ 1 := (fun x v => Host.reduce IntOp.andi x v reducesTo_S2x2x4_S_d0_1_2 h_S_) main_v64 main_c_25
  let main_v66 : IVec S_ 1 := andi main_v61 main_v65
  let main_v67 : FVec F S2x2x4 .f32 := Host.absf main_arg13
  fn_part4 (F := F) main_arg14 main_arg15 main_arg16 main_v66 main_v67

def fn_part2 {F : FTy → Type} [FloatOps F] (main_arg7 : FVec F S2x512 .f32) (main_arg8 : FVec F S2x256x512 .f32) (main_arg9 : FVec F S2x256x4 .f32) (main_arg10 : FVec F S2x2x256x4 .f32) (main_arg11 : FVec F S2x2x256x4 .f32) (main_arg12 : FVec F S2x2x4 .f32) (main_arg13 : FVec F S2x2x4 .f32) (main_arg14 : FVec F S2x256x8 .f32) (main_arg15 : FVec F S2x256x256 .f32) (main_arg16 : FVec F S256 .f32) (main_v31 : IVec S_ 1) (main_v32 : FVec F S2x512x4 .f32) (main_cst_12 : FVec F S_ .f32) : IVec S_ 1 :=
  let main_v33 : FVec F S2x512x4 .f32 := broadcastInDim S2x512x4 ![] bcast_S_S2x512x4 main_cst_12
  let main_v34 : IVec S2x512x4 1 := cmpf .olt main_v32 main_v33
  let main_c_13 : IVec S_ 1 := constantI S_ 1 1#1
  let main_v35 : IVec S_ 1 := (fun x v => Host.reduce IntOp.andi x v reducesTo_S2x512x4_S_d0_1_2 h_S_) main_v34 main_c_13
  let main_v36 : IVec S_ 1 := andi main_v31 main_v35
  let main_v37 : FVec F S2x512 .f32 := Host.absf main_arg7
  let main_cst_14 : FVec F S_ .f32 := constant S_ .f32 0x7F800000#32
  let main_v38 : FVec F S2x512 .f32 := broadcastInDim S2x512 ![] bcast_S_S2x512 main_cst_14
  let main_v39 : IVec S2x512 1 := cmpf .olt main_v37 main_v38
  let main_c_15 : IVec S_ 1 := constantI S_ 1 1#1
  let main_v40 : IVec S_ 1 := (fun x v => Host.reduce IntOp.andi x v reducesTo_S2x512_S_d0_1 h_S_) main_v39 main_c_15
  let main_v41 : IVec S_ 1 := andi main_v36 main_v40
  let main_v42 : FVec F S2x256x512 .f32 := Host.absf main_arg8
  let main_cst_16 : FVec F S_ .f32 := constant S_ .f32 0x7F800000#32
  let main_v43 : FVec F S2x256x512 .f32 := broadcastInDim S2x256x512 ![] bcast_S_S2x256x512 main_cst_16
  let main_v44 : IVec S2x256x512 1 := cmpf .olt main_v42 main_v43
  let main_c_17 : IVec S_ 1 := constantI S_ 1 1#1
  let main_v45 : IVec S_ 1 := (fun x v => Host.reduce IntOp.andi x v reducesTo_S2x256x512_S_d0_1_2 h_S_) main_v44 main_c_17
  let main_v46 : IVec S_ 1 := andi main_v41 main_v45
  let main_v47 : FVec F S2x256x4 .f32 := Host.absf main_arg9
  let main_cst_18 : FVec F S_ .f32 := constant S_ .f32 0x7F800000#32
  let main_v48 : FVec F S2x256x4 .f32 := broadcastInDim S2x256x4 ![] bcast_S_S2x256x4 main_cst_18
  let main_v49 : IVec S2x256x4 1 := cmpf .olt main_v47 main_v48
  let main_c_19 : IVec S_ 1 := constantI S_ 1 1#1
  fn_part3 (F := F) main_arg10 main_arg11 main_arg12 main_arg13 main_arg14 main_arg15 main_arg16 main_v46 main_v49 main_c_19

def fn_part1 {F : FTy → Type} [FloatOps F] (main_arg3 : FVec F S2x256x512 .f32) (main_arg4 : FVec F S2x256x512 .f32) (main_arg5 : FVec F S2x512x256 .f32) (main_arg6 : FVec F S2x512x4 .f32) (main_arg7 : FVec F S2x512 .f32) (main_arg8 : FVec F S2x256x512 .f32) (main_arg9 : FVec F S2x256x4 .f32) (main_arg10 : FVec F S2x2x256x4 .f32) (main_arg11 : FVec F S2x2x256x4 .f32) (main_arg12 : FVec F S2x2x4 .f32) (main_arg13 : FVec F S2x2x4 .f32) (main_arg14 : FVec F S2x256x8 .f32) (main_arg15 : FVec F S2x256x256 .f32) (main_arg16 : FVec F S256 .f32) (main_v11 : IVec S_ 1) (main_v15 : IVec S_ 1) : IVec S_ 1 :=
  let main_v16 : IVec S_ 1 := andi main_v11 main_v15
  let main_v17 : FVec F S2x256x512 .f32 := Host.absf main_arg3
  let main_cst_6 : FVec F S_ .f32 := constant S_ .f32 0x7F800000#32
  let main_v18 : FVec F S2x256x512 .f32 := broadcastInDim S2x256x512 ![] bcast_S_S2x256x512 main_cst_6
  let main_v19 : IVec S2x256x512 1 := cmpf .olt main_v17 main_v18
  let main_c_7 : IVec S_ 1 := constantI S_ 1 1#1
  let main_v20 : IVec S_ 1 := (fun x v => Host.reduce IntOp.andi x v reducesTo_S2x256x512_S_d0_1_2 h_S_) main_v19 main_c_7
  let main_v21 : IVec S_ 1 := andi main_v16 main_v20
  let main_v22 : FVec F S2x256x512 .f32 := Host.absf main_arg4
  let main_cst_8 : FVec F S_ .f32 := constant S_ .f32 0x7F800000#32
  let main_v23 : FVec F S2x256x512 .f32 := broadcastInDim S2x256x512 ![] bcast_S_S2x256x512 main_cst_8
  let main_v24 : IVec S2x256x512 1 := cmpf .olt main_v22 main_v23
  let main_c_9 : IVec S_ 1 := constantI S_ 1 1#1
  let main_v25 : IVec S_ 1 := (fun x v => Host.reduce IntOp.andi x v reducesTo_S2x256x512_S_d0_1_2 h_S_) main_v24 main_c_9
  let main_v26 : IVec S_ 1 := andi main_v21 main_v25
  let main_v27 : FVec F S2x512x256 .f32 := Host.absf main_arg5
  let main_cst_10 : FVec F S_ .f32 := constant S_ .f32 0x7F800000#32
  let main_v28 : FVec F S2x512x256 .f32 := broadcastInDim S2x512x256 ![] bcast_S_S2x512x256 main_cst_10
  let main_v29 : IVec S2x512x256 1 := cmpf .olt main_v27 main_v28
  let main_c_11 : IVec S_ 1 := constantI S_ 1 1#1
  let main_v30 : IVec S_ 1 := (fun x v => Host.reduce IntOp.andi x v reducesTo_S2x512x256_S_d0_1_2 h_S_) main_v29 main_c_11
  let main_v31 : IVec S_ 1 := andi main_v26 main_v30
  let main_v32 : FVec F S2x512x4 .f32 := Host.absf main_arg6
  let main_cst_12 : FVec F S_ .f32 := constant S_ .f32 0x7F800000#32
  fn_part2 (F := F) main_arg7 main_arg8 main_arg9 main_arg10 main_arg11 main_arg12 main_arg13 main_arg14 main_arg15 main_arg16 main_v31 main_v32 main_cst_12

def fn {F : FTy → Type} [FloatOps F] (main_arg0 : IVec S8x512 32) (main_arg1 : FVec F S272x256 .f32) (main_arg2 : FVec F S2x256 .f32) (main_arg3 : FVec F S2x256x512 .f32) (main_arg4 : FVec F S2x256x512 .f32) (main_arg5 : FVec F S2x512x256 .f32) (main_arg6 : FVec F S2x512x4 .f32) (main_arg7 : FVec F S2x512 .f32) (main_arg8 : FVec F S2x256x512 .f32) (main_arg9 : FVec F S2x256x4 .f32) (main_arg10 : FVec F S2x2x256x4 .f32) (main_arg11 : FVec F S2x2x256x4 .f32) (main_arg12 : FVec F S2x2x4 .f32) (main_arg13 : FVec F S2x2x4 .f32) (main_arg14 : FVec F S2x256x8 .f32) (main_arg15 : FVec F S2x256x256 .f32) (main_arg16 : FVec F S256 .f32) : IVec S_ 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 1 := constantI S_ 1 1#1
  let main_v2 : IVec S_ 1 := (fun x v => Host.reduce IntOp.andi x v reducesTo_S8x512_S_d0_1 h_S_) main_v1 main_c_0
  let main_c_1 : IVec S_ 32 := constantI S_ 32 272#32
  let main_v3 : IVec S8x512 32 := broadcastInDim S8x512 ![] bcast_S_S8x512 main_c_1
  let main_v4 : IVec S8x512 1 := cmpi .slt main_arg0 main_v3
  let main_c_2 : IVec S_ 1 := constantI S_ 1 1#1
  let main_v5 : IVec S_ 1 := (fun x v => Host.reduce IntOp.andi x v reducesTo_S8x512_S_d0_1 h_S_) main_v4 main_c_2
  let main_v6 : IVec S_ 1 := andi main_v2 main_v5
  let main_v7 : FVec F S272x256 .f32 := Host.absf main_arg1
  let main_cst : FVec F S_ .f32 := constant S_ .f32 0x7F800000#32
  let main_v8 : FVec F S272x256 .f32 := broadcastInDim S272x256 ![] bcast_S_S272x256 main_cst
  let main_v9 : IVec S272x256 1 := cmpf .olt main_v7 main_v8
  let main_c_3 : IVec S_ 1 := constantI S_ 1 1#1
  let main_v10 : IVec S_ 1 := (fun x v => Host.reduce IntOp.andi x v reducesTo_S272x256_S_d0_1 h_S_) main_v9 main_c_3
  let main_v11 : IVec S_ 1 := andi main_v6 main_v10
  let main_v12 : FVec F S2x256 .f32 := Host.absf main_arg2
  let main_cst_4 : FVec F S_ .f32 := constant S_ .f32 0x7F800000#32
  let main_v13 : FVec F S2x256 .f32 := broadcastInDim S2x256 ![] bcast_S_S2x256 main_cst_4
  let main_v14 : IVec S2x256 1 := cmpf .olt main_v12 main_v13
  let main_c_5 : IVec S_ 1 := constantI S_ 1 1#1
  let main_v15 : IVec S_ 1 := (fun x v => Host.reduce IntOp.andi x v reducesTo_S2x256_S_d0_1 h_S_) main_v14 main_c_5
  fn_part1 (F := F) main_arg3 main_arg4 main_arg5 main_arg6 main_arg7 main_arg8 main_arg9 main_arg10 main_arg11 main_arg12 main_arg13 main_arg14 main_arg15 main_arg16 main_v11 main_v15
-- ==== Kernel.lean ====
abbrev S8x512 : Shape := ⟨2, ![8, 512]⟩
abbrev S272x256 : Shape := ⟨2, ![272, 256]⟩
abbrev S2x256 : Shape := ⟨2, ![2, 256]⟩
abbrev S2x256x512 : Shape := ⟨3, ![2, 256, 512]⟩
abbrev S2x512x256 : Shape := ⟨3, ![2, 512, 256]⟩
abbrev S2x512x4 : Shape := ⟨3, ![2, 512, 4]⟩
abbrev S2x512 : Shape := ⟨2, ![2, 512]⟩
abbrev S2x256x4 : Shape := ⟨3, ![2, 256, 4]⟩
abbrev S2x2x256x4 : Shape := ⟨4, ![2, 2, 256, 4]⟩
abbrev S2x2x4 : Shape := ⟨3, ![2, 2, 4]⟩
abbrev S2x256x8 : Shape := ⟨3, ![2, 256, 8]⟩
abbrev S2x256x256 : Shape := ⟨3, ![2, 256, 256]⟩
abbrev S256 : Shape := ⟨1, ![256]⟩
abbrev S8x512x1 : Shape := ⟨3, ![8, 512, 1]⟩
abbrev S256x272 : Shape := ⟨2, ![256, 272]⟩
abbrev S2x1x256 : Shape := ⟨3, ![2, 1, 256]⟩
abbrev S2x4x512 : Shape := ⟨3, ![2, 4, 512]⟩
abbrev S2x4x1x512 : Shape := ⟨4, ![2, 4, 1, 512]⟩
abbrev S2x1x512 : Shape := ⟨3, ![2, 1, 512]⟩
abbrev S2x256x4x2 : Shape := ⟨4, ![2, 256, 4, 2]⟩
abbrev S2x2x1x4 : Shape := ⟨4, ![2, 2, 1, 4]⟩
abbrev S1x256 : Shape := ⟨2, ![1, 256]⟩
abbrev S2x256x8x64 : Shape := ⟨4, ![2, 256, 8, 64]⟩
abbrev S_ : Shape := ⟨0, ![]⟩
abbrev S2x256x8x128 : Shape := ⟨4, ![2, 256, 8, 128]⟩
abbrev S2x256x1024 : Shape := ⟨3, ![2, 256, 1024]⟩
abbrev S2x4x64x256 : Shape := ⟨4, ![2, 4, 64, 256]⟩
abbrev S2x4x128x256 : Shape := ⟨4, ![2, 4, 128, 256]⟩
abbrev S256x1024 : Shape := ⟨2, ![256, 1024]⟩
abbrev S8x512x272 : Shape := ⟨3, ![8, 512, 272]⟩
abbrev S1x512x1 : Shape := ⟨3, ![1, 512, 1]⟩
abbrev S1x512x272 : Shape := ⟨3, ![1, 512, 272]⟩
abbrev S512x1024 : Shape := ⟨2, ![512, 1024]⟩
abbrev S8x64x64 : Shape := ⟨3, ![8, 64, 64]⟩
abbrev S512x1 : Shape := ⟨2, ![512, 1]⟩
abbrev S512x272 : Shape := ⟨2, ![512, 272]⟩
abbrev S512x256 : Shape := ⟨2, ![512, 256]⟩
abbrev S4x256 : Shape := ⟨2, ![4, 256]⟩
abbrev S8x1024 : Shape := ⟨2, ![8, 1024]⟩
abbrev S4x512 : Shape := ⟨2, ![4, 512]⟩
abbrev S64x64 : Shape := ⟨2, ![64, 64]⟩
abbrev S1x64 : Shape := ⟨2, ![1, 64]⟩
abbrev S512x512 : Shape := ⟨2, ![512, 512]⟩
abbrev S1x1x256 : Shape := ⟨3, ![1, 1, 256]⟩
abbrev S512 : Shape := ⟨1, ![512]⟩
abbrev S1x256x512 : Shape := ⟨3, ![1, 256, 512]⟩
abbrev S256x512 : Shape := ⟨2, ![256, 512]⟩
abbrev S1x1x1x512 : Shape := ⟨4, ![1, 1, 1, 512]⟩
abbrev S1x512 : Shape := ⟨2, ![1, 512]⟩
abbrev S511x512 : Shape := ⟨2, ![511, 512]⟩
abbrev S510x512 : Shape := ⟨2, ![510, 512]⟩
abbrev S3x512 : Shape := ⟨2, ![3, 512]⟩
abbrev S509x512 : Shape := ⟨2, ![509, 512]⟩
abbrev S1x1x512 : Shape := ⟨3, ![1, 1, 512]⟩
abbrev S1x512x256 : Shape := ⟨3, ![1, 512, 256]⟩
abbrev S1x256x1024 : Shape := ⟨3, ![1, 256, 1024]⟩
abbrev S512x4 : Shape := ⟨2, ![512, 4]⟩
abbrev S1x1024 : Shape := ⟨2, ![1, 1024]⟩
abbrev S511x1024 : Shape := ⟨2, ![511, 1024]⟩
abbrev S1x1x256x4 : Shape := ⟨4, ![1, 1, 256, 4]⟩
abbrev S256x4 : Shape := ⟨2, ![256, 4]⟩
abbrev S1x1x1x4 : Shape := ⟨4, ![1, 1, 1, 4]⟩
abbrev S1x4 : Shape := ⟨2, ![1, 4]⟩
abbrev S512x8 : Shape := ⟨2, ![512, 8]⟩
abbrev S1x64x64 : Shape := ⟨3, ![1, 64, 64]⟩
abbrev S1x256x4 : Shape := ⟨3, ![1, 256, 4]⟩

abbrev nBuf : Space → Nat
  | .hbm => 79
  | .vmem => 30
  | .smem => 0
  | _ => 0

abbrev bufTy : (tb : Table) → Fin (tcTables nBuf tb) → BufTy
  | .hbm, ⟨0, _⟩ => ⟨S8x512, .i32⟩
  | .hbm, ⟨1, _⟩ => ⟨S272x256, .f32⟩
  | .hbm, ⟨2, _⟩ => ⟨S2x256, .f32⟩
  | .hbm, ⟨3, _⟩ => ⟨S2x256x512, .f32⟩
  | .hbm, ⟨4, _⟩ => ⟨S2x256x512, .f32⟩
  | .hbm, ⟨5, _⟩ => ⟨S2x512x256, .f32⟩
  | .hbm, ⟨6, _⟩ => ⟨S2x512x4, .f32⟩
  | .hbm, ⟨7, _⟩ => ⟨S2x512, .f32⟩
  | .hbm, ⟨8, _⟩ => ⟨S2x256x512, .f32⟩
  | .hbm, ⟨9, _⟩ => ⟨S2x256x4, .f32⟩
  | .hbm, ⟨10, _⟩ => ⟨S2x2x256x4, .f32⟩
  | .hbm, ⟨11, _⟩ => ⟨S2x2x256x4, .f32⟩
  | .hbm, ⟨12, _⟩ => ⟨S2x2x4, .f32⟩
  | .hbm, ⟨13, _⟩ => ⟨S2x2x4, .f32⟩
  | .hbm, ⟨14, _⟩ => ⟨S2x256x8, .f32⟩
  | .hbm, ⟨15, _⟩ => ⟨S2x256x256, .f32⟩
  | .hbm, ⟨16, _⟩ => ⟨S256, .f32⟩
  | .hbm, ⟨17, _⟩ => ⟨S8x512x1, .i32⟩
  | .hbm, ⟨18, _⟩ => ⟨S256x272, .f32⟩
  | .hbm, ⟨19, _⟩ => ⟨S2x1x256, .f32⟩
  | .hbm, ⟨20, _⟩ => ⟨S2x4x512, .f32⟩
  | .hbm, ⟨21, _⟩ => ⟨S2x4x1x512, .f32⟩
  | .hbm, ⟨22, _⟩ => ⟨S2x1x512, .f32⟩
  | .hbm, ⟨23, _⟩ => ⟨S2x256x4x2, .f32⟩
  | .hbm, ⟨24, _⟩ => ⟨S2x2x256x4, .f32⟩
  | .hbm, ⟨25, _⟩ => ⟨S2x2x1x4, .f32⟩
  | .hbm, ⟨26, _⟩ => ⟨S2x2x1x4, .f32⟩
  | .hbm, ⟨27, _⟩ => ⟨S1x256, .f32⟩
  | .hbm, ⟨28, _⟩ => ⟨S2x256x8x64, .f32⟩
  | .hbm, ⟨29, _⟩ => ⟨S_, .i32⟩
  | .hbm, ⟨30, _⟩ => ⟨S_, .f32⟩
  | .hbm, ⟨31, _⟩ => ⟨S2x256x8x128, .f32⟩
  | .hbm, ⟨32, _⟩ => ⟨S2x256x1024, .f32⟩
  | .hbm, ⟨33, _⟩ => ⟨S2x4x64x256, .f32⟩
  | .hbm, ⟨34, _⟩ => ⟨S_, .i32⟩
  | .hbm, ⟨35, _⟩ => ⟨S_, .f32⟩
  | .hbm, ⟨36, _⟩ => ⟨S2x4x128x256, .f32⟩
  | .hbm, ⟨37, _⟩ => ⟨S2x512x256, .f32⟩
  | .hbm, ⟨38, _⟩ => ⟨S256x1024, .i32⟩
  | .hbm, ⟨39, _⟩ => ⟨S256x1024, .i32⟩
  | .hbm, ⟨40, _⟩ => ⟨S_, .i32⟩
  | .hbm, ⟨41, _⟩ => ⟨S256x1024, .i32⟩
  | .hbm, ⟨42, _⟩ => ⟨S256x1024, .i32⟩
  | .hbm, ⟨43, _⟩ => ⟨S_, .i32⟩
  | .hbm, ⟨44, _⟩ => ⟨S256x1024, .i32⟩
  | .hbm, ⟨45, _⟩ => ⟨S256x1024, .i32⟩
  | .hbm, ⟨46, _⟩ => ⟨S_, .i32⟩
  | .hbm, ⟨47, _⟩ => ⟨S256x1024, .i32⟩
  | .hbm, ⟨48, _⟩ => ⟨S256x1024, .i32⟩
  | .hbm, ⟨49, _⟩ => ⟨S_, .i32⟩
  | .hbm, ⟨50, _⟩ => ⟨S256x1024, .i32⟩
  | .hbm, ⟨51, _⟩ => ⟨S256x1024, .i32⟩
  | .hbm, ⟨52, _⟩ => ⟨S_, .i32⟩
  | .hbm, ⟨53, _⟩ => ⟨S256x1024, .i32⟩
  | .hbm, ⟨54, _⟩ => ⟨S256x1024, .i32⟩
  | .hbm, ⟨55, _⟩ => ⟨S256x1024, .i32⟩
  | .hbm, ⟨56, _⟩ => ⟨S256x1024, .i32⟩
  | .hbm, ⟨57, _⟩ => ⟨S_, .i32⟩
  | .hbm, ⟨58, _⟩ => ⟨S256x1024, .i32⟩
  | .hbm, ⟨59, _⟩ => ⟨S256x1024, .i32⟩
  | .hbm, ⟨60, _⟩ => ⟨S_, .i32⟩
  | .hbm, ⟨61, _⟩ => ⟨S256x1024, .i32⟩
  | .hbm, ⟨62, _⟩ => ⟨S256x1024, .i1⟩
  | .hbm, ⟨63, _⟩ => ⟨S_, .f32⟩
  | .hbm, ⟨64, _⟩ => ⟨S_, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S256x1024, .f32⟩
  | .hbm, ⟨69, _⟩ => ⟨S_, .i32⟩
  | .hbm, ⟨70, _⟩ => ⟨S256x1024, .i32⟩
  | .hbm, ⟨71, _⟩ => ⟨S256x1024, .i1⟩
  | .hbm, ⟨72, _⟩ => ⟨S256x1024, .i1⟩
  | .hbm, ⟨73, _⟩ => ⟨S256x1024, .i1⟩
  | .hbm, ⟨74, _⟩ => ⟨S_, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S8x512x272, .f32⟩
  | .local _ .vmem, ⟨0, _⟩ => ⟨S1x512x1, .i32⟩
  | .local _ .vmem, ⟨1, _⟩ => ⟨S1x512x1, .i32⟩
  | .local _ .vmem, ⟨2, _⟩ => ⟨S272x256, .f32⟩
  | .local _ .vmem, ⟨3, _⟩ => ⟨S256x272, .f32⟩
  | .local _ .vmem, ⟨4, _⟩ => ⟨S2x1x256, .f32⟩
  | .local _ .vmem, ⟨5, _⟩ => ⟨S2x256x512, .f32⟩
  | .local _ .vmem, ⟨6, _⟩ => ⟨S2x256x512, .f32⟩
  | .local _ .vmem, ⟨7, _⟩ => ⟨S2x512x256, .f32⟩
  | .local _ .vmem, ⟨8, _⟩ => ⟨S2x4x1x512, .f32⟩
  | .local _ .vmem, ⟨9, _⟩ => ⟨S2x1x512, .f32⟩
  | .local _ .vmem, ⟨10, _⟩ => ⟨S2x256x1024, .f32⟩
  | .local _ .vmem, ⟨11, _⟩ => ⟨S2x256x4, .f32⟩
  | .local _ .vmem, ⟨12, _⟩ => ⟨S2x2x256x4, .f32⟩
  | .local _ .vmem, ⟨13, _⟩ => ⟨S2x2x256x4, .f32⟩
  | .local _ .vmem, ⟨14, _⟩ => ⟨S2x2x1x4, .f32⟩
  | .local _ .vmem, ⟨15, _⟩ => ⟨S2x2x1x4, .f32⟩
  | .local _ .vmem, ⟨16, _⟩ => ⟨S2x2x256x4, .f32⟩
  | .local _ .vmem, ⟨17, _⟩ => ⟨S2x512x256, .f32⟩
  | .local _ .vmem, ⟨18, _⟩ => ⟨S1x256, .f32⟩
  | .local _ .vmem, ⟨19, _⟩ => ⟨S256x1024, .f32⟩
  | .local _ .vmem, ⟨20, _⟩ => ⟨S1x512x272, .f32⟩
  | .local _ .vmem, ⟨21, _⟩ => ⟨S1x512x272, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S8x64x64, .f32⟩
  | _, _ => ⟨S8x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_call1_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_cst_8 : Ref sig .tc := ⟨.hbm, 64, rfl⟩
abbrev main_call2_v0 : Ref sig .tc := ⟨.hbm, 65, rfl⟩
abbrev main_call2_v1 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_10 : Ref sig .tc := ⟨.hbm, 74, rfl⟩
abbrev main_call3_v0 : Ref sig .tc := ⟨.hbm, 75, rfl⟩
abbrev main_call3_v1 : Ref sig .tc := ⟨.hbm, 76, rfl⟩
abbrev main_v41 : Ref sig .tc := ⟨.hbm, 77, rfl⟩
abbrev main_v42 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_190 : BitVec 32 := 0#32
  let c8_i32 : BitVec 32 := 8#32
  let v398 : BitVec 32 := Scalar.addi c0_i32_190 c8_i32
  let c1_i32_191 : BitVec 32 := 1#32
  ⟨c0_i32_190, v398, c1_i32_191⟩
def k0_mult1 (k0_t1 : Fin k0_t1_loop.trips) : BitVec 32 :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  v639
def k0_off1 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v641 : Index := Scalar.indexCast v640
  let c0_359 : Index := 0#32
  ![v641.toNat, 0]
def k0_off2 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v643 : Index := Scalar.indexCast v640
  let c128 : Index := 128#32
  ![v643.toNat, 128]
def k0_off3 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v645 : Index := Scalar.indexCast v640
  let c256 : Index := 256#32
  ![v645.toNat, 256]
def k0_off4 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v647 : Index := Scalar.indexCast v640
  let c384 : Index := 384#32
  ![v647.toNat, 384]
def k0_off5 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v649 : Index := Scalar.indexCast v640
  let c512 : Index := 512#32
  ![v649.toNat, 512]
def k0_off6 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v651 : Index := Scalar.indexCast v640
  let c640 : Index := 640#32
  ![v651.toNat, 640]
def k0_off7 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v653 : Index := Scalar.indexCast v640
  let c768 : Index := 768#32
  ![v653.toNat, 768]
def k0_off8 (k0_t1 : Fin k0_t1_loop.trips) : Fin 2 → Nat :=
  let c0_i32_190 : BitVec 32 := 0#32
  let c1_i32_191 : BitVec 32 := 1#32
  let arg29 : BitVec 32 := Scf.iv c0_i32_190 c1_i32_191 k0_t1
  let c64_i32_358 : BitVec 32 := 64#32
  let v639 : BitVec 32 := Scalar.muli arg29 c64_i32_358
  let v640 : BitVec 32 := v639
  let v655 : Index := Scalar.indexCast v640
  let c896 : Index := 896#32
  ![v655.toNat, 896]
@[reducible] def k0_t2_loop : Scf.Loop 32 :=
  let c0_i32_330 : BitVec 32 := 0#32
  let c8_i32_331 : BitVec 32 := 8#32
  let v601 : BitVec 32 := Scalar.addi c0_i32_330 c8_i32_331
  let c1_i32_332 : BitVec 32 := 1#32
  ⟨c0_i32_330, v601, c1_i32_332⟩
def k0_mult2 (k0_t2 : Fin k0_t2_loop.trips) : BitVec 32 :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  v639
def k0_off9 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v641 : Index := Scalar.indexCast v640
  let c0_359 : Index := 0#32
  ![v641.toNat, 0]
def k0_off10 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v643 : Index := Scalar.indexCast v640
  let c128 : Index := 128#32
  ![v643.toNat, 128]
def k0_off11 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v645 : Index := Scalar.indexCast v640
  let c256 : Index := 256#32
  ![v645.toNat, 256]
def k0_off12 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v647 : Index := Scalar.indexCast v640
  let c384 : Index := 384#32
  ![v647.toNat, 384]
def k0_off13 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v649 : Index := Scalar.indexCast v640
  let c512 : Index := 512#32
  ![v649.toNat, 512]
def k0_off14 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v651 : Index := Scalar.indexCast v640
  let c640 : Index := 640#32
  ![v651.toNat, 640]
def k0_off15 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v653 : Index := Scalar.indexCast v640
  let c768 : Index := 768#32
  ![v653.toNat, 768]
def k0_off16 (k0_t2 : Fin k0_t2_loop.trips) : Fin 2 → Nat :=
  let c0_i32_330 : BitVec 32 := 0#32
  let c1_i32_332 : BitVec 32 := 1#32
  let arg29 : BitVec 32 := Scf.iv c0_i32_330 c1_i32_332 k0_t2
  let c64_i32_358 : BitVec 32 := 64#32
  let v639 : BitVec 32 := Scalar.muli arg29 c64_i32_358
  let v640 : BitVec 32 := v639
  let v655 : Index := Scalar.indexCast v640
  let c896 : Index := 896#32
  ![v655.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S272x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x2x256x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x2x256x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2x1x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x2x1x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x2x256x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x512x272 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S8x512 : Shape := ⟨2, ![8, 512]⟩
abbrev S272x256 : Shape := ⟨2, ![272, 256]⟩
abbrev S2x256 : Shape := ⟨2, ![2, 256]⟩
abbrev S2x256x512 : Shape := ⟨3, ![2, 256, 512]⟩
abbrev S2x512x256 : Shape := ⟨3, ![2, 512, 256]⟩
abbrev S2x512x4 : Shape := ⟨3, ![2, 512, 4]⟩
abbrev S2x512 : Shape := ⟨2, ![2, 512]⟩
abbrev S2x256x4 : Shape := ⟨3, ![2, 256, 4]⟩
abbrev S2x2x256x4 : Shape := ⟨4, ![2, 2, 256, 4]⟩
abbrev S2x2x4 : Shape := ⟨3, ![2, 2, 4]⟩
abbrev S2x256x8 : Shape := ⟨3, ![2, 256, 8]⟩
abbrev S2x256x256 : Shape := ⟨3, ![2, 256, 256]⟩
abbrev S256 : Shape := ⟨1, ![256]⟩
abbrev S_ : Shape := ⟨0, ![]⟩
abbrev S8x3x512 : Shape := ⟨3, ![8, 3, 512]⟩
abbrev S8x2x4x64 : Shape := ⟨4, ![8, 2, 4, 64]⟩
abbrev S8x2x4x64x64 : Shape := ⟨5, ![8, 2, 4, 64, 64]⟩
abbrev S8x512x1 : Shape := ⟨3, ![8, 512, 1]⟩
abbrev S8x512x256 : Shape := ⟨3, ![8, 512, 256]⟩
abbrev S512x8x256 : Shape := ⟨3, ![512, 8, 256]⟩
abbrev S1x8x256 : Shape := ⟨3, ![1, 8, 256]⟩
abbrev S8x256 : Shape := ⟨2, ![8, 256]⟩
abbrev S1x256 : Shape := ⟨2, ![1, 256]⟩
abbrev S8 : Shape := ⟨1, ![8]⟩
abbrev S8x1 : Shape := ⟨2, ![8, 1]⟩
abbrev S1x256x512 : Shape := ⟨3, ![1, 256, 512]⟩
abbrev S256x512 : Shape := ⟨2, ![256, 512]⟩
abbrev S8x1x512 : Shape := ⟨3, ![8, 1, 512]⟩
abbrev S8x4x512 : Shape := ⟨3, ![8, 4, 512]⟩
abbrev S1x512x1 : Shape := ⟨3, ![1, 512, 1]⟩
abbrev S512 : Shape := ⟨1, ![512]⟩
abbrev S1x512 : Shape := ⟨2, ![1, 512]⟩
abbrev S1x512x256 : Shape := ⟨3, ![1, 512, 256]⟩
abbrev S512x256 : Shape := ⟨2, ![512, 256]⟩
abbrev S1x256x4 : Shape := ⟨3, ![1, 256, 4]⟩
abbrev S256x4 : Shape := ⟨2, ![256, 4]⟩
abbrev S8x4 : Shape := ⟨2, ![8, 4]⟩
abbrev S1x2x256x4 : Shape := ⟨4, ![1, 2, 256, 4]⟩
abbrev S8x2x4 : Shape := ⟨3, ![8, 2, 4]⟩
abbrev S1x2x4 : Shape := ⟨3, ![1, 2, 4]⟩
abbrev S2x4 : Shape := ⟨2, ![2, 4]⟩
abbrev S1x256x8 : Shape := ⟨3, ![1, 256, 8]⟩
abbrev S256x8 : Shape := ⟨2, ![256, 8]⟩
abbrev S8x8 : Shape := ⟨2, ![8, 8]⟩
abbrev S8x4x2 : Shape := ⟨3, ![8, 4, 2]⟩
abbrev S8x4x1 : Shape := ⟨3, ![8, 4, 1]⟩
abbrev S8x4x64 : Shape := ⟨3, ![8, 4, 64]⟩
abbrev S8x4x32 : Shape := ⟨3, ![8, 4, 32]⟩
abbrev S8x4x32x1 : Shape := ⟨4, ![8, 4, 32, 1]⟩
abbrev S8x4x32x2 : Shape := ⟨4, ![8, 4, 32, 2]⟩
abbrev S8x1x4x64 : Shape := ⟨4, ![8, 1, 4, 64]⟩
abbrev S8x2x4x1x1 : Shape := ⟨5, ![8, 2, 4, 1, 1]⟩
abbrev S8x2x4x1 : Shape := ⟨4, ![8, 2, 4, 1]⟩
abbrev S8x2x4x64x1 : Shape := ⟨5, ![8, 2, 4, 64, 1]⟩
abbrev S8x2x4x1x64 : Shape := ⟨5, ![8, 2, 4, 1, 64]⟩
abbrev S1x256x256 : Shape := ⟨3, ![1, 256, 256]⟩
abbrev S256x256 : Shape := ⟨2, ![256, 256]⟩
abbrev S256x272 : Shape := ⟨2, ![256, 272]⟩
abbrev S8x512x272 : Shape := ⟨3, ![8, 512, 272]⟩

abbrev nBuf : Space → Nat
  | .hbm => 507
  | .vmem => 0
  | .smem => 0
  | _ => 0

abbrev hbmTy0_0 (i : Nat) : BufTy := match i % 128 with
  | 0 => ⟨S8x512, .i32⟩
  | 1 => ⟨S272x256, .f32⟩
  | 2 => ⟨S2x256, .f32⟩
  | 3 => ⟨S2x256x512, .f32⟩
  | 4 => ⟨S2x256x512, .f32⟩
  | 5 => ⟨S2x512x256, .f32⟩
  | 6 => ⟨S2x512x4, .f32⟩
  | 7 => ⟨S2x512, .f32⟩
  | 8 => ⟨S2x256x512, .f32⟩
  | 9 => ⟨S2x256x4, .f32⟩
  | 10 => ⟨S2x2x256x4, .f32⟩
  | 11 => ⟨S2x2x256x4, .f32⟩
  | 12 => ⟨S2x2x4, .f32⟩
  | 13 => ⟨S2x2x4, .f32⟩
  | 14 => ⟨S2x256x8, .f32⟩
  | 15 => ⟨S2x256x256, .f32⟩
  | 16 => ⟨S256, .f32⟩
  | 17 => ⟨S_, .f32⟩
  | 18 => ⟨S8x3x512, .f32⟩
  | 19 => ⟨S_, .f32⟩
  | 20 => ⟨S8x2x4x64, .f32⟩
  | 21 => ⟨S_, .f32⟩
  | 22 => ⟨S8x2x4x64x64, .f32⟩
  | 23 => ⟨S_, .i32⟩
  | 24 => ⟨S8x512, .i32⟩
  | 25 => ⟨S8x512, .i1⟩
  | 26 => ⟨S_, .i32⟩
  | 27 => ⟨S8x512, .i32⟩
  | 28 => ⟨S8x512, .i32⟩
  | 29 => ⟨S8x512, .i32⟩
  | 30 => ⟨S8x512x1, .i32⟩
  | 31 => ⟨S8x512x256, .f32⟩
  | 32 => ⟨S512x8x256, .f32⟩
  | 33 => ⟨S_, .f32⟩
  | 34 => ⟨S512x8x256, .f32⟩
  | 35 => ⟨S_, .i32⟩
  | 36 => ⟨S512x8x256, .f32⟩
  | 37 => ⟨S2x256, .f32⟩
  | 38 => ⟨S2x256x512, .f32⟩
  | 39 => ⟨S2x512x4, .f32⟩
  | 40 => ⟨S2x512, .f32⟩
  | 41 => ⟨S2x256x512, .f32⟩
  | 42 => ⟨S2x512x256, .f32⟩
  | 43 => ⟨S2x256x512, .f32⟩
  | 44 => ⟨S2x256x4, .f32⟩
  | 45 => ⟨S2x2x256x4, .f32⟩
  | 46 => ⟨S2x2x256x4, .f32⟩
  | 47 => ⟨S2x2x4, .f32⟩
  | 48 => ⟨S2x2x4, .f32⟩
  | 49 => ⟨S2x256x8, .f32⟩
  | 50 => ⟨S2x256x256, .f32⟩
  | 51 => ⟨S256, .f32⟩
  | 52 => ⟨S_, .i32⟩
  | 53 => ⟨S8x3x512, .f32⟩
  | 54 => ⟨S8x2x4x64, .f32⟩
  | 55 => ⟨S8x2x4x64x64, .f32⟩
  | 56 => ⟨S8x3x512, .f32⟩
  | 57 => ⟨S8x2x4x64, .f32⟩
  | 58 => ⟨S8x2x4x64x64, .f32⟩
  | 59 => ⟨S512x8x256, .f32⟩
  | 60 => ⟨S_, .i32⟩
  | 61 => ⟨S_, .i1⟩
  | 62 => ⟨S_, .i32⟩
  | 63 => ⟨S_, .i32⟩
  | 64 => ⟨S1x8x256, .f32⟩
  | 65 => ⟨S8x256, .f32⟩
  | 66 => ⟨S1x256, .f32⟩
  | 67 => ⟨S256, .f32⟩
  | 68 => ⟨S8x256, .f32⟩
  | 69 => ⟨S_, .f32⟩
  | 70 => ⟨S8, .f32⟩
  | 71 => ⟨S8x1, .f32⟩
  | 72 => ⟨S_, .f32⟩
  | 73 => ⟨S8x1, .f32⟩
  | 74 => ⟨S8x1, .f32⟩
  | 75 => ⟨S_, .f32⟩
  | 76 => ⟨S8x1, .f32⟩
  | 77 => ⟨S8x1, .f32⟩
  | 78 => ⟨S8x1, .f32⟩
  | 79 => ⟨S8x256, .f32⟩
  | 80 => ⟨S8x256, .f32⟩
  | 81 => ⟨S1x256, .f32⟩
  | 82 => ⟨S8x256, .f32⟩
  | 83 => ⟨S8x256, .f32⟩
  | 84 => ⟨S1x256x512, .f32⟩
  | 85 => ⟨S256x512, .f32⟩
  | 86 => ⟨S8x512, .f32⟩
  | 87 => ⟨S8x1x512, .f32⟩
  | 88 => ⟨S8x4x512, .f32⟩
  | 89 => ⟨S8x1x512, .f32⟩
  | 90 => ⟨S8x512, .f32⟩
  | 91 => ⟨S1x512x1, .f32⟩
  | 92 => ⟨S512, .f32⟩
  | 93 => ⟨S1x512, .f32⟩
  | 94 => ⟨S8x512, .f32⟩
  | 95 => ⟨S8x512, .f32⟩
  | 96 => ⟨S_, .f32⟩
  | 97 => ⟨S8x512, .f32⟩
  | 98 => ⟨S8x512, .f32⟩
  | 99 => ⟨S8x1x512, .f32⟩
  | 100 => ⟨S8x512, .f32⟩
  | 101 => ⟨S1x512x1, .f32⟩
  | 102 => ⟨S512, .f32⟩
  | 103 => ⟨S1x512, .f32⟩
  | 104 => ⟨S8x512, .f32⟩
  | 105 => ⟨S8x512, .f32⟩
  | 106 => ⟨S8x512, .f32⟩
  | 107 => ⟨S8x1x512, .f32⟩
  | 108 => ⟨S8x512, .f32⟩
  | 109 => ⟨S1x512x1, .f32⟩
  | 110 => ⟨S512, .f32⟩
  | 111 => ⟨S1x512, .f32⟩
  | 112 => ⟨S8x512, .f32⟩
  | 113 => ⟨S8x512, .f32⟩
  | 114 => ⟨S8x512, .f32⟩
  | 115 => ⟨S8x1x512, .f32⟩
  | 116 => ⟨S8x512, .f32⟩
  | 117 => ⟨S1x512x1, .f32⟩
  | 118 => ⟨S512, .f32⟩
  | 119 => ⟨S1x512, .f32⟩
  | 120 => ⟨S8x512, .f32⟩
  | 121 => ⟨S8x512, .f32⟩
  | 122 => ⟨S8x512, .f32⟩
  | 123 => ⟨S1x512, .f32⟩
  | 124 => ⟨S512, .f32⟩
  | 125 => ⟨S1x512, .f32⟩
  | 126 => ⟨S8x512, .f32⟩
  | 127 => ⟨S8x512, .f32⟩
  | _ => ⟨S8x512, .i32⟩

abbrev hbmTy0_1 (i : Nat) : BufTy := match i % 128 with
  | 0 => ⟨S8x512, .f32⟩
  | 1 => ⟨S8x512, .f32⟩
  | 2 => ⟨S_, .f32⟩
  | 3 => ⟨S8x512, .f32⟩
  | 4 => ⟨S8x512, .f32⟩
  | 5 => ⟨S_, .f32⟩
  | 6 => ⟨S8x512, .f32⟩
  | 7 => ⟨S8x512, .f32⟩
  | 8 => ⟨S8x512, .f32⟩
  | 9 => ⟨S1x256x512, .f32⟩
  | 10 => ⟨S256x512, .f32⟩
  | 11 => ⟨S8x512, .f32⟩
  | 12 => ⟨S8x512, .f32⟩
  | 13 => ⟨S8x512, .f32⟩
  | 14 => ⟨S_, .f32⟩
  | 15 => ⟨S8x512, .f32⟩
  | 16 => ⟨S8x512, .f32⟩
  | 17 => ⟨S_, .f32⟩
  | 18 => ⟨S8x512, .f32⟩
  | 19 => ⟨S8x512, .f32⟩
  | 20 => ⟨S8x512, .f32⟩
  | 21 => ⟨S8x512, .f32⟩
  | 22 => ⟨S1x512x256, .f32⟩
  | 23 => ⟨S512x256, .f32⟩
  | 24 => ⟨S8x256, .f32⟩
  | 25 => ⟨S1x256x512, .f32⟩
  | 26 => ⟨S256x512, .f32⟩
  | 27 => ⟨S8x512, .f32⟩
  | 28 => ⟨S8x2x4x64, .f32⟩
  | 29 => ⟨S1x256x4, .f32⟩
  | 30 => ⟨S256x4, .f32⟩
  | 31 => ⟨S8x4, .f32⟩
  | 32 => ⟨S8x4, .f32⟩
  | 33 => ⟨S8x4, .f32⟩
  | 34 => ⟨S_, .f32⟩
  | 35 => ⟨S8x4, .f32⟩
  | 36 => ⟨S8x4, .f32⟩
  | 37 => ⟨S_, .f32⟩
  | 38 => ⟨S8x4, .f32⟩
  | 39 => ⟨S8x4, .f32⟩
  | 40 => ⟨S1x2x256x4, .f32⟩
  | 41 => ⟨S2x256x4, .f32⟩
  | 42 => ⟨S8x2x4, .f32⟩
  | 43 => ⟨S8x2x4, .f32⟩
  | 44 => ⟨S8x2x4, .f32⟩
  | 45 => ⟨S_, .f32⟩
  | 46 => ⟨S8x2x4, .f32⟩
  | 47 => ⟨S8x2x4, .f32⟩
  | 48 => ⟨S_, .f32⟩
  | 49 => ⟨S8x2x4, .f32⟩
  | 50 => ⟨S8x2x4, .f32⟩
  | 51 => ⟨S1x2x256x4, .f32⟩
  | 52 => ⟨S2x256x4, .f32⟩
  | 53 => ⟨S8x2x4, .f32⟩
  | 54 => ⟨S1x2x4, .f32⟩
  | 55 => ⟨S2x4, .f32⟩
  | 56 => ⟨S1x2x4, .f32⟩
  | 57 => ⟨S8x2x4, .f32⟩
  | 58 => ⟨S8x2x4, .f32⟩
  | 59 => ⟨S1x2x4, .f32⟩
  | 60 => ⟨S2x4, .f32⟩
  | 61 => ⟨S2x4, .f32⟩
  | 62 => ⟨S1x2x4, .f32⟩
  | 63 => ⟨S1x2x4, .f32⟩
  | 64 => ⟨S_, .f32⟩
  | 65 => ⟨S8x2x4, .f32⟩
  | 66 => ⟨S8x2x4, .f32⟩
  | 67 => ⟨S8x2x4, .f32⟩
  | 68 => ⟨S8x2x4, .f32⟩
  | 69 => ⟨S8x2x4, .i1⟩
  | 70 => ⟨S8x2x4, .f32⟩
  | 71 => ⟨S8x2x4, .f32⟩
  | 72 => ⟨S8x2x4, .f32⟩
  | 73 => ⟨S8x2x4, .f32⟩
  | 74 => ⟨S8x2x4, .f32⟩
  | 75 => ⟨S8x2x4, .f32⟩
  | 76 => ⟨S8x2x4, .f32⟩
  | 77 => ⟨S8x2x4, .f32⟩
  | 78 => ⟨S8x2x4, .f32⟩
  | 79 => ⟨S8x2x4, .f32⟩
  | 80 => ⟨S8x2x4, .f32⟩
  | 81 => ⟨S1x256x8, .f32⟩
  | 82 => ⟨S256x8, .f32⟩
  | 83 => ⟨S8x8, .f32⟩
  | 84 => ⟨S8x4x2, .f32⟩
  | 85 => ⟨S_, .f32⟩
  | 86 => ⟨S8x4, .f32⟩
  | 87 => ⟨S_, .f32⟩
  | 88 => ⟨S8x4, .f32⟩
  | 89 => ⟨S8x4, .f32⟩
  | 90 => ⟨S8x4x1, .f32⟩
  | 91 => ⟨S8x4x2, .f32⟩
  | 92 => ⟨S8x4x2, .f32⟩
  | 93 => ⟨S8x4x2, .f32⟩
  | 94 => ⟨S_, .f32⟩
  | 95 => ⟨S8x4, .f32⟩
  | 96 => ⟨S8x4x1, .f32⟩
  | 97 => ⟨S8x4x2, .f32⟩
  | 98 => ⟨S8x4x2, .f32⟩
  | 99 => ⟨S8x4x64, .f32⟩
  | 100 => ⟨S8x4x64, .f32⟩
  | 101 => ⟨S_, .f32⟩
  | 102 => ⟨S8x4, .f32⟩
  | 103 => ⟨S8x4x1, .f32⟩
  | 104 => ⟨S8x4x1, .f32⟩
  | 105 => ⟨S_, .f32⟩
  | 106 => ⟨S8x4x1, .f32⟩
  | 107 => ⟨S8x4x1, .f32⟩
  | 108 => ⟨S8x4x64, .f32⟩
  | 109 => ⟨S8x4x64, .f32⟩
  | 110 => ⟨S8x4x32, .f32⟩
  | 111 => ⟨S8x4x32, .f32⟩
  | 112 => ⟨S8x4x32, .f32⟩
  | 113 => ⟨S8x4x32x1, .f32⟩
  | 114 => ⟨S8x4x32x1, .f32⟩
  | 115 => ⟨S8x4x32x2, .f32⟩
  | 116 => ⟨S8x4x64, .f32⟩
  | 117 => ⟨S8x1x4x64, .f32⟩
  | 118 => ⟨S8x1x4x64, .f32⟩
  | 119 => ⟨S8x2x4x64, .f32⟩
  | 120 => ⟨S8x2x4x1x1, .f32⟩
  | 121 => ⟨S8x2x4x64x64, .f32⟩
  | 122 => ⟨S8x2x4x64x64, .f32⟩
  | 123 => ⟨S8x2x4x64, .f32⟩
  | 124 => ⟨S8x2x4x64, .f32⟩
  | 125 => ⟨S8x2x4x1, .f32⟩
  | 126 => ⟨S8x2x4x64, .f32⟩
  | 127 => ⟨S8x2x4x64, .f32⟩
  | _ => ⟨S8x512, .i32⟩

abbrev hbmTy0_2 (i : Nat) : BufTy := match i % 128 with
  | 0 => ⟨S8x2x4x64x1, .f32⟩
  | 1 => ⟨S8x2x4x1x64, .f32⟩
  | 2 => ⟨S8x2x4x64x64, .f32⟩
  | 3 => ⟨S8x2x4x64x64, .f32⟩
  | 4 => ⟨S8x2x4x64x64, .f32⟩
  | 5 => ⟨S8x2x4x64x64, .f32⟩
  | 6 => ⟨S8x2x4x64, .f32⟩
  | 7 => ⟨S8x4x64, .f32⟩
  | 8 => ⟨S8x4x1, .f32⟩
  | 9 => ⟨S8x4x64, .f32⟩
  | 10 => ⟨S8x4x64, .f32⟩
  | 11 => ⟨S8x256, .f32⟩
  | 12 => ⟨S1x256x256, .f32⟩
  | 13 => ⟨S256x256, .f32⟩
  | 14 => ⟨S8x256, .f32⟩
  | 15 => ⟨S8x256, .f32⟩
  | 16 => ⟨S8x256, .f32⟩
  | 17 => ⟨S8x3x512, .f32⟩
  | 18 => ⟨S1x256, .f32⟩
  | 19 => ⟨S256, .f32⟩
  | 20 => ⟨S8x256, .f32⟩
  | 21 => ⟨S_, .f32⟩
  | 22 => ⟨S8, .f32⟩
  | 23 => ⟨S8x1, .f32⟩
  | 24 => ⟨S_, .f32⟩
  | 25 => ⟨S8x1, .f32⟩
  | 26 => ⟨S8x1, .f32⟩
  | 27 => ⟨S_, .f32⟩
  | 28 => ⟨S8x1, .f32⟩
  | 29 => ⟨S8x1, .f32⟩
  | 30 => ⟨S8x1, .f32⟩
  | 31 => ⟨S8x256, .f32⟩
  | 32 => ⟨S8x256, .f32⟩
  | 33 => ⟨S1x256, .f32⟩
  | 34 => ⟨S8x256, .f32⟩
  | 35 => ⟨S8x256, .f32⟩
  | 36 => ⟨S1x256x512, .f32⟩
  | 37 => ⟨S256x512, .f32⟩
  | 38 => ⟨S8x512, .f32⟩
  | 39 => ⟨S8x1x512, .f32⟩
  | 40 => ⟨S8x4x512, .f32⟩
  | 41 => ⟨S8x1x512, .f32⟩
  | 42 => ⟨S8x512, .f32⟩
  | 43 => ⟨S1x512x1, .f32⟩
  | 44 => ⟨S512, .f32⟩
  | 45 => ⟨S1x512, .f32⟩
  | 46 => ⟨S8x512, .f32⟩
  | 47 => ⟨S8x512, .f32⟩
  | 48 => ⟨S_, .f32⟩
  | 49 => ⟨S8x512, .f32⟩
  | 50 => ⟨S8x512, .f32⟩
  | 51 => ⟨S8x1x512, .f32⟩
  | 52 => ⟨S8x512, .f32⟩
  | 53 => ⟨S1x512x1, .f32⟩
  | 54 => ⟨S512, .f32⟩
  | 55 => ⟨S1x512, .f32⟩
  | 56 => ⟨S8x512, .f32⟩
  | 57 => ⟨S8x512, .f32⟩
  | 58 => ⟨S8x512, .f32⟩
  | 59 => ⟨S8x1x512, .f32⟩
  | 60 => ⟨S8x512, .f32⟩
  | 61 => ⟨S1x512x1, .f32⟩
  | 62 => ⟨S512, .f32⟩
  | 63 => ⟨S1x512, .f32⟩
  | 64 => ⟨S8x512, .f32⟩
  | 65 => ⟨S8x512, .f32⟩
  | 66 => ⟨S8x512, .f32⟩
  | 67 => ⟨S8x1x512, .f32⟩
  | 68 => ⟨S8x512, .f32⟩
  | 69 => ⟨S1x512x1, .f32⟩
  | 70 => ⟨S512, .f32⟩
  | 71 => ⟨S1x512, .f32⟩
  | 72 => ⟨S8x512, .f32⟩
  | 73 => ⟨S8x512, .f32⟩
  | 74 => ⟨S8x512, .f32⟩
  | 75 => ⟨S1x512, .f32⟩
  | 76 => ⟨S512, .f32⟩
  | 77 => ⟨S1x512, .f32⟩
  | 78 => ⟨S8x512, .f32⟩
  | 79 => ⟨S8x512, .f32⟩
  | 80 => ⟨S8x512, .f32⟩
  | 81 => ⟨S8x512, .f32⟩
  | 82 => ⟨S_, .f32⟩
  | 83 => ⟨S8x512, .f32⟩
  | 84 => ⟨S8x512, .f32⟩
  | 85 => ⟨S_, .f32⟩
  | 86 => ⟨S8x512, .f32⟩
  | 87 => ⟨S8x512, .f32⟩
  | 88 => ⟨S8x512, .f32⟩
  | 89 => ⟨S1x256x512, .f32⟩
  | 90 => ⟨S256x512, .f32⟩
  | 91 => ⟨S8x512, .f32⟩
  | 92 => ⟨S8x512, .f32⟩
  | 93 => ⟨S8x512, .f32⟩
  | 94 => ⟨S_, .f32⟩
  | 95 => ⟨S8x512, .f32⟩
  | 96 => ⟨S8x512, .f32⟩
  | 97 => ⟨S_, .f32⟩
  | 98 => ⟨S8x512, .f32⟩
  | 99 => ⟨S8x512, .f32⟩
  | 100 => ⟨S8x512, .f32⟩
  | 101 => ⟨S8x512, .f32⟩
  | 102 => ⟨S1x512x256, .f32⟩
  | 103 => ⟨S512x256, .f32⟩
  | 104 => ⟨S8x256, .f32⟩
  | 105 => ⟨S1x256x512, .f32⟩
  | 106 => ⟨S256x512, .f32⟩
  | 107 => ⟨S8x512, .f32⟩
  | 108 => ⟨S8x2x4x64, .f32⟩
  | 109 => ⟨S1x256x4, .f32⟩
  | 110 => ⟨S256x4, .f32⟩
  | 111 => ⟨S8x4, .f32⟩
  | 112 => ⟨S8x4, .f32⟩
  | 113 => ⟨S8x4, .f32⟩
  | 114 => ⟨S_, .f32⟩
  | 115 => ⟨S8x4, .f32⟩
  | 116 => ⟨S8x4, .f32⟩
  | 117 => ⟨S_, .f32⟩
  | 118 => ⟨S8x4, .f32⟩
  | 119 => ⟨S8x4, .f32⟩
  | 120 => ⟨S1x2x256x4, .f32⟩
  | 121 => ⟨S2x256x4, .f32⟩
  | 122 => ⟨S8x2x4, .f32⟩
  | 123 => ⟨S8x2x4, .f32⟩
  | 124 => ⟨S8x2x4, .f32⟩
  | 125 => ⟨S_, .f32⟩
  | 126 => ⟨S8x2x4, .f32⟩
  | 127 => ⟨S8x2x4, .f32⟩
  | _ => ⟨S8x512, .i32⟩

abbrev hbmTy0_3 (i : Nat) : BufTy := match i % 128 with
  | 0 => ⟨S_, .f32⟩
  | 1 => ⟨S8x2x4, .f32⟩
  | 2 => ⟨S8x2x4, .f32⟩
  | 3 => ⟨S1x2x256x4, .f32⟩
  | 4 => ⟨S2x256x4, .f32⟩
  | 5 => ⟨S8x2x4, .f32⟩
  | 6 => ⟨S1x2x4, .f32⟩
  | 7 => ⟨S2x4, .f32⟩
  | 8 => ⟨S1x2x4, .f32⟩
  | 9 => ⟨S8x2x4, .f32⟩
  | 10 => ⟨S8x2x4, .f32⟩
  | 11 => ⟨S1x2x4, .f32⟩
  | 12 => ⟨S2x4, .f32⟩
  | 13 => ⟨S2x4, .f32⟩
  | 14 => ⟨S1x2x4, .f32⟩
  | 15 => ⟨S1x2x4, .f32⟩
  | 16 => ⟨S_, .f32⟩
  | 17 => ⟨S8x2x4, .f32⟩
  | 18 => ⟨S8x2x4, .f32⟩
  | 19 => ⟨S8x2x4, .f32⟩
  | 20 => ⟨S8x2x4, .f32⟩
  | 21 => ⟨S8x2x4, .i1⟩
  | 22 => ⟨S8x2x4, .f32⟩
  | 23 => ⟨S8x2x4, .f32⟩
  | 24 => ⟨S8x2x4, .f32⟩
  | 25 => ⟨S8x2x4, .f32⟩
  | 26 => ⟨S8x2x4, .f32⟩
  | 27 => ⟨S8x2x4, .f32⟩
  | 28 => ⟨S8x2x4, .f32⟩
  | 29 => ⟨S8x2x4, .f32⟩
  | 30 => ⟨S8x2x4, .f32⟩
  | 31 => ⟨S8x2x4, .f32⟩
  | 32 => ⟨S8x2x4, .f32⟩
  | 33 => ⟨S1x256x8, .f32⟩
  | 34 => ⟨S256x8, .f32⟩
  | 35 => ⟨S8x8, .f32⟩
  | 36 => ⟨S8x4x2, .f32⟩
  | 37 => ⟨S_, .f32⟩
  | 38 => ⟨S8x4, .f32⟩
  | 39 => ⟨S_, .f32⟩
  | 40 => ⟨S8x4, .f32⟩
  | 41 => ⟨S8x4, .f32⟩
  | 42 => ⟨S8x4x1, .f32⟩
  | 43 => ⟨S8x4x2, .f32⟩
  | 44 => ⟨S8x4x2, .f32⟩
  | 45 => ⟨S8x4x2, .f32⟩
  | 46 => ⟨S_, .f32⟩
  | 47 => ⟨S8x4, .f32⟩
  | 48 => ⟨S8x4x1, .f32⟩
  | 49 => ⟨S8x4x2, .f32⟩
  | 50 => ⟨S8x4x2, .f32⟩
  | 51 => ⟨S8x4x64, .f32⟩
  | 52 => ⟨S8x4x64, .f32⟩
  | 53 => ⟨S_, .f32⟩
  | 54 => ⟨S8x4, .f32⟩
  | 55 => ⟨S8x4x1, .f32⟩
  | 56 => ⟨S8x4x1, .f32⟩
  | 57 => ⟨S_, .f32⟩
  | 58 => ⟨S8x4x1, .f32⟩
  | 59 => ⟨S8x4x1, .f32⟩
  | 60 => ⟨S8x4x64, .f32⟩
  | 61 => ⟨S8x4x64, .f32⟩
  | 62 => ⟨S8x4x32, .f32⟩
  | 63 => ⟨S8x4x32, .f32⟩
  | 64 => ⟨S8x4x32, .f32⟩
  | 65 => ⟨S8x4x32x1, .f32⟩
  | 66 => ⟨S8x4x32x1, .f32⟩
  | 67 => ⟨S8x4x32x2, .f32⟩
  | 68 => ⟨S8x4x64, .f32⟩
  | 69 => ⟨S8x1x4x64, .f32⟩
  | 70 => ⟨S8x1x4x64, .f32⟩
  | 71 => ⟨S8x2x4x64, .f32⟩
  | 72 => ⟨S8x2x4x1x1, .f32⟩
  | 73 => ⟨S8x2x4x64x64, .f32⟩
  | 74 => ⟨S8x2x4x64x64, .f32⟩
  | 75 => ⟨S8x2x4x64, .f32⟩
  | 76 => ⟨S8x2x4x64, .f32⟩
  | 77 => ⟨S8x2x4x1, .f32⟩
  | 78 => ⟨S8x2x4x64, .f32⟩
  | 79 => ⟨S8x2x4x64, .f32⟩
  | 80 => ⟨S8x2x4x64x1, .f32⟩
  | 81 => ⟨S8x2x4x1x64, .f32⟩
  | 82 => ⟨S8x2x4x64x64, .f32⟩
  | 83 => ⟨S8x2x4x64x64, .f32⟩
  | 84 => ⟨S8x2x4x64x64, .f32⟩
  | 85 => ⟨S8x2x4x64x64, .f32⟩
  | 86 => ⟨S8x2x4x64, .f32⟩
  | 87 => ⟨S8x4x64, .f32⟩
  | 88 => ⟨S8x4x1, .f32⟩
  | 89 => ⟨S8x4x64, .f32⟩
  | 90 => ⟨S8x4x64, .f32⟩
  | 91 => ⟨S8x256, .f32⟩
  | 92 => ⟨S1x256x256, .f32⟩
  | 93 => ⟨S256x256, .f32⟩
  | 94 => ⟨S8x256, .f32⟩
  | 95 => ⟨S8x256, .f32⟩
  | 96 => ⟨S8x256, .f32⟩
  | 97 => ⟨S8x3x512, .f32⟩
  | 98 => ⟨S8x256, .f32⟩
  | 99 => ⟨S_, .f32⟩
  | 100 => ⟨S8, .f32⟩
  | 101 => ⟨S8x1, .f32⟩
  | 102 => ⟨S_, .f32⟩
  | 103 => ⟨S8x1, .f32⟩
  | 104 => ⟨S8x1, .f32⟩
  | 105 => ⟨S_, .f32⟩
  | 106 => ⟨S8x1, .f32⟩
  | 107 => ⟨S8x1, .f32⟩
  | 108 => ⟨S8x1, .f32⟩
  | 109 => ⟨S8x256, .f32⟩
  | 110 => ⟨S8x256, .f32⟩
  | 111 => ⟨S1x256, .f32⟩
  | 112 => ⟨S8x256, .f32⟩
  | 113 => ⟨S8x256, .f32⟩
  | 114 => ⟨S1x8x256, .f32⟩
  | 115 => ⟨S_, .i32⟩
  | 116 => ⟨S_, .i32⟩
  | 117 => ⟨S512x8x256, .f32⟩
  | 118 => ⟨S_, .i32⟩
  | 119 => ⟨S_, .i32⟩
  | 120 => ⟨S8x512x256, .f32⟩
  | 121 => ⟨S256x272, .f32⟩
  | 122 => ⟨S8x512x272, .f32⟩
  | _ => ⟨S8x512, .i32⟩

abbrev hbmTy (i : Nat) : BufTy := match i / 128 with
  | 0 => hbmTy0_0 i
  | 1 => hbmTy0_1 i
  | 2 => hbmTy0_2 i
  | 3 => hbmTy0_3 i
  | _ => ⟨S8x512, .i32⟩

abbrev bufTy : (tb : Table) → Fin (tcTables nBuf tb) → BufTy
  | .hbm, ⟨i, _⟩ => hbmTy i
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_cst_1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_c_4 : Ref sig .tc := ⟨.hbm, 35, rfl⟩
abbrev main_v12_0 : Ref sig .tc := ⟨.hbm, 36, rfl⟩
abbrev main_v12_1 : Ref sig .tc := ⟨.hbm, 37, rfl⟩
abbrev main_v12_2 : Ref sig .tc := ⟨.hbm, 38, rfl⟩
abbrev main_v12_3 : Ref sig .tc := ⟨.hbm, 39, rfl⟩
abbrev main_v12_4 : Ref sig .tc := ⟨.hbm, 40, rfl⟩
abbrev main_v12_5 : Ref sig .tc := ⟨.hbm, 41, rfl⟩
abbrev main_v12_6 : Ref sig .tc := ⟨.hbm, 42, rfl⟩
abbrev main_v12_7 : Ref sig .tc := ⟨.hbm, 43, rfl⟩
abbrev main_v12_8 : Ref sig .tc := ⟨.hbm, 44, rfl⟩
abbrev main_v12_9 : Ref sig .tc := ⟨.hbm, 45, rfl⟩
abbrev main_v12_10 : Ref sig .tc := ⟨.hbm, 46, rfl⟩
abbrev main_v12_11 : Ref sig .tc := ⟨.hbm, 47, rfl⟩
abbrev main_v12_12 : Ref sig .tc := ⟨.hbm, 48, rfl⟩
abbrev main_v12_13 : Ref sig .tc := ⟨.hbm, 49, rfl⟩
abbrev main_v12_14 : Ref sig .tc := ⟨.hbm, 50, rfl⟩
abbrev main_v12_15 : Ref sig .tc := ⟨.hbm, 51, rfl⟩
abbrev main_v12_16 : Ref sig .tc := ⟨.hbm, 52, rfl⟩
abbrev main_v12_17 : Ref sig .tc := ⟨.hbm, 53, rfl⟩
abbrev main_v12_18 : Ref sig .tc := ⟨.hbm, 54, rfl⟩
abbrev main_v12_19 : Ref sig .tc := ⟨.hbm, 55, rfl⟩
abbrev main_v12_20 : Ref sig .tc := ⟨.hbm, 56, rfl⟩
abbrev main_v12_21 : Ref sig .tc := ⟨.hbm, 57, rfl⟩
abbrev main_v12_22 : Ref sig .tc := ⟨.hbm, 58, rfl⟩
abbrev main_v12_23 : Ref sig .tc := ⟨.hbm, 59, rfl⟩
abbrev main_while0c_c_28 : Ref sig .tc := ⟨.hbm, 60, rfl⟩
abbrev main_while0c_v16 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_v0 : Ref sig .tc := ⟨.hbm, 64, rfl⟩
abbrev main_while0b_v16 : Ref sig .tc := ⟨.hbm, 65, rfl⟩
abbrev main_while0b_v17 : Ref sig .tc := ⟨.hbm, 66, rfl⟩
abbrev main_while0b_v18 : Ref sig .tc := ⟨.hbm, 67, rfl⟩
abbrev main_while0b_v19 : Ref sig .tc := ⟨.hbm, 68, rfl⟩
abbrev main_while0b_cst_28 : Ref sig .tc := ⟨.hbm, 69, rfl⟩
abbrev main_while0b_v20 : Ref sig .tc := ⟨.hbm, 70, rfl⟩
abbrev main_while0b_v21 : Ref sig .tc := ⟨.hbm, 71, rfl⟩
abbrev main_while0b_cst_29 : Ref sig .tc := ⟨.hbm, 72, rfl⟩
abbrev main_while0b_v22 : Ref sig .tc := ⟨.hbm, 73, rfl⟩
abbrev main_while0b_v23 : Ref sig .tc := ⟨.hbm, 74, rfl⟩
abbrev main_while0b_cst_30 : Ref sig .tc := ⟨.hbm, 75, rfl⟩
abbrev main_while0b_v24 : Ref sig .tc := ⟨.hbm, 76, rfl⟩
abbrev main_while0b_v25 : Ref sig .tc := ⟨.hbm, 77, rfl⟩
abbrev main_while0b_v26 : Ref sig .tc := ⟨.hbm, 78, rfl⟩
abbrev main_while0b_v27 : Ref sig .tc := ⟨.hbm, 79, rfl⟩
abbrev main_while0b_v28 : Ref sig .tc := ⟨.hbm, 80, rfl⟩
abbrev main_while0b_v29 : Ref sig .tc := ⟨.hbm, 81, rfl⟩
abbrev main_while0b_v30 : Ref sig .tc := ⟨.hbm, 82, rfl⟩
abbrev main_while0b_v31 : Ref sig .tc := ⟨.hbm, 83, rfl⟩
abbrev main_while0b_v32 : Ref sig .tc := ⟨.hbm, 84, rfl⟩
abbrev main_while0b_v33 : Ref sig .tc := ⟨.hbm, 85, rfl⟩
abbrev main_while0b_v34 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_cst_31 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_v61 : Ref sig .tc := ⟨.hbm, 114, rfl⟩
abbrev main_while0b_v62 : Ref sig .tc := ⟨.hbm, 115, rfl⟩
abbrev main_while0b_v63 : Ref sig .tc := ⟨.hbm, 116, rfl⟩
abbrev main_while0b_v64 : Ref sig .tc := ⟨.hbm, 117, rfl⟩
abbrev main_while0b_v65 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_call1_v0 : Ref sig .tc := ⟨.hbm, 128, rfl⟩
abbrev main_while0b_call1_v1 : Ref sig .tc := ⟨.hbm, 129, rfl⟩
abbrev main_while0b_call1_cst : Ref sig .tc := ⟨.hbm, 130, rfl⟩
abbrev main_while0b_call1_v2 : Ref sig .tc := ⟨.hbm, 131, rfl⟩
abbrev main_while0b_call1_v3 : Ref sig .tc := ⟨.hbm, 132, rfl⟩
abbrev main_while0b_call1_cst_0 : Ref sig .tc := ⟨.hbm, 133, rfl⟩
abbrev main_while0b_call1_v4 : Ref sig .tc := ⟨.hbm, 134, rfl⟩
abbrev main_while0b_call1_v5 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_call2_v0 : Ref sig .tc := ⟨.hbm, 140, rfl⟩
abbrev main_while0b_call2_v1 : Ref sig .tc := ⟨.hbm, 141, rfl⟩
abbrev main_while0b_call2_cst : Ref sig .tc := ⟨.hbm, 142, rfl⟩
abbrev main_while0b_call2_v2 : Ref sig .tc := ⟨.hbm, 143, rfl⟩
abbrev main_while0b_call2_v3 : Ref sig .tc := ⟨.hbm, 144, rfl⟩
abbrev main_while0b_call2_cst_0 : Ref sig .tc := ⟨.hbm, 145, rfl⟩
abbrev main_while0b_call2_v4 : Ref sig .tc := ⟨.hbm, 146, rfl⟩
abbrev main_while0b_call2_v5 : Ref sig .tc := ⟨.hbm, 147, rfl⟩
abbrev main_while0b_v79 : Ref sig .tc := ⟨.hbm, 148, rfl⟩
abbrev main_while0b_v80 : Ref sig .tc := ⟨.hbm, 149, rfl⟩
abbrev main_while0b_v81 : Ref sig .tc := ⟨.hbm, 150, rfl⟩
abbrev main_while0b_v82 : Ref sig .tc := ⟨.hbm, 151, rfl⟩
abbrev main_while0b_v83 : Ref sig .tc := ⟨.hbm, 152, rfl⟩
abbrev main_while0b_v84 : Ref sig .tc := ⟨.hbm, 153, rfl⟩
abbrev main_while0b_v85 : Ref sig .tc := ⟨.hbm, 154, rfl⟩
abbrev main_while0b_v86 : Ref sig .tc := ⟨.hbm, 155, rfl⟩
abbrev main_while0b_v87 : Ref sig .tc := ⟨.hbm, 156, rfl⟩
abbrev main_while0b_v88 : Ref sig .tc := ⟨.hbm, 157, rfl⟩
abbrev main_while0b_v89 : Ref sig .tc := ⟨.hbm, 158, rfl⟩
abbrev main_while0b_v90 : Ref sig .tc := ⟨.hbm, 159, rfl⟩
abbrev main_while0b_v91 : Ref sig .tc := ⟨.hbm, 160, rfl⟩
abbrev main_while0b_v92 : Ref sig .tc := ⟨.hbm, 161, rfl⟩
abbrev main_while0b_cst_32 : Ref sig .tc := ⟨.hbm, 162, rfl⟩
abbrev main_while0b_v93 : Ref sig .tc := ⟨.hbm, 163, rfl⟩
abbrev main_while0b_v94 : Ref sig .tc := ⟨.hbm, 164, rfl⟩
abbrev main_while0b_cst_33 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_v99 : Ref sig .tc := ⟨.hbm, 170, rfl⟩
abbrev main_while0b_v100 : Ref sig .tc := ⟨.hbm, 171, rfl⟩
abbrev main_while0b_v101 : Ref sig .tc := ⟨.hbm, 172, rfl⟩
abbrev main_while0b_cst_34 : Ref sig .tc := ⟨.hbm, 173, rfl⟩
abbrev main_while0b_v102 : Ref sig .tc := ⟨.hbm, 174, rfl⟩
abbrev main_while0b_v103 : Ref sig .tc := ⟨.hbm, 175, rfl⟩
abbrev main_while0b_cst_35 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_v107 : Ref sig .tc := ⟨.hbm, 180, rfl⟩
abbrev main_while0b_v108 : Ref sig .tc := ⟨.hbm, 181, rfl⟩
abbrev main_while0b_v109 : Ref sig .tc := ⟨.hbm, 182, rfl⟩
abbrev main_while0b_v110 : Ref sig .tc := ⟨.hbm, 183, rfl⟩
abbrev main_while0b_v111 : Ref sig .tc := ⟨.hbm, 184, rfl⟩
abbrev main_while0b_v112 : Ref sig .tc := ⟨.hbm, 185, rfl⟩
abbrev main_while0b_v113 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_call3_cst : Ref sig .tc := ⟨.hbm, 192, rfl⟩
abbrev main_while0b_call3_v0 : Ref sig .tc := ⟨.hbm, 193, rfl⟩
abbrev main_while0b_call3_v1 : Ref sig .tc := ⟨.hbm, 194, rfl⟩
abbrev main_while0b_call3_v2 : Ref sig .tc := ⟨.hbm, 195, rfl⟩
abbrev main_while0b_call3_v3 : Ref sig .tc := ⟨.hbm, 196, rfl⟩
abbrev main_while0b_call3_v4 : Ref sig .tc := ⟨.hbm, 197, rfl⟩
abbrev main_while0b_call3_v5 : Ref sig .tc := ⟨.hbm, 198, rfl⟩
abbrev main_while0b_call3_v6 : Ref sig .tc := ⟨.hbm, 199, rfl⟩
abbrev main_while0b_call3_v7 : Ref sig .tc := ⟨.hbm, 200, rfl⟩
abbrev main_while0b_call3_v8 : Ref sig .tc := ⟨.hbm, 201, rfl⟩
abbrev main_while0b_call3_v9 : Ref sig .tc := ⟨.hbm, 202, rfl⟩
abbrev main_while0b_call3_v10 : Ref sig .tc := ⟨.hbm, 203, rfl⟩
abbrev main_while0b_call3_v11 : Ref sig .tc := ⟨.hbm, 204, rfl⟩
abbrev main_while0b_v119 : Ref sig .tc := ⟨.hbm, 205, rfl⟩
abbrev main_while0b_v120 : Ref sig .tc := ⟨.hbm, 206, rfl⟩
abbrev main_while0b_v121 : Ref sig .tc := ⟨.hbm, 207, rfl⟩
abbrev main_while0b_v122 : Ref sig .tc := ⟨.hbm, 208, rfl⟩
abbrev main_while0b_v123 : Ref sig .tc := ⟨.hbm, 209, rfl⟩
abbrev main_while0b_v124 : Ref sig .tc := ⟨.hbm, 210, rfl⟩
abbrev main_while0b_v125 : Ref sig .tc := ⟨.hbm, 211, rfl⟩
abbrev main_while0b_v126 : Ref sig .tc := ⟨.hbm, 212, rfl⟩
abbrev main_while0b_cst_36 : Ref sig .tc := ⟨.hbm, 213, rfl⟩
abbrev main_while0b_v127 : Ref sig .tc := ⟨.hbm, 214, rfl⟩
abbrev main_while0b_cst_37 : Ref sig .tc := ⟨.hbm, 215, rfl⟩
abbrev main_while0b_v128 : Ref sig .tc := ⟨.hbm, 216, rfl⟩
abbrev main_while0b_v129 : Ref sig .tc := ⟨.hbm, 217, rfl⟩
abbrev main_while0b_v130 : Ref sig .tc := ⟨.hbm, 218, rfl⟩
abbrev main_while0b_v131 : Ref sig .tc := ⟨.hbm, 219, rfl⟩
abbrev main_while0b_v132 : Ref sig .tc := ⟨.hbm, 220, rfl⟩
abbrev main_while0b_v133 : Ref sig .tc := ⟨.hbm, 221, rfl⟩
abbrev main_while0b_cst_38 : Ref sig .tc := ⟨.hbm, 222, rfl⟩
abbrev main_while0b_v134 : Ref sig .tc := ⟨.hbm, 223, rfl⟩
abbrev main_while0b_v135 : Ref sig .tc := ⟨.hbm, 224, rfl⟩
abbrev main_while0b_v136 : Ref sig .tc := ⟨.hbm, 225, rfl⟩
abbrev main_while0b_v137 : Ref sig .tc := ⟨.hbm, 226, rfl⟩
abbrev main_while0b_v138 : Ref sig .tc := ⟨.hbm, 227, rfl⟩
abbrev main_while0b_v139 : Ref sig .tc := ⟨.hbm, 228, rfl⟩
abbrev main_while0b_cst_39 : Ref sig .tc := ⟨.hbm, 229, rfl⟩
abbrev main_while0b_v140 : Ref sig .tc := ⟨.hbm, 230, rfl⟩
abbrev main_while0b_v141 : Ref sig .tc := ⟨.hbm, 231, rfl⟩
abbrev main_while0b_v142 : Ref sig .tc := ⟨.hbm, 232, rfl⟩
abbrev main_while0b_cst_40 : Ref sig .tc := ⟨.hbm, 233, rfl⟩
abbrev main_while0b_v143 : Ref sig .tc := ⟨.hbm, 234, rfl⟩
abbrev main_while0b_v144 : Ref sig .tc := ⟨.hbm, 235, rfl⟩
abbrev main_while0b_v145 : Ref sig .tc := ⟨.hbm, 236, rfl⟩
abbrev main_while0b_v146 : Ref sig .tc := ⟨.hbm, 237, rfl⟩
abbrev main_while0b_v147 : Ref sig .tc := ⟨.hbm, 238, rfl⟩
abbrev main_while0b_v148 : Ref sig .tc := ⟨.hbm, 239, rfl⟩
abbrev main_while0b_v149 : Ref sig .tc := ⟨.hbm, 240, rfl⟩
abbrev main_while0b_v150 : Ref sig .tc := ⟨.hbm, 241, rfl⟩
abbrev main_while0b_v151 : Ref sig .tc := ⟨.hbm, 242, rfl⟩
abbrev main_while0b_v152 : Ref sig .tc := ⟨.hbm, 243, rfl⟩
abbrev main_while0b_v153 : Ref sig .tc := ⟨.hbm, 244, rfl⟩
abbrev main_while0b_v154 : Ref sig .tc := ⟨.hbm, 245, rfl⟩
abbrev main_while0b_v155 : Ref sig .tc := ⟨.hbm, 246, rfl⟩
abbrev main_while0b_v156 : Ref sig .tc := ⟨.hbm, 247, rfl⟩
abbrev main_while0b_v157 : Ref sig .tc := ⟨.hbm, 248, rfl⟩
abbrev main_while0b_v158 : Ref sig .tc := ⟨.hbm, 249, rfl⟩
abbrev main_while0b_v159 : Ref sig .tc := ⟨.hbm, 250, rfl⟩
abbrev main_while0b_v160 : Ref sig .tc := ⟨.hbm, 251, rfl⟩
abbrev main_while0b_v161 : Ref sig .tc := ⟨.hbm, 252, rfl⟩
abbrev main_while0b_v162 : Ref sig .tc := ⟨.hbm, 253, rfl⟩
abbrev main_while0b_v163 : Ref sig .tc := ⟨.hbm, 254, rfl⟩
abbrev main_while0b_v164 : Ref sig .tc := ⟨.hbm, 255, rfl⟩
abbrev main_while0b_v165 : Ref sig .tc := ⟨.hbm, 256, rfl⟩
abbrev main_while0b_v166 : Ref sig .tc := ⟨.hbm, 257, rfl⟩
abbrev main_while0b_v167 : Ref sig .tc := ⟨.hbm, 258, rfl⟩
abbrev main_while0b_v168 : Ref sig .tc := ⟨.hbm, 259, rfl⟩
abbrev main_while0b_v169 : Ref sig .tc := ⟨.hbm, 260, rfl⟩
abbrev main_while0b_v170 : Ref sig .tc := ⟨.hbm, 261, rfl⟩
abbrev main_while0b_v171 : Ref sig .tc := ⟨.hbm, 262, rfl⟩
abbrev main_while0b_v172 : Ref sig .tc := ⟨.hbm, 263, rfl⟩
abbrev main_while0b_v173 : Ref sig .tc := ⟨.hbm, 264, rfl⟩
abbrev main_while0b_v174 : Ref sig .tc := ⟨.hbm, 265, rfl⟩
abbrev main_while0b_v175 : Ref sig .tc := ⟨.hbm, 266, rfl⟩
abbrev main_while0b_v176 : Ref sig .tc := ⟨.hbm, 267, rfl⟩
abbrev main_while0b_v177 : Ref sig .tc := ⟨.hbm, 268, rfl⟩
abbrev main_while0b_v178 : Ref sig .tc := ⟨.hbm, 269, rfl⟩
abbrev main_while0b_v179 : Ref sig .tc := ⟨.hbm, 270, rfl⟩
abbrev main_while0b_v180 : Ref sig .tc := ⟨.hbm, 271, rfl⟩
abbrev main_while0b_v181 : Ref sig .tc := ⟨.hbm, 272, rfl⟩
abbrev main_while0b_v182 : Ref sig .tc := ⟨.hbm, 273, rfl⟩
abbrev main_while0b_v183 : Ref sig .tc := ⟨.hbm, 274, rfl⟩
abbrev main_while0b_v184 : Ref sig .tc := ⟨.hbm, 275, rfl⟩
abbrev main_while0b_v185 : Ref sig .tc := ⟨.hbm, 276, rfl⟩
abbrev main_while0b_cst_41 : Ref sig .tc := ⟨.hbm, 277, rfl⟩
abbrev main_while0b_v186 : Ref sig .tc := ⟨.hbm, 278, rfl⟩
abbrev main_while0b_v187 : Ref sig .tc := ⟨.hbm, 279, rfl⟩
abbrev main_while0b_cst_42 : Ref sig .tc := ⟨.hbm, 280, rfl⟩
abbrev main_while0b_v188 : Ref sig .tc := ⟨.hbm, 281, rfl⟩
abbrev main_while0b_v189 : Ref sig .tc := ⟨.hbm, 282, rfl⟩
abbrev main_while0b_cst_43 : Ref sig .tc := ⟨.hbm, 283, rfl⟩
abbrev main_while0b_v190 : Ref sig .tc := ⟨.hbm, 284, rfl⟩
abbrev main_while0b_v191 : Ref sig .tc := ⟨.hbm, 285, rfl⟩
abbrev main_while0b_v192 : Ref sig .tc := ⟨.hbm, 286, rfl⟩
abbrev main_while0b_v193 : Ref sig .tc := ⟨.hbm, 287, rfl⟩
abbrev main_while0b_v194 : Ref sig .tc := ⟨.hbm, 288, rfl⟩
abbrev main_while0b_v195 : Ref sig .tc := ⟨.hbm, 289, rfl⟩
abbrev main_while0b_v196 : Ref sig .tc := ⟨.hbm, 290, rfl⟩
abbrev main_while0b_v197 : Ref sig .tc := ⟨.hbm, 291, rfl⟩
abbrev main_while0b_v198 : Ref sig .tc := ⟨.hbm, 292, rfl⟩
abbrev main_while0b_v199 : Ref sig .tc := ⟨.hbm, 293, rfl⟩
abbrev main_while0b_v200 : Ref sig .tc := ⟨.hbm, 294, rfl⟩
abbrev main_while0b_v201 : Ref sig .tc := ⟨.hbm, 295, rfl⟩
abbrev main_while0b_v202 : Ref sig .tc := ⟨.hbm, 296, rfl⟩
abbrev main_while0b_v203 : Ref sig .tc := ⟨.hbm, 297, rfl⟩
abbrev main_while0b_v204 : Ref sig .tc := ⟨.hbm, 298, rfl⟩
abbrev main_while0b_v205 : Ref sig .tc := ⟨.hbm, 299, rfl⟩
abbrev main_while0b_v206 : Ref sig .tc := ⟨.hbm, 300, rfl⟩
abbrev main_while0b_v207 : Ref sig .tc := ⟨.hbm, 301, rfl⟩
abbrev main_while0b_v208 : Ref sig .tc := ⟨.hbm, 302, rfl⟩
abbrev main_while0b_v209 : Ref sig .tc := ⟨.hbm, 303, rfl⟩
abbrev main_while0b_cst_44 : Ref sig .tc := ⟨.hbm, 304, rfl⟩
abbrev main_while0b_v210 : Ref sig .tc := ⟨.hbm, 305, rfl⟩
abbrev main_while0b_v211 : Ref sig .tc := ⟨.hbm, 306, rfl⟩
abbrev main_while0b_v212 : Ref sig .tc := ⟨.hbm, 307, rfl⟩
abbrev main_while0b_v213 : Ref sig .tc := ⟨.hbm, 308, rfl⟩
abbrev main_while0b_v214 : Ref sig .tc := ⟨.hbm, 309, rfl⟩
abbrev main_while0b_v215 : Ref sig .tc := ⟨.hbm, 310, rfl⟩
abbrev main_while0b_v216 : Ref sig .tc := ⟨.hbm, 311, rfl⟩
abbrev main_while0b_v217 : Ref sig .tc := ⟨.hbm, 312, rfl⟩
abbrev main_while0b_v218 : Ref sig .tc := ⟨.hbm, 313, rfl⟩
abbrev main_while0b_v219 : Ref sig .tc := ⟨.hbm, 314, rfl⟩
abbrev main_while0b_v220 : Ref sig .tc := ⟨.hbm, 315, rfl⟩
abbrev main_while0b_v221 : Ref sig .tc := ⟨.hbm, 316, rfl⟩
abbrev main_while0b_v222 : Ref sig .tc := ⟨.hbm, 317, rfl⟩
abbrev main_while0b_v223 : Ref sig .tc := ⟨.hbm, 318, rfl⟩
abbrev main_while0b_v224 : Ref sig .tc := ⟨.hbm, 319, rfl⟩
abbrev main_while0b_v225 : Ref sig .tc := ⟨.hbm, 320, rfl⟩
abbrev main_while0b_v226 : Ref sig .tc := ⟨.hbm, 321, rfl⟩
abbrev main_while0b_v227 : Ref sig .tc := ⟨.hbm, 322, rfl⟩
abbrev main_while0b_v228 : Ref sig .tc := ⟨.hbm, 323, rfl⟩
abbrev main_while0b_v229 : Ref sig .tc := ⟨.hbm, 324, rfl⟩
abbrev main_while0b_v230 : Ref sig .tc := ⟨.hbm, 325, rfl⟩
abbrev main_while0b_v231 : Ref sig .tc := ⟨.hbm, 326, rfl⟩
abbrev main_while0b_v232 : Ref sig .tc := ⟨.hbm, 327, rfl⟩
abbrev main_while0b_v233 : Ref sig .tc := ⟨.hbm, 328, rfl⟩
abbrev main_while0b_v234 : Ref sig .tc := ⟨.hbm, 329, rfl⟩
abbrev main_while0b_v235 : Ref sig .tc := ⟨.hbm, 330, rfl⟩
abbrev main_while0b_v236 : Ref sig .tc := ⟨.hbm, 331, rfl⟩
abbrev main_while0b_v237 : Ref sig .tc := ⟨.hbm, 332, rfl⟩
abbrev main_while0b_v238 : Ref sig .tc := ⟨.hbm, 333, rfl⟩
abbrev main_while0b_v239 : Ref sig .tc := ⟨.hbm, 334, rfl⟩
abbrev main_while0b_v240 : Ref sig .tc := ⟨.hbm, 335, rfl⟩
abbrev main_while0b_call4_v0 : Ref sig .tc := ⟨.hbm, 336, rfl⟩
abbrev main_while0b_call4_v1 : Ref sig .tc := ⟨.hbm, 337, rfl⟩
abbrev main_while0b_call4_cst : Ref sig .tc := ⟨.hbm, 338, rfl⟩
abbrev main_while0b_call4_v2 : Ref sig .tc := ⟨.hbm, 339, rfl⟩
abbrev main_while0b_call4_v3 : Ref sig .tc := ⟨.hbm, 340, rfl⟩
abbrev main_while0b_call4_cst_0 : Ref sig .tc := ⟨.hbm, 341, rfl⟩
abbrev main_while0b_call4_v4 : Ref sig .tc := ⟨.hbm, 342, rfl⟩
abbrev main_while0b_call4_v5 : Ref sig .tc := ⟨.hbm, 343, rfl⟩
abbrev main_while0b_v241 : Ref sig .tc := ⟨.hbm, 344, rfl⟩
abbrev main_while0b_v242 : Ref sig .tc := ⟨.hbm, 345, rfl⟩
abbrev main_while0b_v243 : Ref sig .tc := ⟨.hbm, 346, rfl⟩
abbrev main_while0b_v244 : Ref sig .tc := ⟨.hbm, 347, rfl⟩
abbrev main_while0b_call5_v0 : Ref sig .tc := ⟨.hbm, 348, rfl⟩
abbrev main_while0b_call5_v1 : Ref sig .tc := ⟨.hbm, 349, rfl⟩
abbrev main_while0b_call5_cst : Ref sig .tc := ⟨.hbm, 350, rfl⟩
abbrev main_while0b_call5_v2 : Ref sig .tc := ⟨.hbm, 351, rfl⟩
abbrev main_while0b_call5_v3 : Ref sig .tc := ⟨.hbm, 352, rfl⟩
abbrev main_while0b_call5_cst_0 : Ref sig .tc := ⟨.hbm, 353, rfl⟩
abbrev main_while0b_call5_v4 : Ref sig .tc := ⟨.hbm, 354, rfl⟩
abbrev main_while0b_call5_v5 : Ref sig .tc := ⟨.hbm, 355, rfl⟩
abbrev main_while0b_v245 : Ref sig .tc := ⟨.hbm, 356, rfl⟩
abbrev main_while0b_v246 : Ref sig .tc := ⟨.hbm, 357, rfl⟩
abbrev main_while0b_v247 : Ref sig .tc := ⟨.hbm, 358, rfl⟩
abbrev main_while0b_v248 : Ref sig .tc := ⟨.hbm, 359, rfl⟩
abbrev main_while0b_v249 : Ref sig .tc := ⟨.hbm, 360, rfl⟩
abbrev main_while0b_v250 : Ref sig .tc := ⟨.hbm, 361, rfl⟩
abbrev main_while0b_v251 : Ref sig .tc := ⟨.hbm, 362, rfl⟩
abbrev main_while0b_v252 : Ref sig .tc := ⟨.hbm, 363, rfl⟩
abbrev main_while0b_v253 : Ref sig .tc := ⟨.hbm, 364, rfl⟩
abbrev main_while0b_v254 : Ref sig .tc := ⟨.hbm, 365, rfl⟩
abbrev main_while0b_v255 : Ref sig .tc := ⟨.hbm, 366, rfl⟩
abbrev main_while0b_v256 : Ref sig .tc := ⟨.hbm, 367, rfl⟩
abbrev main_while0b_v257 : Ref sig .tc := ⟨.hbm, 368, rfl⟩
abbrev main_while0b_v258 : Ref sig .tc := ⟨.hbm, 369, rfl⟩
abbrev main_while0b_cst_45 : Ref sig .tc := ⟨.hbm, 370, rfl⟩
abbrev main_while0b_v259 : Ref sig .tc := ⟨.hbm, 371, rfl⟩
abbrev main_while0b_v260 : Ref sig .tc := ⟨.hbm, 372, rfl⟩
abbrev main_while0b_cst_46 : Ref sig .tc := ⟨.hbm, 373, rfl⟩
abbrev main_while0b_v261 : Ref sig .tc := ⟨.hbm, 374, rfl⟩
abbrev main_while0b_v262 : Ref sig .tc := ⟨.hbm, 375, rfl⟩
abbrev main_while0b_v263 : Ref sig .tc := ⟨.hbm, 376, rfl⟩
abbrev main_while0b_v264 : Ref sig .tc := ⟨.hbm, 377, rfl⟩
abbrev main_while0b_v265 : Ref sig .tc := ⟨.hbm, 378, rfl⟩
abbrev main_while0b_v266 : Ref sig .tc := ⟨.hbm, 379, rfl⟩
abbrev main_while0b_v267 : Ref sig .tc := ⟨.hbm, 380, rfl⟩
abbrev main_while0b_cst_47 : Ref sig .tc := ⟨.hbm, 381, rfl⟩
abbrev main_while0b_v268 : Ref sig .tc := ⟨.hbm, 382, rfl⟩
abbrev main_while0b_v269 : Ref sig .tc := ⟨.hbm, 383, rfl⟩
abbrev main_while0b_cst_48 : Ref sig .tc := ⟨.hbm, 384, rfl⟩
abbrev main_while0b_v270 : Ref sig .tc := ⟨.hbm, 385, rfl⟩
abbrev main_while0b_v271 : Ref sig .tc := ⟨.hbm, 386, rfl⟩
abbrev main_while0b_v272 : Ref sig .tc := ⟨.hbm, 387, rfl⟩
abbrev main_while0b_v273 : Ref sig .tc := ⟨.hbm, 388, rfl⟩
abbrev main_while0b_v274 : Ref sig .tc := ⟨.hbm, 389, rfl⟩
abbrev main_while0b_v275 : Ref sig .tc := ⟨.hbm, 390, rfl⟩
abbrev main_while0b_v276 : Ref sig .tc := ⟨.hbm, 391, rfl⟩
abbrev main_while0b_v277 : Ref sig .tc := ⟨.hbm, 392, rfl⟩
abbrev main_while0b_v278 : Ref sig .tc := ⟨.hbm, 393, rfl⟩
abbrev main_while0b_v279 : Ref sig .tc := ⟨.hbm, 394, rfl⟩
abbrev main_while0b_v280 : Ref sig .tc := ⟨.hbm, 395, rfl⟩
abbrev main_while0b_v281 : Ref sig .tc := ⟨.hbm, 396, rfl⟩
abbrev main_while0b_v282 : Ref sig .tc := ⟨.hbm, 397, rfl⟩
abbrev main_while0b_v283 : Ref sig .tc := ⟨.hbm, 398, rfl⟩
abbrev main_while0b_v284 : Ref sig .tc := ⟨.hbm, 399, rfl⟩
abbrev main_while0b_call6_cst : Ref sig .tc := ⟨.hbm, 400, rfl⟩
abbrev main_while0b_call6_v0 : Ref sig .tc := ⟨.hbm, 401, rfl⟩
abbrev main_while0b_call6_v1 : Ref sig .tc := ⟨.hbm, 402, rfl⟩
abbrev main_while0b_call6_v2 : Ref sig .tc := ⟨.hbm, 403, rfl⟩
abbrev main_while0b_call6_v3 : Ref sig .tc := ⟨.hbm, 404, rfl⟩
abbrev main_while0b_call6_v4 : Ref sig .tc := ⟨.hbm, 405, rfl⟩
abbrev main_while0b_call6_v5 : Ref sig .tc := ⟨.hbm, 406, rfl⟩
abbrev main_while0b_call6_v6 : Ref sig .tc := ⟨.hbm, 407, rfl⟩
abbrev main_while0b_call6_v7 : Ref sig .tc := ⟨.hbm, 408, rfl⟩
abbrev main_while0b_call6_v8 : Ref sig .tc := ⟨.hbm, 409, rfl⟩
abbrev main_while0b_call6_v9 : Ref sig .tc := ⟨.hbm, 410, rfl⟩
abbrev main_while0b_call6_v10 : Ref sig .tc := ⟨.hbm, 411, rfl⟩
abbrev main_while0b_call6_v11 : Ref sig .tc := ⟨.hbm, 412, rfl⟩
abbrev main_while0b_v285 : Ref sig .tc := ⟨.hbm, 413, rfl⟩
abbrev main_while0b_v286 : Ref sig .tc := ⟨.hbm, 414, rfl⟩
abbrev main_while0b_v287 : Ref sig .tc := ⟨.hbm, 415, rfl⟩
abbrev main_while0b_v288 : Ref sig .tc := ⟨.hbm, 416, rfl⟩
abbrev main_while0b_v289 : Ref sig .tc := ⟨.hbm, 417, rfl⟩
abbrev main_while0b_v290 : Ref sig .tc := ⟨.hbm, 418, rfl⟩
abbrev main_while0b_v291 : Ref sig .tc := ⟨.hbm, 419, rfl⟩
abbrev main_while0b_v292 : Ref sig .tc := ⟨.hbm, 420, rfl⟩
abbrev main_while0b_cst_49 : Ref sig .tc := ⟨.hbm, 421, rfl⟩
abbrev main_while0b_v293 : Ref sig .tc := ⟨.hbm, 422, rfl⟩
abbrev main_while0b_cst_50 : Ref sig .tc := ⟨.hbm, 423, rfl⟩
abbrev main_while0b_v294 : Ref sig .tc := ⟨.hbm, 424, rfl⟩
abbrev main_while0b_v295 : Ref sig .tc := ⟨.hbm, 425, rfl⟩
abbrev main_while0b_v296 : Ref sig .tc := ⟨.hbm, 426, rfl⟩
abbrev main_while0b_v297 : Ref sig .tc := ⟨.hbm, 427, rfl⟩
abbrev main_while0b_v298 : Ref sig .tc := ⟨.hbm, 428, rfl⟩
abbrev main_while0b_v299 : Ref sig .tc := ⟨.hbm, 429, rfl⟩
abbrev main_while0b_cst_51 : Ref sig .tc := ⟨.hbm, 430, rfl⟩
abbrev main_while0b_v300 : Ref sig .tc := ⟨.hbm, 431, rfl⟩
abbrev main_while0b_v301 : Ref sig .tc := ⟨.hbm, 432, rfl⟩
abbrev main_while0b_v302 : Ref sig .tc := ⟨.hbm, 433, rfl⟩
abbrev main_while0b_v303 : Ref sig .tc := ⟨.hbm, 434, rfl⟩
abbrev main_while0b_v304 : Ref sig .tc := ⟨.hbm, 435, rfl⟩
abbrev main_while0b_v305 : Ref sig .tc := ⟨.hbm, 436, rfl⟩
abbrev main_while0b_cst_52 : Ref sig .tc := ⟨.hbm, 437, rfl⟩
abbrev main_while0b_v306 : Ref sig .tc := ⟨.hbm, 438, rfl⟩
abbrev main_while0b_v307 : Ref sig .tc := ⟨.hbm, 439, rfl⟩
abbrev main_while0b_v308 : Ref sig .tc := ⟨.hbm, 440, rfl⟩
abbrev main_while0b_cst_53 : Ref sig .tc := ⟨.hbm, 441, rfl⟩
abbrev main_while0b_v309 : Ref sig .tc := ⟨.hbm, 442, rfl⟩
abbrev main_while0b_v310 : Ref sig .tc := ⟨.hbm, 443, rfl⟩
abbrev main_while0b_v311 : Ref sig .tc := ⟨.hbm, 444, rfl⟩
abbrev main_while0b_v312 : Ref sig .tc := ⟨.hbm, 445, rfl⟩
abbrev main_while0b_v313 : Ref sig .tc := ⟨.hbm, 446, rfl⟩
abbrev main_while0b_v314 : Ref sig .tc := ⟨.hbm, 447, rfl⟩
abbrev main_while0b_v315 : Ref sig .tc := ⟨.hbm, 448, rfl⟩
abbrev main_while0b_v316 : Ref sig .tc := ⟨.hbm, 449, rfl⟩
abbrev main_while0b_v317 : Ref sig .tc := ⟨.hbm, 450, rfl⟩
abbrev main_while0b_v318 : Ref sig .tc := ⟨.hbm, 451, rfl⟩
abbrev main_while0b_v319 : Ref sig .tc := ⟨.hbm, 452, rfl⟩
abbrev main_while0b_v320 : Ref sig .tc := ⟨.hbm, 453, rfl⟩
abbrev main_while0b_v321 : Ref sig .tc := ⟨.hbm, 454, rfl⟩
abbrev main_while0b_v322 : Ref sig .tc := ⟨.hbm, 455, rfl⟩
abbrev main_while0b_v323 : Ref sig .tc := ⟨.hbm, 456, rfl⟩
abbrev main_while0b_v324 : Ref sig .tc := ⟨.hbm, 457, rfl⟩
abbrev main_while0b_v325 : Ref sig .tc := ⟨.hbm, 458, rfl⟩
abbrev main_while0b_v326 : Ref sig .tc := ⟨.hbm, 459, rfl⟩
abbrev main_while0b_v327 : Ref sig .tc := ⟨.hbm, 460, rfl⟩
abbrev main_while0b_v328 : Ref sig .tc := ⟨.hbm, 461, rfl⟩
abbrev main_while0b_v329 : Ref sig .tc := ⟨.hbm, 462, rfl⟩
abbrev main_while0b_v330 : Ref sig .tc := ⟨.hbm, 463, rfl⟩
abbrev main_while0b_v331 : Ref sig .tc := ⟨.hbm, 464, rfl⟩
abbrev main_while0b_v332 : Ref sig .tc := ⟨.hbm, 465, rfl⟩
abbrev main_while0b_v333 : Ref sig .tc := ⟨.hbm, 466, rfl⟩
abbrev main_while0b_v334 : Ref sig .tc := ⟨.hbm, 467, rfl⟩
abbrev main_while0b_v335 : Ref sig .tc := ⟨.hbm, 468, rfl⟩
abbrev main_while0b_v336 : Ref sig .tc := ⟨.hbm, 469, rfl⟩
abbrev main_while0b_v337 : Ref sig .tc := ⟨.hbm, 470, rfl⟩
abbrev main_while0b_v338 : Ref sig .tc := ⟨.hbm, 471, rfl⟩
abbrev main_while0b_v339 : Ref sig .tc := ⟨.hbm, 472, rfl⟩
abbrev main_while0b_v340 : Ref sig .tc := ⟨.hbm, 473, rfl⟩
abbrev main_while0b_v341 : Ref sig .tc := ⟨.hbm, 474, rfl⟩
abbrev main_while0b_v342 : Ref sig .tc := ⟨.hbm, 475, rfl⟩
abbrev main_while0b_v343 : Ref sig .tc := ⟨.hbm, 476, rfl⟩
abbrev main_while0b_v344 : Ref sig .tc := ⟨.hbm, 477, rfl⟩
abbrev main_while0b_v345 : Ref sig .tc := ⟨.hbm, 478, rfl⟩
abbrev main_while0b_v346 : Ref sig .tc := ⟨.hbm, 479, rfl⟩
abbrev main_while0b_v347 : Ref sig .tc := ⟨.hbm, 480, rfl⟩
abbrev main_while0b_v348 : Ref sig .tc := ⟨.hbm, 481, rfl⟩
abbrev main_while0b_v349 : Ref sig .tc := ⟨.hbm, 482, rfl⟩
abbrev main_while0b_cst_54 : Ref sig .tc := ⟨.hbm, 483, rfl⟩
abbrev main_while0b_v350 : Ref sig .tc := ⟨.hbm, 484, rfl⟩
abbrev main_while0b_v351 : Ref sig .tc := ⟨.hbm, 485, rfl⟩
abbrev main_while0b_cst_55 : Ref sig .tc := ⟨.hbm, 486, rfl⟩
abbrev main_while0b_v352 : Ref sig .tc := ⟨.hbm, 487, rfl⟩
abbrev main_while0b_v353 : Ref sig .tc := ⟨.hbm, 488, rfl⟩
abbrev main_while0b_cst_56 : Ref sig .tc := ⟨.hbm, 489, rfl⟩
abbrev main_while0b_v354 : Ref sig .tc := ⟨.hbm, 490, rfl⟩
abbrev main_while0b_v355 : Ref sig .tc := ⟨.hbm, 491, rfl⟩
abbrev main_while0b_v356 : Ref sig .tc := ⟨.hbm, 492, rfl⟩
abbrev main_while0b_v357 : Ref sig .tc := ⟨.hbm, 493, rfl⟩
abbrev main_while0b_v358 : Ref sig .tc := ⟨.hbm, 494, rfl⟩
abbrev main_while0b_v359 : Ref sig .tc := ⟨.hbm, 495, rfl⟩
abbrev main_while0b_v360 : Ref sig .tc := ⟨.hbm, 496, rfl⟩
abbrev main_while0b_v361 : Ref sig .tc := ⟨.hbm, 497, rfl⟩
abbrev main_while0b_call7_v0 : Ref sig .tc := ⟨.hbm, 498, rfl⟩
abbrev main_while0b_call7_c : Ref sig .tc := ⟨.hbm, 499, rfl⟩
abbrev main_while0b_call7_c_0 : Ref sig .tc := ⟨.hbm, 500, rfl⟩
abbrev main_while0b_v362 : Ref sig .tc := ⟨.hbm, 501, rfl⟩
abbrev main_while0b_c_57 : Ref sig .tc := ⟨.hbm, 502, rfl⟩
abbrev main_while0b_v363 : Ref sig .tc := ⟨.hbm, 503, rfl⟩
abbrev main_v13 : Ref sig .tc := ⟨.hbm, 504, rfl⟩
abbrev main_v14 : Ref sig .tc := ⟨.hbm, 505, rfl⟩
abbrev main_v15 : Ref sig .tc := ⟨.hbm, 506, rfl⟩

abbrev nD : Nat := 1
abbrev τ : Topo := Topo.v7x

variable {F : FTy → Type} [FloatOps F]

abbrev main_while0_count : Scf.Loop 32 := ⟨0#32, 512#32, 1#32⟩
-- ==== Proof.RunKernelIdeal.lean ====
/-
  The whole-body run of the kernel `KernelIdeal`: the body's triple, by symbolic execution over the skeleton, with the pieces each
  buffer ends with as the witness. The text is the generated run module's, under a larger step budget: the body's two
  counted loops and its 45 parts pass the generated one. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x512x1 .i32) (harg1 : arg1.IsWhole) (arg2 : Memref sig .tc .vmem S272x256 .f32) (harg2 : arg2.IsWhole) (arg3 : Memref sig .tc .vmem S256x272 .f32) (harg3 : arg3.IsWhole) (arg4 : Memref sig .tc .vmem S2x1x256 .f32) (harg4 : arg4.IsWhole) (arg5 : Memref sig .tc .vmem S2x256x512 .f32) (harg5 : arg5.IsWhole) (arg6 : Memref sig .tc .vmem S2x256x512 .f32) (harg6 : arg6.IsWhole) (arg7 : Memref sig .tc .vmem S2x512x256 .f32) (harg7 : arg7.IsWhole) (arg8 : Memref sig .tc .vmem S2x4x1x512 .f32) (harg8 : arg8.IsWhole) (arg9 : Memref sig .tc .vmem S2x1x512 .f32) (harg9 : arg9.IsWhole) (arg10 : Memref sig .tc .vmem S2x256x1024 .f32) (harg10 : arg10.IsWhole) (arg11 : Memref sig .tc .vmem S2x256x4 .f32) (harg11 : arg11.IsWhole) (arg12 : Memref sig .tc .vmem S2x2x256x4 .f32) (harg12 : arg12.IsWhole) (arg13 : Memref sig .tc .vmem S2x2x256x4 .f32) (harg13 : arg13.IsWhole) (arg14 : Memref sig .tc .vmem S2x2x1x4 .f32) (harg14 : arg14.IsWhole) (arg15 : Memref sig .tc .vmem S2x2x1x4 .f32) (harg15 : arg15.IsWhole) (arg16 : Memref sig .tc .vmem S2x2x256x4 .f32) (harg16 : arg16.IsWhole) (arg17 : Memref sig .tc .vmem S2x512x256 .f32) (harg17 : arg17.IsWhole) (arg18 : Memref sig .tc .vmem S1x256 .f32) (harg18 : arg18.IsWhole) (arg19 : Memref sig .tc .vmem S256x1024 .f32) (harg19 : arg19.IsWhole) (arg20 : Memref sig .tc .vmem S1x512x272 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S8x64x64 .f32) (harg28 : arg28.IsWhole)
    (x0 : Vec F S1x512x1 .i32) (x1 : Vec F S272x256 .f32) (x2 : Vec F S256x272 .f32) (x3 : Vec F S2x1x256 .f32) (x4 : Vec F S2x256x512 .f32) (x5 : Vec F S2x256x512 .f32) (x6 : Vec F S2x512x256 .f32) (x7 : Vec F S2x4x1x512 .f32) (x8 : Vec F S2x1x512 .f32) (x9 : Vec F S2x256x1024 .f32) (x10 : Vec F S2x256x4 .f32) (x11 : Vec F S2x2x256x4 .f32) (x12 : Vec F S2x2x256x4 .f32) (x13 : Vec F S2x2x1x4 .f32) (x14 : Vec F S2x2x1x4 .f32) (x15 : Vec F S2x2x256x4 .f32) (x16 : Vec F S2x512x256 .f32) (x17 : Vec F S1x256 .f32) (x18 : Vec F S256x1024 .f32) :
    Σ' (L19 : List (View.Piece (Elt F) S1x512x272 .f32)), { LT5 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f LT5) ∗ (∃ d, owns (c : Thread nD τ) arg27 fullShare d) ∗ (∃ d, owns (c : Thread nD τ) arg28 fullShare d)) -∗ K ⟨⟩))
          ⊢ wp frame (wpE (defs₀ (F := F)) Variants.none c none) E (cc0_fused_hebbian_mamba i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_fused_hebbian_mamba_eq_skeleton]; unfold cc0_fused_hebbian_mamba_skel
    simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]; · iexists _; iexact HS5
    isplitl [HS6]
    · iexists _, _; isplitr; swap; · iexact HS6
      ipureintro; rfl
    iexists _, _; isplitr; swap; · iexact HS7
    ipureintro; rfl

end Cert.KernelIdeal.Gen

end
-- ==== Proof.FrameKernelIdeal.lean ====
/-
  The frame of the kernel `KernelIdeal`: what its output holds at each grid point, the region's proof data, the run of the
  whole program and `frame`. The text is the generated frame module's, set on the run of `RunKernelIdeal`. -/
module

public import proofs.«01_k».proof.Proof.RunKernelIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 19 tile its block (1 store of `S1x512x272`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x512x1 .i32) (harg1 : arg1.IsWhole) (arg2 : Memref sig .tc .vmem S272x256 .f32) (harg2 : arg2.IsWhole) (arg3 : Memref sig .tc .vmem S256x272 .f32) (harg3 : arg3.IsWhole) (arg4 : Memref sig .tc .vmem S2x1x256 .f32) (harg4 : arg4.IsWhole) (arg5 : Memref sig .tc .vmem S2x256x512 .f32) (harg5 : arg5.IsWhole) (arg6 : Memref sig .tc .vmem S2x256x512 .f32) (harg6 : arg6.IsWhole) (arg7 : Memref sig .tc .vmem S2x512x256 .f32) (harg7 : arg7.IsWhole) (arg8 : Memref sig .tc .vmem S2x4x1x512 .f32) (harg8 : arg8.IsWhole) (arg9 : Memref sig .tc .vmem S2x1x512 .f32) (harg9 : arg9.IsWhole) (arg10 : Memref sig .tc .vmem S2x256x1024 .f32) (harg10 : arg10.IsWhole) (arg11 : Memref sig .tc .vmem S2x256x4 .f32) (harg11 : arg11.IsWhole) (arg12 : Memref sig .tc .vmem S2x2x256x4 .f32) (harg12 : arg12.IsWhole) (arg13 : Memref sig .tc .vmem S2x2x256x4 .f32) (harg13 : arg13.IsWhole) (arg14 : Memref sig .tc .vmem S2x2x1x4 .f32) (harg14 : arg14.IsWhole) (arg15 : Memref sig .tc .vmem S2x2x1x4 .f32) (harg15 : arg15.IsWhole) (arg16 : Memref sig .tc .vmem S2x2x256x4 .f32) (harg16 : arg16.IsWhole) (arg17 : Memref sig .tc .vmem S2x512x256 .f32) (harg17 : arg17.IsWhole) (arg18 : Memref sig .tc .vmem S1x256 .f32) (harg18 : arg18.IsWhole) (arg19 : Memref sig .tc .vmem S256x1024 .f32) (harg19 : arg19.IsWhole) (arg20 : Memref sig .tc .vmem S1x512x272 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S8x64x64 .f32) (harg28 : arg28.IsWhole)
    (x0 : Vec F S1x512x1 .i32) (x1 : Vec F S272x256 .f32) (x2 : Vec F S256x272 .f32) (x3 : Vec F S2x1x256 .f32) (x4 : Vec F S2x256x512 .f32) (x5 : Vec F S2x256x512 .f32) (x6 : Vec F S2x512x256 .f32) (x7 : Vec F S2x4x1x512 .f32) (x8 : Vec F S2x1x512 .f32) (x9 : Vec F S2x256x1024 .f32) (x10 : Vec F S2x256x4 .f32) (x11 : Vec F S2x2x256x4 .f32) (x12 : Vec F S2x2x256x4 .f32) (x13 : Vec F S2x2x1x4 .f32) (x14 : Vec F S2x2x1x4 .f32) (x15 : Vec F S2x2x256x4 .f32) (x16 : Vec F S2x512x256 .f32) (x17 : Vec F S1x256 .f32) (x18 : Vec F S256x1024 .f32) (y : S1x512x272.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1 S1x512x272.size (by sl_kernel_rfl) y

/-- What the run leaves in output 19's staging buffer: its pieces read back over junk. -/
def out0_A_19 (c : Dev nD) (i : grid0.Coords) (arg1 : Memref sig .tc .vmem S1x512x1 .i32) (harg1 : arg1.IsWhole) (arg2 : Memref sig .tc .vmem S272x256 .f32) (harg2 : arg2.IsWhole) (arg3 : Memref sig .tc .vmem S256x272 .f32) (harg3 : arg3.IsWhole) (arg4 : Memref sig .tc .vmem S2x1x256 .f32) (harg4 : arg4.IsWhole) (arg5 : Memref sig .tc .vmem S2x256x512 .f32) (harg5 : arg5.IsWhole) (arg6 : Memref sig .tc .vmem S2x256x512 .f32) (harg6 : arg6.IsWhole) (arg7 : Memref sig .tc .vmem S2x512x256 .f32) (harg7 : arg7.IsWhole) (arg8 : Memref sig .tc .vmem S2x4x1x512 .f32) (harg8 : arg8.IsWhole) (arg9 : Memref sig .tc .vmem S2x1x512 .f32) (harg9 : arg9.IsWhole) (arg10 : Memref sig .tc .vmem S2x256x1024 .f32) (harg10 : arg10.IsWhole) (arg11 : Memref sig .tc .vmem S2x256x4 .f32) (harg11 : arg11.IsWhole) (arg12 : Memref sig .tc .vmem S2x2x256x4 .f32) (harg12 : arg12.IsWhole) (arg13 : Memref sig .tc .vmem S2x2x256x4 .f32) (harg13 : arg13.IsWhole) (arg14 : Memref sig .tc .vmem S2x2x1x4 .f32) (harg14 : arg14.IsWhole) (arg15 : Memref sig .tc .vmem S2x2x1x4 .f32) (harg15 : arg15.IsWhole) (arg16 : Memref sig .tc .vmem S2x2x256x4 .f32) (harg16 : arg16.IsWhole) (arg17 : Memref sig .tc .vmem S2x512x256 .f32) (harg17 : arg17.IsWhole) (arg18 : Memref sig .tc .vmem S1x256 .f32) (harg18 : arg18.IsWhole) (arg19 : Memref sig .tc .vmem S256x1024 .f32) (harg19 : arg19.IsWhole) (arg20 : Memref sig .tc .vmem S1x512x272 .f32) (harg20 : arg20.IsWhole) (arg21 : Memref sig .tc .vmem S512x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S512x1024 .f32) (harg26 : arg26.IsWhole) (arg27 : Memref sig .tc .vmem S512x1024 .f32) (harg27 : arg27.IsWhole) (arg28 : Memref sig .tc .vmem S8x64x64 .f32) (harg28 : arg28.IsWhole)
    (x0 : Vec F S1x512x1 .i32) (x1 : Vec F S272x256 .f32) (x2 : Vec F S256x272 .f32) (x3 : Vec F S2x1x256 .f32) (x4 : Vec F S2x256x512 .f32) (x5 : Vec F S2x256x512 .f32) (x6 : Vec F S2x512x256 .f32) (x7 : Vec F S2x4x1x512 .f32) (x8 : Vec F S2x1x512 .f32) (x9 : Vec F S2x256x1024 .f32) (x10 : Vec F S2x256x4 .f32) (x11 : Vec F S2x2x256x4 .f32) (x12 : Vec F S2x2x256x4 .f32) (x13 : Vec F S2x2x1x4 .f32) (x14 : Vec F S2x2x1x4 .f32) (x15 : Vec F S2x2x256x4 .f32) (x16 : Vec F S2x512x256 .f32) (x17 : Vec F S1x256 .f32) (x18 : Vec F S256x1024 .f32) : Vec F S1x512x272 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1)

/-! ## What the outputs hold after each point -/

/-- What the outputs' staging buffers hold after the body at point `t`: the run's contents at
    the point's memrefs and input blocks. -/
def outsAt0 (c : Dev nD) (t : Fin cfg0.N) : Vec F S1x512x272 .f32 :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t)
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  unfold outsAt0
  unfold out0_A_19
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, H16, H17, H18, ⟨%e19, H19⟩, HS0, HS1, HS2, HS3, HS4, ⟨%fT5, HS5⟩, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexists _; unfold owns; iexists _; isplitr
        swap; · iexact HS5
        ipureintro; rfl
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.Chunk.lean ====
/-
  The mathematics of one chunk of the delta rule, over the reals.

  A sequential fast-weight memory `S ↦ e^ℓ S + w ⊗ β (v - (e^ℓ S)ᵀ w)` over 64 steps is what a chunk computes at once:
  with the cumulated decays `cs`, the strictly lower triangular matrix `N`, and the vectors `x` that solve
  `x = rhs + N x` (found by repeated squaring: `N` is nilpotent).
-/
module

public import Mathlib.LinearAlgebra.Matrix.NonsingularInverse
public import Mathlib.Analysis.SpecialFunctions.Log.Basic
public import Mathlib.Algebra.BigOperators.Fin
public import Mathlib.Tactic.NoncommRing
public import Mathlib.Tactic.Linarith

@[expose] public section

set_option maxRecDepth 16384

noncomputable section

namespace Cert.Chunk

open Finset

/-! ## A nilpotent system solved by repeated squaring -/

/-- The product of two square arrays. -/
def mm {n p q : ℕ} (a : Fin n → Fin p → ℝ) (b : Fin p → Fin q → ℝ) : Fin n → Fin q → ℝ :=
  fun i j => ∑ k, a i k * b k j

/-- One doubling step: `x + N x`. -/
def dbl {n q : ℕ} (N : Fin n → Fin n → ℝ) (x : Fin n → Fin q → ℝ) : Fin n → Fin q → ℝ :=
  fun i j => x i j + ∑ k, N i k * x k j

/-- Six doubling steps, the matrix squared between them. -/
def solve6 {n q : ℕ} (N : Fin n → Fin n → ℝ) (x : Fin n → Fin q → ℝ) : Fin n → Fin q → ℝ :=
  let N1 := mm N N
  let N2 := mm N1 N1
  let N3 := mm N2 N2
  let N4 := mm N3 N3
  let N5 := mm N4 N4
  dbl N5 (dbl N4 (dbl N3 (dbl N2 (dbl N1 (dbl N x)))))

/-- A power of a strictly lower triangular matrix vanishes near and above the diagonal. -/
theorem pow_low {n : ℕ} (N : Matrix (Fin n) (Fin n) ℝ) (h : ∀ i j : Fin n, i ≤ j → N i j = 0) (p : ℕ) :
    ∀ i j : Fin n, i.val < j.val + p → (N ^ p) i j = 0 := by
  induction p with
  | zero =>
    intro i j hij
    rw [pow_zero, Matrix.one_apply_ne]
    intro e; subst e; omega
  | succ p ih =>
    intro i j hij
    rw [pow_succ, Matrix.mul_apply]
    refine Finset.sum_eq_zero fun k _ => ?_
    by_cases hk : k ≤ j
    · rw [h k j hk, mul_zero]
    · rw [ih i k (by have : j.val < k.val := Fin.lt_def.mp (not_le.mp hk)
                     omega), zero_mul]

theorem mm_eq {n : ℕ} (a b : Fin n → Fin n → ℝ) : Matrix.of (mm a b) = Matrix.of a * Matrix.of b := by
  ext i j; rw [Matrix.mul_apply]; rfl

theorem dbl_eq {n q : ℕ} (a : Fin n → Fin n → ℝ) (x : Fin n → Fin q → ℝ) :
    Matrix.of (dbl a x) = (1 + Matrix.of a) * Matrix.of x := by
  rw [Matrix.add_mul, Matrix.one_mul]
  ext i j
  rw [Matrix.add_apply, Matrix.mul_apply]; rfl

/-- The product of the doubling factors inverts `1 - M`. -/
theorem solve_mat {q : ℕ} (M : Matrix (Fin 64) (Fin 64) ℝ) (hz : M ^ 64 = 0) (b : Matrix (Fin 64) (Fin q) ℝ) :
    (1 - M) * ((1 + M ^ 32) * ((1 + M ^ 16) * ((1 + M ^ 8) * ((1 + M ^ 4) * ((1 + M ^ 2) * ((1 + M) * b)))))) = b := by
  have : (1 - M) * (1 + M ^ 32) * (1 + M ^ 16) * (1 + M ^ 8) * (1 + M ^ 4) * (1 + M ^ 2) * (1 + M) = 1 - M ^ 64 := by
    noncomm_ring
  calc _ = ((1 - M) * (1 + M ^ 32) * (1 + M ^ 16) * (1 + M ^ 8) * (1 + M ^ 4) * (1 + M ^ 2) * (1 + M)) * b := by
        simp only [Matrix.mul_assoc]
    _ = b := by rw [this, hz, sub_zero, Matrix.one_mul]

/-- The six doubling steps, as a product of matrices. -/
theorem solve6_eq {q : ℕ} (N : Fin 64 → Fin 64 → ℝ) (b : Fin 64 → Fin q → ℝ) :
    Matrix.of (solve6 N b) = (1 + Matrix.of N ^ 32) * ((1 + Matrix.of N ^ 16) * ((1 + Matrix.of N ^ 8)
      * ((1 + Matrix.of N ^ 4) * ((1 + Matrix.of N ^ 2) * ((1 + Matrix.of N) * Matrix.of b))))) := by
  unfold solve6
  simp only [dbl_eq, mm_eq, ← pow_two, ← pow_mul]
  norm_num

/-- The six doubling steps solve `x = rhs + N x` for a strictly lower triangular `N` of 64 rows. -/
theorem solve6_spec {q : ℕ} (N : Fin 64 → Fin 64 → ℝ) (h : ∀ i j : Fin 64, i ≤ j → N i j = 0)
    (r : Fin 64 → Fin q → ℝ) (i : Fin 64) (j : Fin q) :
    solve6 N r i j = r i j + ∑ k, N i k * solve6 N r k j := by
  have hz : Matrix.of N ^ 64 = 0 := by
    ext i j; exact pow_low (Matrix.of N) h 64 i j (by omega)
  have key : (1 - Matrix.of N) * Matrix.of (solve6 N r) = Matrix.of r := by
    rw [solve6_eq]; exact solve_mat _ hz _
  rw [Matrix.sub_mul, Matrix.one_mul, sub_eq_iff_eq_add] at key
  have := congrFun (congrFun key i) j
  rw [Matrix.add_apply, Matrix.mul_apply] at this
  exact this

/-- Such a system has one solution. -/
theorem solve_unique {q : ℕ} (N : Fin 64 → Fin 64 → ℝ) (h : ∀ i j : Fin 64, i ≤ j → N i j = 0)
    (r x y : Fin 64 → Fin q → ℝ) (hx : ∀ i j, x i j = r i j + ∑ k, N i k * x k j)
    (hy : ∀ i j, y i j = r i j + ∑ k, N i k * y k j) : x = y := by
  have : ∀ n : ℕ, ∀ i : Fin 64, i.val = n → ∀ j, x i j = y i j := by
    intro n
    induction n using Nat.strong_induction_on with
    | _ n ih =>
      intro i hi j
      rw [hx, hy]
      congr 1
      refine Finset.sum_congr rfl fun k _ => ?_
      by_cases hk : i ≤ k
      · rw [h i k hk, zero_mul, zero_mul]
      · rw [ih k.val (by have : k.val < i.val := Fin.lt_def.mp (not_le.mp hk)
                         omega) k rfl j]
  funext i j
  exact this i.val i rfl j

/-! ## The sequential memory -/

/-- One head's inputs: write keys, read keys, values, write strengths, log decays, step by step. -/
structure Head where
  w : ℕ → Fin 64 → ℝ
  r : ℕ → Fin 64 → ℝ
  v : ℕ → Fin 64 → ℝ
  b : ℕ → ℝ
  l : ℕ → ℝ

/-- One step of the memory: decay, predict, write the error. -/
def Head.step (H : Head) (t : ℕ) (S : Fin 64 → Fin 64 → ℝ) : Fin 64 → Fin 64 → ℝ :=
  fun d k => S d k * Real.exp (H.l t)
    + H.w t d * ((H.v t k - ∑ e, S e k * Real.exp (H.l t) * H.w t e) * H.b t)

/-- The memory after `t` steps, from the zero memory. -/
def Head.mem (H : Head) : ℕ → Fin 64 → Fin 64 → ℝ
  | 0 => fun _ _ => 0
  | t + 1 => H.step t (H.mem t)

/-- What step `t` reads: the memory after its write, at its read key. -/
def Head.read (H : Head) (t : ℕ) (k : Fin 64) : ℝ := ∑ d, H.mem (t + 1) d k * H.r t d

/-! ## The chunk -/

/-- The log decays cumulated from `o`. -/
def Head.cs (H : Head) (o i : ℕ) : ℝ := ∑ j ∈ range (i + 1), H.l (o + j)

/-- The error that step `o + i` writes. -/
def Head.err (H : Head) (o i : ℕ) (k : Fin 64) : ℝ :=
  (H.v (o + i) k - ∑ e, H.mem (o + i) e k * Real.exp (H.l (o + i)) * H.w (o + i) e) * H.b (o + i)

theorem Head.cs_succ (H : Head) (o i : ℕ) : H.cs o (i + 1) = H.cs o i + H.l (o + (i + 1)) := by
  unfold Head.cs; rw [sum_range_succ _ (i + 1)]

/-- The memory inside a chunk: the decayed start and the decayed writes. -/
theorem Head.mem_chunk (H : Head) (o i : ℕ) (d k : Fin 64) :
    H.mem (o + i + 1) d k = Real.exp (H.cs o i) * H.mem o d k
      + ∑ j ∈ range (i + 1), Real.exp (H.cs o i - H.cs o j) * H.w (o + j) d * H.err o j k := by
  induction i with
  | zero =>
    simp only [Head.mem, Head.step, Head.err, Head.cs, zero_add, add_zero, sum_range_one, sub_self, Real.exp_zero]
    ring
  | succ i ih =>
    have e : H.mem (o + (i + 1) + 1) d k = H.mem (o + (i + 1)) d k * Real.exp (H.l (o + (i + 1)))
        + H.w (o + (i + 1)) d * H.err o (i + 1) k := rfl
    rw [e, show o + (i + 1) = o + i + 1 from rfl, ih, sum_range_succ _ (i + 1), sub_self, Real.exp_zero, one_mul,
      H.cs_succ, Real.exp_add, show o + (i + 1) = o + i + 1 from rfl, add_mul, sum_mul]
    have : ∀ j, Real.exp (H.cs o i + H.l (o + i + 1) - H.cs o j)
        = Real.exp (H.cs o i - H.cs o j) * Real.exp (H.l (o + i + 1)) := fun j => by
      rw [← Real.exp_add]; congr 1; ring
    simp only [this]
    rw [add_assoc]
    congr 1
    · ring
    · congr 1
      refine sum_congr rfl fun j _ => ?_
      ring

/-- The decayed memory that step `o + i` predicts from. -/
theorem Head.mem_decayed (H : Head) (o i : ℕ) (d k : Fin 64) :
    H.mem (o + i) d k * Real.exp (H.l (o + i)) = Real.exp (H.cs o i) * H.mem o d k
      + ∑ j ∈ range i, Real.exp (H.cs o i - H.cs o j) * H.w (o + j) d * H.err o j k := by
  have h1 : H.mem (o + i + 1) d k = H.mem (o + i) d k * Real.exp (H.l (o + i)) + H.w (o + i) d * H.err o i k := rfl
  have h2 := H.mem_chunk o i d k
  rw [sum_range_succ, sub_self, Real.exp_zero, one_mul] at h2
  linarith

/-- The decays only shrink: later cumulated logs are smaller. -/
theorem Head.cs_anti (H : Head) (hl : ∀ t, H.l t ≤ 0) (o : ℕ) {i j : ℕ} (h : j ≤ i) : H.cs o i ≤ H.cs o j := by
  induction i, h using Nat.le_induction with
  | base => exact le_rfl
  | succ i _ ih => rw [H.cs_succ]; linarith [hl (o + (i + 1))]

/-! ### What the chunk computes -/

/-- The strictly lower triangular matrix of a chunk. -/
def nmat (w : Fin 64 → Fin 64 → ℝ) (b cs : Fin 64 → ℝ) : Fin 64 → Fin 64 → ℝ :=
  fun i j => (∑ e, w i e * w j e) * (-b i * Real.exp (min (cs i - cs j) 0) * (if j < i then 1 else 0))

/-- The right-hand side of a chunk's system. -/
def rhs (w v : Fin 64 → Fin 64 → ℝ) (b cs : Fin 64 → ℝ) (S : Fin 64 → Fin 64 → ℝ) : Fin 64 → Fin 64 → ℝ :=
  fun i k => b i * v i k - ∑ e, (w i e * (b i * Real.exp (cs i))) * S e k

/-- The chunk's solved errors. -/
def sol (w v : Fin 64 → Fin 64 → ℝ) (b cs : Fin 64 → ℝ) (S : Fin 64 → Fin 64 → ℝ) : Fin 64 → Fin 64 → ℝ :=
  solve6 (nmat w b cs) (rhs w v b cs S)

/-- The chunk's reads. -/
def reads (w r v : Fin 64 → Fin 64 → ℝ) (b cs : Fin 64 → ℝ) (S : Fin 64 → Fin 64 → ℝ) : Fin 64 → Fin 64 → ℝ :=
  fun i k => (∑ e, (r i e * Real.exp (cs i)) * S e k)
    + ∑ j, ((∑ e, r i e * w j e) * (Real.exp (min (cs i - cs j) 0) * (if j ≤ i then 1 else 0))) * sol w v b cs S j k

/-- The memory after the chunk. -/
def next (w v : Fin 64 → Fin 64 → ℝ) (b cs : Fin 64 → ℝ) (S : Fin 64 → Fin 64 → ℝ) : Fin 64 → Fin 64 → ℝ :=
  fun d k => Real.exp (cs 63) * S d k
    + ∑ j, (w j d * Real.exp (min (cs 63 - cs j) 0)) * sol w v b cs S j k

/-- A sum over the steps below `i`, as a sum over the whole chunk with a mask. -/
theorem sum_mask (f : ℕ → ℝ) (n : ℕ) (hn : n ≤ 64) :
    ∑ j ∈ range n, f j = ∑ j : Fin 64, if j.val < n then f j.val else 0 := by
  rw [Fin.sum_univ_eq_sum_range (fun j => if j < n then f j else 0) 64, ← sum_filter]
  congr 1
  ext j; simp only [mem_range, mem_filter]; omega

section
variable (H : Head) (o : ℕ)

/-- The sequential errors solve the chunk's system. -/
theorem Head.sol_eq (hl : ∀ t, H.l t ≤ 0) :
    sol (fun i => H.w (o + i.val)) (fun i => H.v (o + i.val)) (fun i => H.b (o + i.val)) (fun i => H.cs o i.val) (H.mem o)
      = fun i : Fin 64 => H.err o i := by
  have hN : ∀ i j : Fin 64, i ≤ j → nmat (fun i => H.w (o + i)) (fun i => H.b (o + i)) (fun i => H.cs o i) i j = 0 := by
    intro i j hij
    unfold nmat; rw [if_neg (not_lt.mpr hij), mul_zero, mul_zero]
  refine solve_unique _ hN (rhs _ _ _ _ (H.mem o)) _ _ (fun i j => solve6_spec _ hN _ i j) fun i k => ?_
  unfold Head.err
  have : ∀ e, H.mem (o + i) e k * Real.exp (H.l (o + i)) = _ := fun e => H.mem_decayed o i e k
  simp only [this]
  simp only [add_mul, sum_add_distrib, sum_mul]
  rw [sum_comm (s := univ) (t := range i.val), sum_mask _ i.val (by omega)]
  unfold rhs nmat
  rw [show ∀ a b c d : ℝ, (a - (b + c)) * d = (d * a - b * d) - c * d from fun a b c d => by ring, sub_eq_add_neg _ (_ * _)]
  congr 1
  · rw [sum_mul]; congr 1
    refine sum_congr rfl fun e _ => by ring
  · rw [sum_mul, ← sum_neg_distrib]
    refine sum_congr rfl fun j _ => ?_
    by_cases hj : j < i
    · rw [if_pos (Fin.lt_def.mp hj), if_pos hj, min_eq_left (sub_nonpos.mpr (H.cs_anti hl o (le_of_lt hj)))]
      unfold Head.err
      simp only [sum_mul, mul_one]
      rw [← sum_neg_distrib]
      refine sum_congr rfl fun e _ => by ring
    · rw [if_neg (fun h => hj (Fin.lt_def.mpr h)), if_neg hj]; ring

/-- A chunk's reads are the sequential reads. -/
theorem Head.reads_eq (hl : ∀ t, H.l t ≤ 0) (i k : Fin 64) :
    reads (fun i => H.w (o + i)) (fun i => H.r (o + i)) (fun i => H.v (o + i)) (fun i => H.b (o + i))
      (fun i => H.cs o i) (H.mem o) i k = H.read (o + i) k := by
  unfold reads Head.read
  rw [H.sol_eq o hl]
  simp only [H.mem_chunk o i]
  simp only [add_mul, sum_add_distrib, sum_mul]
  congr 1
  · refine sum_congr rfl fun e _ => by ring
  · rw [sum_comm (s := univ) (t := range (i.val + 1)), sum_mask _ (i.val + 1) (by omega)]
    refine sum_congr rfl fun j _ => ?_
    by_cases hj : j ≤ i
    · rw [if_pos (Nat.lt_succ_of_le hj), min_eq_left (sub_nonpos.mpr (H.cs_anti hl o hj))]
      simp only [if_pos hj]
      refine sum_congr rfl fun e _ => by ring
    · rw [if_neg (fun h => hj (Nat.le_of_lt_succ h))]
      simp only [if_neg hj]
      simp

/-- The memory after a chunk is the sequential memory 64 steps on. -/
theorem Head.next_eq (hl : ∀ t, H.l t ≤ 0) :
    next (fun i => H.w (o + i)) (fun i => H.v (o + i)) (fun i => H.b (o + i))
      (fun i => H.cs o i) (H.mem o) = H.mem (o + 64) := by
  funext d k
  unfold next
  rw [H.sol_eq o hl, show o + 64 = o + 63 + 1 from rfl, H.mem_chunk o 63]
  congr 1
  rw [sum_mask _ 64 le_rfl]
  refine sum_congr rfl fun j _ => ?_
  rw [if_pos j.isLt]
  beta_reduce
  rw [show ((63 : Fin 64) : ℕ) = 63 from rfl, min_eq_left (sub_nonpos.mpr (H.cs_anti hl o (by omega : j.val ≤ 63)))]
  ring

end

end Cert.Chunk

end
-- ==== Proof.Model.lean ====
/-
  The model over the reals: two layers, each a gated causal convolution followed by the delta-rule memory of `Cert.Chunk`,
  for one sequence. Rows are indexed by the natural numbers; a row's value at a time uses only earlier rows.
-/
module

public import proofs.«01_k».proof.Proof.Chunk
public import Mathlib.Data.EReal.Operations
public import Mathlib.Tactic.Positivity
public import Mathlib.Tactic.NormNum
public import Idealize.ShloMosaic.PureOps.Ideal

@[expose] public section

set_option maxRecDepth 16384

noncomputable section

namespace Cert.Model

open Idealize.ShloMosaic

/-- The small number under the root of the normalisation, and the least norm of a key: the decoded words. -/
def eps : ℝ := 8796093 * (2 ^ 43)⁻¹
def tiny : ℝ := 9223372 * (2 ^ 63)⁻¹

/-- One layer's weights. -/
structure Weights where
  nw : Fin 256 → ℝ
  up : Fin 256 → Fin 512 → ℝ
  gate : Fin 256 → Fin 512 → ℝ
  down : Fin 512 → Fin 256 → ℝ
  cw : Fin 512 → Fin 4 → ℝ
  cb : Fin 512 → ℝ
  wv : Fin 256 → Fin 512 → ℝ
  wg : Fin 256 → Fin 4 → ℝ
  wb : Fin 2 → Fin 256 → Fin 4 → ℝ
  wa : Fin 2 → Fin 256 → Fin 4 → ℝ
  al : Fin 2 → Fin 4 → ℝ
  db : Fin 2 → Fin 4 → ℝ
  bl : Fin 256 → Fin 8 → ℝ
  wo : Fin 256 → Fin 256 → ℝ

/-- Position `64 h + e` of a row of four heads. -/
def at4 (h : Fin 4) (e : Fin 64) : Fin 256 := ⟨64 * h.val + e.val, by omega⟩

/-- Position `256 m + 64 h + e` of a row of eight heads. -/
def at8 (m : Fin 2) (h : Fin 4) (e : Fin 64) : Fin 512 := ⟨256 * m.val + 64 * h.val + e.val, by omega⟩

/-- Position `2 h + m` of the blend's row. -/
def at2 (h : Fin 4) (m : Fin 2) : Fin 8 := ⟨2 * h.val + m.val, by omega⟩

def sig (a : ℝ) : ℝ := (1 + Real.exp (-a))⁻¹
def silu (a : ℝ) : ℝ := a * sig a
def softplus (a : ℝ) : ℝ := max a 0 + Real.log (1 + Real.exp (-|a|))

theorem softplus_nonneg (a : ℝ) : 0 ≤ softplus a :=
  add_nonneg (le_max_right _ _) (Real.log_nonneg (by linarith [Real.exp_pos (-|a|)]))

/-- `f` delayed by `n` rows, zero before the start. -/
def lag (f : ℕ → ℝ) (n t : ℕ) : ℝ := if n ≤ t then f (t - n) else 0

/-- A row scaled to unit mean square, times a weight. -/
def rms (x w : Fin 256 → ℝ) (d : Fin 256) : ℝ := x d * (Real.sqrt ((∑ e, x e * x e) / 256 + eps))⁻¹ * w d

variable (W : Weights)

def upRow (x : Fin 256 → ℝ) (c : Fin 512) : ℝ := ∑ d, rms x W.nw d * W.up d c
def gateRow (x : Fin 256 → ℝ) (c : Fin 512) : ℝ := ∑ d, rms x W.nw d * W.gate d c

section Layer
variable (X : ℕ → Fin 256 → ℝ)

/-- The causal convolution at row `t`. -/
def conv (t : ℕ) (c : Fin 512) : ℝ :=
  lag (fun s => upRow W (X s) c) 3 t * W.cw c 0 + lag (fun s => upRow W (X s) c) 2 t * W.cw c 1
    + lag (fun s => upRow W (X s) c) 1 t * W.cw c 2 + upRow W (X t) c * W.cw c 3

/-- What enters the memory at row `t`. -/
def mix (t : ℕ) (d : Fin 256) : ℝ :=
  ∑ c, silu (gateRow W (X t) c) * silu (conv W X t c + W.cb c) * W.down c d

end Layer

/-! The memory's inputs, of one row `u`. -/

def unitKey (u : Fin 256 → ℝ) (h : Fin 4) (e : Fin 64) : ℝ :=
  u (at4 h e) / max (Real.sqrt (∑ f, u (at4 h f) * u (at4 h f))) tiny

/-- Pairs `(a, b)` turned into `(-b, a)`. -/
def rot (f : Fin 64 → ℝ) (e : Fin 64) : ℝ :=
  if h : e.val % 2 = 0 then -f ⟨e.val + 1, by omega⟩ else f ⟨e.val - 1, by omega⟩

def key (u : Fin 256 → ℝ) (m : Fin 2) (h : Fin 4) : Fin 64 → ℝ :=
  if m = 0 then unitKey u h else rot (unitKey u h)

def val (u : Fin 256 → ℝ) (m : Fin 2) (h : Fin 4) (k : Fin 64) : ℝ := ∑ d, u d * W.wv d (at8 m h k)
def beta (u : Fin 256 → ℝ) (m : Fin 2) (h : Fin 4) : ℝ := sig (∑ d, u d * W.wb m d h)
def ld (u : Fin 256 → ℝ) (m : Fin 2) (h : Fin 4) : ℝ :=
  -Real.exp (W.al m h) * softplus (∑ d, u d * W.wa m d h + W.db m h)
def outGate (u : Fin 256 → ℝ) (h : Fin 4) : ℝ := sig (∑ d, u d * W.wg d h)
def blendLogit (u : Fin 256 → ℝ) (h : Fin 4) (m : Fin 2) : ℝ := ∑ d, u d * W.bl d (at2 h m)
def blendMax (u : Fin 256 → ℝ) (h : Fin 4) : ℝ := max (blendLogit W u h 0) (blendLogit W u h 1)
def blend (u : Fin 256 → ℝ) (h : Fin 4) (m : Fin 2) : ℝ :=
  Real.exp (blendLogit W u h m - blendMax W u h)
    / (Real.exp (blendLogit W u h 0 - blendMax W u h) + Real.exp (blendLogit W u h 1 - blendMax W u h))

theorem ld_nonpos (u : Fin 256 → ℝ) (m : Fin 2) (h : Fin 4) : ld W u m h ≤ 0 := by
  unfold ld
  have := mul_nonneg (Real.exp_pos (W.al m h)).le (softplus_nonneg (∑ d, u d * W.wa m d h + W.db m h))
  linarith

/-- The memory of head `(m, h)`, fed by the rows `U`: read at this row's key, written at the one before. -/
def head (U : ℕ → Fin 256 → ℝ) (m : Fin 2) (h : Fin 4) : Chunk.Head where
  w t e := lag (fun s => key (U s) m h e) 1 t
  r t e := key (U t) m h e
  v t k := val W (U t) m h k
  b t := beta W (U t) m h
  l t := ld W (U t) m h

def outRow (U : ℕ → Fin 256 → ℝ) (t : ℕ) (h : Fin 4) (k : Fin 64) : ℝ :=
  (∑ m, blend W (U t) h m * (head W U m h).read t k) * outGate W (U t) h

/-- One layer. -/
def layer (X : ℕ → Fin 256 → ℝ) (t : ℕ) (d : Fin 256) : ℝ :=
  X t d + (mix W X t d + ∑ h, ∑ k, outRow W (mix W X) t h k * W.wo (at4 h k) d)

/-- The logit of vocabulary entry `v` from the last layer's row. -/
def logit (fw : Fin 256 → ℝ) (emb : Fin 272 → Fin 256 → ℝ) (x : Fin 256 → ℝ) (v : Fin 272) : ℝ :=
  ∑ d, rms x fw d * emb v d

/-! ## Coercions to the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

theorem coe_ite (p : Prop) [Decidable p] (a b : ℝ) : ((if p then a else b : ℝ) : EReal) = if p then (a : EReal) else (b : EReal) := by
  split <;> rfl

theorem eps_coe : (Ideal.ofBits .f32 0x358637BD#32 : EReal) = (eps : EReal) := by
  unfold eps; rw [EReal.coe_mul]; simp [Ideal.ofBits, Ideal.ieee]

theorem eps_pos : 0 < eps := by
  unfold eps; positivity

theorem tiny_coe : (Ideal.ofBits .f32 0x2B8CBCCC#32 : EReal) = (tiny : EReal) := by
  unfold tiny; rw [EReal.coe_mul]; simp [Ideal.ofBits, Ideal.ieee]

theorem tiny_pos : 0 < tiny := by
  unfold tiny; positivity

theorem c256_coe : (Ideal.ofBits .f32 0x43800000#32 : EReal) = ((256 : ℝ) : EReal) := by
  have h : (256 : ℝ) = 8388608 * (2 ^ 15)⁻¹ := by norm_num
  rw [h, EReal.coe_mul]; simp [Ideal.ofBits, Ideal.ieee]

theorem div_real (x y : ℝ) (h : y ≠ 0) : Ideal.div (x : EReal) (y : EReal) = ((x / y : ℝ) : EReal) := by
  rw [Ideal.div_coe h, ← EReal.coe_mul]; congr 1; rw [mul_one_div]

theorem rsqrt_real (x : ℝ) (h : 0 < x) : Ideal.rsqrt (x : EReal) = (((Real.sqrt x)⁻¹ : ℝ) : EReal) := by
  rw [Ideal.rsqrt_coe, if_neg (not_lt.2 h.le), if_neg h.ne']

theorem sqrt_real (x : ℝ) (h : 0 ≤ x) : Ideal.sqrt (x : EReal) = ((Real.sqrt x : ℝ) : EReal) := by
  rw [Ideal.sqrt_coe, if_neg (not_lt.2 h)]

theorem log_real (x : ℝ) (h : 0 < x) : Ideal.log (x : EReal) = ((Real.log x : ℝ) : EReal) := by
  rw [Ideal.log_coe, if_neg (not_le.2 h)]

end Cert.Model

end
-- ==== Proof.KRows.lean ====
module

public import proofs.«01_k».proof.Proof.Model
public import proofs.«01_k».proof.Proof.Gen.KernelIdeal.Skeleton
public import Idealize.ShloMosaic.Lib.Pointwise

@[expose] public section

set_option maxRecDepth 16384

noncomputable section

namespace Cert.KernelRows

open Idealize.ShloMosaic Idealize.ShloMosaic.TcCoe Idealize.SL.Sem
open Cert.KernelIdeal Cert.KernelIdeal.Gen Cert.Model

/-- A delayed row as the concatenation of zeros and the earlier rows reads. -/
theorem lag_read (f : ℕ → ℝ) (n t : ℕ) :
    (if h : t < n then (0 : EReal) else ((f (t - n) : ℝ) : EReal)) = ((lag f n t : ℝ) : EReal) := by
  unfold lag
  by_cases h : t < n
  · rw [dif_pos h, if_neg (by omega)]; rfl
  · rw [dif_neg h, if_pos (by omega)]

theorem mean_sq_pos (x : Fin 256 → ℝ) : 0 < (∑ e, x e * x e) / 256 + eps :=
  add_pos_of_nonneg_of_pos (div_nonneg (Finset.sum_nonneg fun e _ => mul_self_nonneg (x e)) (by norm_num)) eps_pos

/-- The scalar form of the normalisation. -/
theorem rms_read (x w : Fin 256 → ℝ) (d : Fin 256) :
    (x d : EReal) * Ideal.rsqrt (Ideal.div (∑ e, (x e : EReal) * (x e : EReal)) (Ideal.ofBits .f32 0x43800000#32)
      + Ideal.ofBits .f32 0x358637BD#32) * (w d : EReal) = ((rms x w d : ℝ) : EReal) := by
  rw [c256_coe, eps_coe]
  simp only [← EReal.coe_mul, ← coe_sum]
  rw [div_real _ _ (by norm_num), ← EReal.coe_add, rsqrt_real _ (mean_sq_pos x), ← EReal.coe_mul, ← EReal.coe_mul]
  rfl

theorem softplus_read (a : ℝ) :
    max (a : EReal) 0 + Ideal.log1p (Ideal.exp (0 - FloatOps.absf (F := Ideal) (φ := .f32) (a : EReal))) = ((softplus a : ℝ) : EReal) := by
  have habs : FloatOps.absf (F := Ideal) (φ := .f32) (a : EReal) = ((|a| : ℝ) : EReal) := by
    show max (a : EReal) (-(a : EReal)) = _
    rw [← EReal.coe_neg, ← coe_max]; rfl
  rw [habs, zero_sub, ← EReal.coe_neg, Ideal.exp_coe]
  unfold Ideal.log1p
  rw [← EReal.coe_one, ← EReal.coe_add, log_real _ (by linarith [Real.exp_pos (-|a|)]), ← EReal.coe_zero, ← coe_max, ← EReal.coe_add]
  rfl

/-- The scalar form of the up projection, the convolution, the gate and the down projection. -/
theorem mix_read (W : Weights) (X : ℕ → Fin 256 → ℝ) (r : Fin 512) (d : Fin 256) :
    (∑ c : Fin 512, (∑ e, ((rms (X r) W.nw e : ℝ) : EReal) * ((W.gate e c : ℝ) : EReal))
        * Ideal.logistic (∑ e, ((rms (X r) W.nw e : ℝ) : EReal) * ((W.gate e c : ℝ) : EReal))
      * (((∑ e, ((rms (X r) W.nw e : ℝ) : EReal) * ((W.up e c : ℝ) : EReal)) * ((W.cw c 3 : ℝ) : EReal)
        + (if h : r.val < 1 then 0 else ∑ e, ((rms (X (r.val - 1)) W.nw e : ℝ) : EReal) * ((W.up e c : ℝ) : EReal)) * ((W.cw c 2 : ℝ) : EReal)
        + (if h : r.val < 2 then 0 else ∑ e, ((rms (X (r.val - 2)) W.nw e : ℝ) : EReal) * ((W.up e c : ℝ) : EReal)) * ((W.cw c 1 : ℝ) : EReal)
        + (if h : r.val < 3 then 0 else ∑ e, ((rms (X (r.val - 3)) W.nw e : ℝ) : EReal) * ((W.up e c : ℝ) : EReal)) * ((W.cw c 0 : ℝ) : EReal)
        + ((W.cb c : ℝ) : EReal))
       * Ideal.logistic ((∑ e, ((rms (X r) W.nw e : ℝ) : EReal) * ((W.up e c : ℝ) : EReal)) * ((W.cw c 3 : ℝ) : EReal)
        + (if h : r.val < 1 then 0 else ∑ e, ((rms (X (r.val - 1)) W.nw e : ℝ) : EReal) * ((W.up e c : ℝ) : EReal)) * ((W.cw c 2 : ℝ) : EReal)
        + (if h : r.val < 2 then 0 else ∑ e, ((rms (X (r.val - 2)) W.nw e : ℝ) : EReal) * ((W.up e c : ℝ) : EReal)) * ((W.cw c 1 : ℝ) : EReal)
        + (if h : r.val < 3 then 0 else ∑ e, ((rms (X (r.val - 3)) W.nw e : ℝ) : EReal) * ((W.up e c : ℝ) : EReal)) * ((W.cw c 0 : ℝ) : EReal)
        + ((W.cb c : ℝ) : EReal)))
      * ((W.down c d : ℝ) : EReal)) = ((mix W X r d : ℝ) : EReal) := by
  have hup : ∀ (t : ℕ) (c : Fin 512), (∑ e, ((rms (X t) W.nw e : ℝ) : EReal) * ((W.up e c : ℝ) : EReal)) = ((upRow W (X t) c : ℝ) : EReal) := by
    intro t c; simp only [← EReal.coe_mul, ← coe_sum]; rfl
  have hga : ∀ (t : ℕ) (c : Fin 512), (∑ e, ((rms (X t) W.nw e : ℝ) : EReal) * ((W.gate e c : ℝ) : EReal)) = ((gateRow W (X t) c : ℝ) : EReal) := by
    intro t c; simp only [← EReal.coe_mul, ← coe_sum]; rfl
  have hl : ∀ (n : ℕ) (c : Fin 512), (if h : r.val < n then (0 : EReal) else ((upRow W (X (r.val - n)) c : ℝ) : EReal))
      = ((lag (fun s => upRow W (X s) c) n r.val : ℝ) : EReal) := fun n c => lag_read (fun s => upRow W (X s) c) n r.val
  simp only [hup, hga, hl]
  simp only [Ideal.logistic_coe, ← EReal.coe_mul, ← EReal.coe_add, ← coe_sum]
  unfold mix
  rw [EReal.coe_eq_coe_iff]
  refine Finset.sum_congr rfl (fun c _ => ?_)
  have e : upRow W (X r) c * W.cw c 3 + lag (fun s => upRow W (X s) c) 1 r * W.cw c 2
      + lag (fun s => upRow W (X s) c) 2 r * W.cw c 1 + lag (fun s => upRow W (X s) c) 3 r * W.cw c 0 = conv W X r c := by
    unfold conv; ring
  rw [e]; rfl

section Rows

variable (x : FVec Ideal S512x256 .f32) (X : ℕ → Fin 256 → ℝ)
  (hx : ∀ (r : Fin 512) (d : Fin 256), x (ix2 r d) = ((X r d : ℝ) : EReal))

include hx in
theorem nx_val (nw : Vec Ideal S1x1x256 .f32) (w : Fin 256 → ℝ)
    (hw : ∀ d : Fin 256, nw (ix3 0 0 d) = ((w d : ℝ) : EReal)) (r : Fin 512) (d : Fin 256) :
    k0_pay345 x (k0_pay343 nw) (k0_pay344 x) (Ideal.ofBits .f32 0x43800000#32) (ix2 r d) = ((rms (X r) w d : ℝ) : EReal) := by
  pointwise [k0_pay345, k0_pay343, k0_pay344, hx, hw]
  exact rms_read _ _ _

variable (W : Weights) (nw : Vec Ideal S1x1x256 .f32) (wu wg : Vec Ideal S1x256x512 .f32) (c3 c2 c1 c0 : Vec Ideal S1x1x1x512 .f32)
  (cb : Vec Ideal S1x1x512 .f32) (wd : Vec Ideal S1x512x256 .f32)
  (hnw : ∀ d : Fin 256, nw (ix3 0 0 d) = ((W.nw d : ℝ) : EReal))
  (hwu : ∀ (d : Fin 256) (c : Fin 512), wu (ix3 0 d c) = ((W.up d c : ℝ) : EReal))
  (hwg : ∀ (d : Fin 256) (c : Fin 512), wg (ix3 0 d c) = ((W.gate d c : ℝ) : EReal))
  (hc3 : ∀ c : Fin 512, c3 (ix4 0 0 0 c) = ((W.cw c 3 : ℝ) : EReal))
  (hc2 : ∀ c : Fin 512, c2 (ix4 0 0 0 c) = ((W.cw c 2 : ℝ) : EReal))
  (hc1 : ∀ c : Fin 512, c1 (ix4 0 0 0 c) = ((W.cw c 1 : ℝ) : EReal))
  (hc0 : ∀ c : Fin 512, c0 (ix4 0 0 0 c) = ((W.cw c 0 : ℝ) : EReal))
  (hcb : ∀ c : Fin 512, cb (ix3 0 0 c) = ((W.cb c : ℝ) : EReal))
  (hwd : ∀ (c : Fin 512) (d : Fin 256), wd (ix3 0 c d) = ((W.down c d : ℝ) : EReal))

/-- The row entering the memory, as the kernel computes it. -/
def rowU : FVec Ideal S512x256 .f32 :=
  k0_pay349 (k0_pay345 x (k0_pay343 nw) (k0_pay344 x) (Scalar.ofBits .f32 0x43800000#32))
    (k0_pay347 x (k0_pay343 nw) (k0_pay344 x) (Scalar.ofBits .f32 0x43800000#32) wu c3 c2 c1)
    (k0_pay348 x (k0_pay343 nw) (k0_pay344 x) (Scalar.ofBits .f32 0x43800000#32) wu) c0 cb wg wd

include hx hnw hwu hwg hc3 hc2 hc1 hc0 hcb hwd in
theorem rowU_val (r : Fin 512) (d : Fin 256) :
    rowU x nw wu wg c3 c2 c1 c0 cb wd (ix2 r d) = ((mix W X r d : ℝ) : EReal) := by
  have hn := nx_val x X hx nw W.nw hnw
  unfold rowU
  pointwise [k0_pay349, k0_pay347, k0_pay348, k0_pay346, hn, hwu, hwg, hc3, hc2, hc1, hc0, hcb, hwd]
  exact mix_read W X r d

end Rows

section Memory

variable (u : FVec Ideal S512x256 .f32) (U : ℕ → Fin 256 → ℝ) (W : Weights)
  (hu : ∀ (r : Fin 512) (d : Fin 256), u (ix2 r d) = ((U r d : ℝ) : EReal))

include hu in
theorem proj_val (w : Vec Ideal S1x1x256x4 .f32) (m : Fin 256 → Fin 4 → ℝ)
    (hw : ∀ (d : Fin 256) (h : Fin 4), w (ix4 0 0 d h) = ((m d h : ℝ) : EReal)) (r : Fin 512) (h : Fin 4) :
    k0_pay364 u w (ix2 r h) = ((∑ d, U r d * m d h : ℝ) : EReal) := by
  pointwise [k0_pay364, hu, hw]
  simp only [← EReal.coe_mul, ← coe_sum]

include hu in
theorem beta_val (w : Vec Ideal S1x1x256x4 .f32) (m : Fin 2)
    (hw : ∀ (d : Fin 256) (h : Fin 4), w (ix4 0 0 d h) = ((W.wb m d h : ℝ) : EReal)) (r : Fin 512) (h : Fin 4) :
    k0_pay356 u w (ix2 r h) = ((beta W (U r) m h : ℝ) : EReal) := by
  pointwise [k0_pay356, hu, hw]
  simp only [← EReal.coe_mul, ← coe_sum, Ideal.logistic_coe]
  rfl

/-- The logarithm of the decay, as the kernel computes it. -/
def rowLd (w : Vec Ideal S1x1x256x4 .f32) (b a : Vec Ideal S1x1x1x4 .f32) : FVec Ideal S512x4 .f32 :=
  k0_pay363 (k0_pay357 u w b) (k0_pay358 a) (k0_pay359 u w b) (k0_pay360 u w b) (k0_pay361 u w b) k0_pay362

include hu in
theorem rowLd_val (w : Vec Ideal S1x1x256x4 .f32) (b a : Vec Ideal S1x1x1x4 .f32) (m : Fin 2)
    (hw : ∀ (d : Fin 256) (h : Fin 4), w (ix4 0 0 d h) = ((W.wa m d h : ℝ) : EReal))
    (hb : ∀ h : Fin 4, b (ix4 0 0 0 h) = ((W.db m h : ℝ) : EReal))
    (ha : ∀ h : Fin 4, a (ix4 0 0 0 h) = ((W.al m h : ℝ) : EReal)) (r : Fin 512) (h : Fin 4) :
    rowLd u w b a (ix2 r h) = ((ld W (U r) m h : ℝ) : EReal) := by
  unfold rowLd
  pointwise [k0_pay363, k0_pay357, k0_pay358, k0_pay359, k0_pay360, k0_pay361, k0_pay362, hu, hw, hb, ha]
  simp only [ne_eq, not_true_eq_false, if_false, ← EReal.coe_mul, ← coe_sum, ← EReal.coe_add, softplus_read, Ideal.exp_coe]
  rw [zero_sub, ← EReal.coe_neg, ← EReal.coe_mul]
  rfl

end Memory

end Cert.KernelRows

end
-- ==== Proof.Masks.lean ====
/-
  The kernel's mask arrays at an index: the expanders of heads to lanes, the triangles, the identity.
-/
module

public import proofs.«01_k».proof.Proof.Model
public import proofs.«01_k».proof.Proof.Gen.KernelIdeal.Skeleton
public import Idealize.ShloMosaic.Lib.Pointwise

@[expose] public section

set_option maxRecDepth 16384

noncomputable section

namespace Cert.KernelRows

open Idealize.ShloMosaic Idealize.ShloMosaic.TcCoe Idealize.SL.Sem
open Cert.KernelIdeal Cert.KernelIdeal.Gen Cert.Model

/-- A select of one and zero whose condition word decides `p`. -/
theorem sel_if (c : BitVec 1) (p : Prop) [Decidable p] (h : c = BitVec.ofBool (decide p)) :
    Scalar.select c (1 : EReal) 0 = if p then 1 else 0 := by
  subst h; by_cases hp : p
  · simp [hp, Scalar.select]
  · simp [hp, Scalar.select]

/-- The floor quotient by a positive word, as the program spells it. -/
def fdiv (x y : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt y 0#32)) (Scalar.extui (Scalar.cmpi CmpIPredicate.slt y 0#32))))
      (IntOp.cmpi CmpIPredicate.ne (IntOp.remsi ArithUnit.vector x y) 0#32))
    (IntOp.subi (IntOp.divsi ArithUnit.vector x y) 1#32)
    (IntOp.divsi ArithUnit.vector x y)

theorem fdiv64 : ∀ i : Fin 512, fdiv (BitVec.ofNat 32 i.val) 64#32 = BitVec.ofNat 32 (i.val / 64) := by decide +kernel
theorem fdiv128 : ∀ i : Fin 1024, fdiv (BitVec.ofNat 32 i.val) 128#32 = BitVec.ofNat 32 (i.val / 128) := by decide +kernel

/-- The remainder by a positive word, as the program spells it. -/
def fmod (x y : BitVec 32) : BitVec 32 :=
  Scalar.select
    (IntOp.andi
      (IntOp.xori
        (IntOp.cmpi CmpIPredicate.slt (IntOp.remsi ArithUnit.vector x (Scalar.select (Scalar.cmpi CmpIPredicate.eq y 0#32) 1#32 y)) 0#32)
        (Scalar.cmpi CmpIPredicate.slt (Scalar.select (Scalar.cmpi CmpIPredicate.eq y 0#32) 1#32 y) 0#32))
      (IntOp.cmpi CmpIPredicate.ne (IntOp.remsi ArithUnit.vector x (Scalar.select (Scalar.cmpi CmpIPredicate.eq y 0#32) 1#32 y)) 0#32))
    (IntOp.addi (IntOp.remsi ArithUnit.vector x (Scalar.select (Scalar.cmpi CmpIPredicate.eq y 0#32) 1#32 y))
      (Scalar.select (Scalar.cmpi CmpIPredicate.eq y 0#32) 1#32 y))
    (IntOp.remsi ArithUnit.vector x (Scalar.select (Scalar.cmpi CmpIPredicate.eq y 0#32) 1#32 y))

theorem fmod128 : ∀ i : Fin 1024, IntOp.cmpi CmpIPredicate.slt (fmod (BitVec.ofNat 32 i.val) 128#32) 64#32 = BitVec.ofBool (decide (i.val % 128 < 64)) := by decide +kernel

theorem eq_word (a b : ℕ) (ha : a < 2 ^ 32) (hb : b < 2 ^ 32) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  rw [Bool.beq_eq_decide_eq]
  congr 1
  rw [eq_iff_iff, ← BitVec.toNat_inj, BitVec.toNat_ofNat, BitVec.toNat_ofNat, Nat.mod_eq_of_lt ha, Nat.mod_eq_of_lt hb]

theorem and_word (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ge_word : ∀ a b : Fin 512, IntOp.cmpi CmpIPredicate.sge (BitVec.ofNat 32 a.val) (BitVec.ofNat 32 b.val) = BitVec.ofBool (decide (b.val ≤ a.val)) := by
  intro a b
  show BitVec.ofBool (BitVec.sle (BitVec.ofNat 32 b.val) (BitVec.ofNat 32 a.val)) = _
  congr 1
  rw [BitVec.sle_eq_decide]
  congr 1
  have e : ∀ c : Fin 512, (BitVec.ofNat 32 c.val).toInt = c.val := by decide +kernel
  rw [e, e]; simp

theorem gt_word (a b : Fin 512) : IntOp.cmpi CmpIPredicate.sgt (BitVec.ofNat 32 a.val) (BitVec.ofNat 32 b.val) = BitVec.ofBool (decide (b.val < a.val)) := by
  show BitVec.ofBool (BitVec.slt (BitVec.ofNat 32 b.val) (BitVec.ofNat 32 a.val)) = _
  congr 1
  rw [BitVec.slt_eq_decide]
  congr 1
  have e : ∀ c : Fin 512, (BitVec.ofNat 32 c.val).toInt = c.val := by decide +kernel
  rw [e, e]; simp

theorem E4_val (h : Fin 4) (d : Fin 256) : (k0_pay329 : FVec Ideal S4x256 .f32) (ix2 h d) = if d.val / 64 = h.val then 1 else 0 := by
  pointwise [k0_pay329]
  refine sel_if _ _ (Eq.trans ?_ (eq_word (d.val / 64) h.val (by omega) (by omega)))
  exact congrArg (fun z => IntOp.cmpi CmpIPredicate.eq z (BitVec.ofNat 32 h.val)) (fdiv64 ⟨d.val, by omega⟩)

def e8 : FVec Ideal S8x1024 .f32 := k0_pay331 (k0_pay330 (iota .tc S8x1024 32 [0] iota_S8x1024_d0_w32) (iota .tc S8x1024 32 [1] iota_S8x1024_d1_w32)) (Scalar.ofBits .f32 0x3F800000#32) (Scalar.ofBits .f32 0x00000000#32)

theorem e8_val (h : Fin 8) (d : Fin 1024) : e8 (ix2 h d) = if d.val / 128 = h.val ∧ d.val % 128 < 64 then 1 else 0 := by
  pointwise [e8, k0_pay331, k0_pay330]
  refine sel_if _ _ (Eq.trans ?_ (and_word _ _))
  rw [← fmod128 d, ← eq_word (d.val / 128) h.val (by omega) (by omega), ← fdiv128 d]
  rfl

def e4p : FVec Ideal S4x512 .f32 := k0_pay334 k0_pay332 k0_pay333 64#32

theorem e4p_val (h : Fin 4) (d : Fin 512) : e4p (ix2 h d) = if d.val / 128 = h.val ∧ d.val % 128 < 64 then 1 else 0 := by
  pointwise [e4p, k0_pay334, k0_pay332, k0_pay333]
  refine sel_if _ _ (Eq.trans ?_ (and_word _ _))
  rw [← fmod128 ⟨d.val, by omega⟩, ← eq_word (d.val / 128) h.val (by omega) (by omega), ← fdiv128 ⟨d.val, by omega⟩]
  rfl

def ctri : FVec Ideal S512x512 .f32 :=
  k0_pay341 (iota .tc S512x512 32 [0] iota_S512x512_d0_w32) (iota .tc S512x512 32 [1] iota_S512x512_d1_w32) k0_pay339 k0_pay340 1#32

theorem ctri_val (r s : Fin 512) : ctri (ix2 r s) = if r.val / 64 = s.val / 64 ∧ s.val ≤ r.val then 1 else 0 := by
  pointwise [ctri, k0_pay341, k0_pay339, k0_pay340]
  refine sel_if _ _ (Eq.trans ?_ (and_word _ _))
  rw [← ge_word r s, ← eq_word (r.val / 64) (s.val / 64) (by omega) (by omega), ← fdiv64 r, ← fdiv64 s]
  rfl

theorem trilS_val (i j : Fin 64) : (k0_pay335 : FVec Ideal S64x64 .f32) (ix2 i j) = if j.val < i.val then 1 else 0 := by
  pointwise [k0_pay335]
  exact sel_if _ _ (gt_word ⟨i.val, by omega⟩ ⟨j.val, by omega⟩)

theorem trilI_val (i j : Fin 64) : (k0_pay336 : FVec Ideal S64x64 .f32) (ix2 i j) = if j.val ≤ i.val then 1 else 0 := by
  pointwise [k0_pay336]
  exact sel_if _ _ (ge_word ⟨i.val, by omega⟩ ⟨j.val, by omega⟩)

theorem I64_val (i j : Fin 64) : (k0_pay337 : FVec Ideal S64x64 .f32) (ix2 i j) = if i.val = j.val then 1 else 0 := by
  pointwise [k0_pay337]
  exact sel_if _ _ (eq_word _ _ (by omega) (by omega))

theorem ones_val (j : Fin 64) : (k0_pay338 : FVec Ideal S1x64 .f32) (ix2 0 j) = 1 := by
  pointwise [k0_pay338]

end Cert.KernelRows
end
-- ==== Proof.KMem.lean ====
/-
  What the kernel puts before its memory loop, row by row: values, keys, write strengths, cumulated decays and blends,
  each head in 64 of its 128 lanes.
-/
module

public import proofs.«01_k».proof.Proof.KRows
public import proofs.«01_k».proof.Proof.Masks

@[expose] public section

set_option maxRecDepth 16384

noncomputable section

namespace Cert.KernelRows

open Idealize.ShloMosaic Idealize.ShloMosaic.TcCoe Idealize.SL.Sem
open Cert.KernelIdeal Cert.KernelIdeal.Gen Cert.Model

/-! ## Heads and lanes -/

/-- The memory and the head of the pair number `n`. -/
def mOf (n : Fin 8) : Fin 2 := ⟨n.val / 4, by omega⟩
def hOf (n : Fin 8) : Fin 4 := ⟨n.val % 4, by omega⟩

/-- Lane `j` of pair `n`, among those in use. -/
def lane (n : Fin 8) (j : Fin 64) : Fin 1024 := ⟨128 * n.val + j.val, by omega⟩

/-- Lane `j` of head `h`, of four. -/
def lane4 (h : Fin 4) (j : Fin 128) : Fin 512 := ⟨128 * h.val + j.val, by omega⟩

theorem sum_at4 {M : Type} [AddCommMonoid M] (g : Fin 256 → M) : ∑ d, g d = ∑ h : Fin 4, ∑ e : Fin 64, g (at4 h e) := by
  rw [← Fintype.sum_prod_type', ← (finProdFinEquiv (m := 4) (n := 64)).sum_comp]
  refine Finset.sum_congr rfl fun p _ => congrArg g (Fin.ext ?_)
  show p.2.val + 64 * p.1.val = 64 * p.1.val + p.2.val
  omega

theorem sum_lane4 {M : Type} [AddCommMonoid M] (g : Fin 512 → M) : ∑ d, g d = ∑ h : Fin 4, ∑ e : Fin 128, g (lane4 h e) := by
  rw [← Fintype.sum_prod_type', ← (finProdFinEquiv (m := 4) (n := 128)).sum_comp]
  refine Finset.sum_congr rfl fun p _ => congrArg g (Fin.ext ?_)
  show p.2.val + 128 * p.1.val = 128 * p.1.val + p.2.val
  omega

/-- A sum against a mask that holds at one place. -/
theorem sum_pick {n : ℕ} (f : Fin n → EReal) (p : Fin n → Prop) [DecidablePred p] (i : Fin n) (h : ∀ k, p k ↔ k = i) :
    ∑ k, f k * (if p k then 1 else 0) = f i := by
  rw [Finset.sum_eq_single i (fun k _ hk => by rw [if_neg (fun e => hk ((h k).1 e)), mul_zero]) (fun e => absurd (Finset.mem_univ i) e),
    if_pos ((h i).2 rfl), mul_one]

/-- A sum against a mask that holds nowhere. -/
theorem sum_none {n : ℕ} (f : Fin n → EReal) (p : Fin n → Prop) [DecidablePred p] (h : ∀ k, ¬ p k) :
    ∑ k, f k * (if p k then 1 else 0) = 0 :=
  Finset.sum_eq_zero fun k _ => by rw [if_neg (h k), mul_zero]

/-- An expanded row at a lane in use. -/
theorem expand8 (f : Fin 8 → EReal) (n : Fin 8) (j : Fin 64) : ∑ p, f p * e8 (ix2 p (lane n j)) = f n := by
  simp only [e8_val]
  refine sum_pick f _ n fun k => ?_
  simp only [lane, Fin.ext_iff]; omega

/-- The source and the sign of a turned key's entry. -/
def src (m : Fin 2) (j : Fin 64) : Fin 64 :=
  if m = 0 then j else if h : j.val % 2 = 0 then ⟨j.val + 1, by omega⟩ else ⟨j.val - 1, by omega⟩
def sgn (m : Fin 2) (j : Fin 64) : ℝ := if m = 1 ∧ j.val % 2 = 0 then -1 else 1

theorem key_src (u : Fin 256 → ℝ) (m : Fin 2) (h : Fin 4) (j : Fin 64) : key u m h j = unitKey u h (src m j) * sgn m j := by
  unfold key src sgn rot
  fin_cases m
  · simp
  · by_cases hj : j.val % 2 = 0 <;> simp [hj]

section Memory

variable (u : FVec Ideal S512x256 .f32) (U : ℕ → Fin 256 → ℝ) (W : Weights)
  (hu : ∀ (r : Fin 512) (d : Fin 256), u (ix2 r d) = ((U r d : ℝ) : EReal))

section Keys

variable (a : FVec Ideal S512x256 .f32) (b c : FVec Ideal S512x512 .f32) (c0 : Vec Ideal S1x1x1x512 .f32) (cb : Vec Ideal S1x1x512 .f32)
  (wg : Vec Ideal S1x256x512 .f32) (wd : Vec Ideal S1x512x256 .f32)
  (hv : ∀ (r : Fin 512) (d : Fin 256), k0_pay349 a b c c0 cb wg wd (ix2 r d) = ((U r d : ℝ) : EReal))

include hv in
theorem vals_val (wv : Vec Ideal S1x256x1024 .f32)
    (hw : ∀ (d : Fin 256) (n : Fin 8) (j : Fin 64), wv (ix3 0 d (lane n j)) = ((W.wv d (at8 (mOf n) (hOf n) j) : ℝ) : EReal))
    (r : Fin 512) (n : Fin 8) (j : Fin 64) :
    k0_pay350 a b c c0 cb wg wd wv (ix2 r (lane n j)) = ((val W (U r) (mOf n) (hOf n) j : ℝ) : EReal) := by
  pointwise [k0_pay350, hv, hw]
  simp only [← EReal.coe_mul, ← coe_sum]
  rfl

include hv in
theorem rk0_val (r : Fin 512) (h : Fin 4) (e : Fin 64) :
    k0_pay351 k0_pay329 a b c c0 cb wg wd (ix2 r (at4 h e)) = ((unitKey (U r) h e : ℝ) : EReal) := by
  pointwise [k0_pay351, hv, E4_val]
  rw [sum_pick _ _ h (fun k => by simp only [at4, Fin.ext_iff]; omega)]
  have hs : (∑ d : Fin 256, ((U r d : ℝ) : EReal) * ((U r d : ℝ) : EReal) * (if d.val / 64 = h.val then 1 else 0))
      = ((∑ f, U r (at4 h f) * U r (at4 h f) : ℝ) : EReal) := by
    rw [sum_at4, Finset.sum_eq_single h, coe_sum]
    · refine Finset.sum_congr rfl fun f _ => ?_
      rw [if_pos (by simp only [at4]; omega), mul_one, EReal.coe_mul]
    · intro k _ hk
      refine Finset.sum_eq_zero fun f _ => ?_
      rw [if_neg (by simp only [at4]; intro e; exact hk (Fin.ext (by omega))), mul_zero]
    · exact fun e => absurd (Finset.mem_univ h) e
  rw [hs, sqrt_real _ (Finset.sum_nonneg fun f _ => mul_self_nonneg _), tiny_coe, ← coe_max, ← EReal.coe_one,
    div_real _ _ (lt_of_lt_of_le tiny_pos (le_max_right _ _)).ne', ← EReal.coe_mul, mul_one_div]
  rfl

end Keys

section Turn

variable (k : FVec Ideal S512x256 .f32) (rp : FVec Ideal S256x1024 .f32)
  (hk : ∀ (r : Fin 512) (h : Fin 4) (e : Fin 64), k (ix2 r (at4 h e)) = ((unitKey (U r) h e : ℝ) : EReal))
  (hrp : ∀ (d : Fin 256) (n : Fin 8) (j : Fin 64), rp (ix2 d (lane n j))
    = if d = at4 (hOf n) (src (mOf n) j) then ((sgn (mOf n) j : ℝ) : EReal) else 0)

include hk hrp in
theorem turned_val (r : Fin 512) (n : Fin 8) (j : Fin 64) :
    k0_pay353 k rp (ix2 r (lane n j)) = ((key (U r) (mOf n) (hOf n) j : ℝ) : EReal) := by
  pointwise [k0_pay353, hrp]
  rw [Finset.sum_eq_single (at4 (hOf n) (src (mOf n) j)), if_pos rfl, hk, ← EReal.coe_mul, key_src]
  · intro d _ hd; rw [if_neg hd, mul_zero]
  · exact fun e => absurd (Finset.mem_univ _) e

include hk hrp in
theorem rks_val (r : Fin 512) (n : Fin 8) (j : Fin 64) :
    k0_pay354 k rp (ix2 r (lane n j)) = ((key (U r) (mOf n) (hOf n) j : ℝ) : EReal) := by
  have h := turned_val U k rp hk hrp
  pointwise [k0_pay354, h]

include hk hrp in
theorem wks_val (r : Fin 512) (n : Fin 8) (j : Fin 64) :
    k0_pay355 k rp (ix2 r (lane n j)) = ((lag (fun s => key (U s) (mOf n) (hOf n) j) 1 r : ℝ) : EReal) := by
  have h := turned_val U k rp hk hrp
  pointwise [k0_pay355, h]
  exact lag_read (fun s => key (U s) (mOf n) (hOf n) j) 1 r

end Turn

/-- Two rows of four beside each other, expanded: the pair's entry at its lanes, -/
theorem expand44 (f g : Fin 4 → EReal) (q : Fin 2 → Fin 4 → EReal) (hf : ∀ h, f h = q 0 h) (hg : ∀ h, g h = q 1 h) (n : Fin 8) (j : Fin 64) :
    (∑ x : Fin 4, f x * e8 (ix2 (⟨x.val, by omega⟩ : Fin 8) (lane n j))) + (∑ x : Fin 4, g x * e8 (ix2 (⟨4 + x.val, by omega⟩ : Fin 8) (lane n j)))
      = q (mOf n) (hOf n) := by
  simp only [e8_val]
  by_cases h : n.val < 4
  · rw [sum_pick _ _ (hOf n) (fun k => by simp only [lane, hOf, Fin.ext_iff]; omega),
      sum_none _ _ (fun k => by simp only [lane]; omega), add_zero, hf]
    congr 1
    exact Fin.ext (by simp only [mOf]; show 0 = _; omega)
  · rw [sum_none _ _ (fun k => by simp only [lane]; omega),
      sum_pick _ _ (hOf n) (fun k => by simp only [lane, hOf, Fin.ext_iff]; omega), zero_add, hg]
    congr 1
    exact Fin.ext (by simp only [mOf]; show 1 = _; omega)

/-- and zero at the lanes not in use. -/
theorem expand44_pad (f g : Fin 4 → EReal) (d : Fin 1024) (hd : 64 ≤ d.val % 128) :
    (∑ x : Fin 4, f x * e8 (ix2 (⟨x.val, by omega⟩ : Fin 8) d)) + (∑ x : Fin 4, g x * e8 (ix2 (⟨4 + x.val, by omega⟩ : Fin 8) d)) = 0 := by
  simp only [e8_val]
  rw [sum_none _ _ (fun k => by omega), sum_none _ _ (fun k => by omega), add_zero]

theorem btc_val (b0 b1 : FVec Ideal S512x4 .f32) (q : ℕ → Fin 2 → Fin 4 → ℝ)
    (h0 : ∀ (r : Fin 512) (h : Fin 4), b0 (ix2 r h) = ((q r 0 h : ℝ) : EReal)) (h1 : ∀ (r : Fin 512) (h : Fin 4), b1 (ix2 r h) = ((q r 1 h : ℝ) : EReal))
    (r : Fin 512) (n : Fin 8) (j : Fin 64) :
    k0_pay371 e8 b0 b1 (ix2 r (lane n j)) = ((q r (mOf n) (hOf n) : ℝ) : EReal) := by
  pointwise [k0_pay371]
  exact expand44 _ _ (fun m h => ((q r m h : ℝ) : EReal)) (h0 r) (h1 r) n j

/-- The block-lower-triangular sum of a column is the sum cumulated from the chunk's start. -/
theorem cum_val (l : ℕ → ℝ) (f : Fin 512 → EReal) (hf : ∀ s : Fin 512, f s = ((l s : ℝ) : EReal)) (r : Fin 512) :
    ∑ s, ctri (ix2 r s) * f s = ((∑ j ∈ Finset.range (r.val % 64 + 1), l (64 * (r.val / 64) + j) : ℝ) : EReal) := by
  have e : ∀ s : Fin 512, ctri (ix2 r s) * f s = (((if r.val / 64 = s.val / 64 ∧ s.val ≤ r.val then l s else 0) : ℝ) : EReal) := by
    intro s
    rw [ctri_val, hf]
    by_cases h : r.val / 64 = s.val / 64 ∧ s.val ≤ r.val
    · rw [if_pos h, if_pos h, one_mul]
    · rw [if_neg h, if_neg h, zero_mul]; rfl
  simp only [e, ← coe_sum]
  rw [Fin.sum_univ_eq_sum_range (fun s => if r.val / 64 = s / 64 ∧ s ≤ r.val then l s else 0) 512, ← Finset.sum_filter,
    show (∑ j ∈ Finset.range (r.val % 64 + 1), l (64 * (r.val / 64) + j)) = _ from
      (Finset.sum_map (Finset.range (r.val % 64 + 1)) (addLeftEmbedding (64 * (r.val / 64))) l).symm]
  congr 2
  ext s
  simp only [Finset.mem_filter, Finset.mem_range, Finset.mem_map, addLeftEmbedding_apply]
  constructor
  · rintro ⟨h1, h2, h3⟩; exact ⟨s - 64 * (r.val / 64), by omega, by omega⟩
  · rintro ⟨j, h1, rfl⟩; omega

/-- The cumulated decays, as the kernel computes them. -/
def rowCs (l0 : FVec Ideal S512x4 .f32) (w : Vec Ideal S1x1x256x4 .f32) (b a : Vec Ideal S1x1x1x4 .f32) : FVec Ideal S512x1024 .f32 :=
  k0_pay372 e8 ctri l0 (k0_pay366 u w b) (k0_pay367 a) (Scalar.ofBits .f32 0x00000000#32) (k0_pay368 u w b) (k0_pay369 u w b) (k0_pay370 u w b)

include hu in
theorem csc_val (l0 : FVec Ideal S512x4 .f32) (w : Vec Ideal S1x1x256x4 .f32) (b a : Vec Ideal S1x1x1x4 .f32)
    (h0 : ∀ (r : Fin 512) (h : Fin 4), l0 (ix2 r h) = ((ld W (U r) 0 h : ℝ) : EReal))
    (hw : ∀ (d : Fin 256) (h : Fin 4), w (ix4 0 0 d h) = ((W.wa 1 d h : ℝ) : EReal))
    (hb : ∀ h : Fin 4, b (ix4 0 0 0 h) = ((W.db 1 h : ℝ) : EReal))
    (ha : ∀ h : Fin 4, a (ix4 0 0 0 h) = ((W.al 1 h : ℝ) : EReal)) (r : Fin 512) (n : Fin 8) (j : Fin 64) :
    rowCs u l0 w b a (ix2 r (lane n j)) = (((head W U (mOf n) (hOf n)).cs (64 * (r.val / 64)) (r.val % 64) : ℝ) : EReal) := by
  unfold rowCs
  pointwise [k0_pay372, k0_pay366, k0_pay367, k0_pay368, k0_pay369, k0_pay370, hu, h0, hw, hb, ha]
  simp only [ne_eq, not_true_eq_false, if_false, ← EReal.coe_mul, ← coe_sum, ← EReal.coe_add, softplus_read, Ideal.exp_coe]
  refine (expand44 _ _ (fun m h => (((head W U m h).cs (64 * (r.val / 64)) (r.val % 64) : ℝ) : EReal)) (fun h => ?_) (fun h => ?_) n j)
  · exact cum_val (fun s => ld W (U s) 0 h) _ (fun s => rfl) r
  · refine cum_val (fun s => ld W (U s) 1 h) _ (fun s => ?_) r
    rw [zero_sub, ← EReal.coe_neg, ← EReal.coe_mul]; rfl

include hu in
theorem bl_val (w : Vec Ideal S1x1x256x4 .f32) (m : Fin 2) (hw : ∀ (d : Fin 256) (h : Fin 4), w (ix4 0 0 d h) = ((W.bl d (at2 h m) : ℝ) : EReal))
    (r : Fin 512) (h : Fin 4) : k0_pay364 u w (ix2 r h) = ((blendLogit W (U r) h m : ℝ) : EReal) :=
  proj_val u U hu w (fun d h => W.bl d (at2 h m)) hw r h

section Blend

variable (l0 : FVec Ideal S512x4 .f32) (w : Vec Ideal S1x1x256x4 .f32)
  (h0 : ∀ (r : Fin 512) (h : Fin 4), l0 (ix2 r h) = ((blendLogit W (U r) h 0 : ℝ) : EReal))
  (hw : ∀ (d : Fin 256) (h : Fin 4), w (ix4 0 0 d h) = ((W.bl d (at2 h 1) : ℝ) : EReal))

include hu h0 hw in
theorem blendc_val (r : Fin 512) (n : Fin 8) (j : Fin 64) :
    k0_pay373 e8 u l0 w (ix2 r (lane n j)) = ((blend W (U r) (hOf n) (mOf n) : ℝ) : EReal) := by
  pointwise [k0_pay373, hu, h0, hw]
  have hl : ∀ h : Fin 4, (∑ d, ((U r d : ℝ) : EReal) * ((W.bl d (at2 h 1) : ℝ) : EReal)) = ((blendLogit W (U r) h 1 : ℝ) : EReal) := by
    intro h; simp only [← EReal.coe_mul, ← coe_sum]; rfl
  have hp : ∀ h : Fin 4, Real.exp (blendLogit W (U r) h 0 - max (blendLogit W (U r) h 0) (blendLogit W (U r) h 1))
      + Real.exp (blendLogit W (U r) h 1 - max (blendLogit W (U r) h 0) (blendLogit W (U r) h 1)) ≠ 0 := fun h =>
    (add_pos (Real.exp_pos _) (Real.exp_pos _)).ne'
  refine (expand44 _ _ (fun m h => ((blend W (U r) h m : ℝ) : EReal)) (fun h => ?_) (fun h => ?_) n j)
  all_goals
    simp only [hl, ← coe_max, ← EReal.coe_sub, Ideal.exp_coe, ← EReal.coe_add]
    rw [div_real _ _ (hp h)]; rfl

theorem blendc_pad (r : Fin 512) (d : Fin 1024) (hd : 64 ≤ d.val % 128) : k0_pay373 e8 u l0 w (ix2 r d) = 0 := by
  pointwise [k0_pay373]
  exact expand44_pad _ _ d hd

end Blend

/-! ## After the memory loop -/

/-- One lane's part of what is added to a row. -/
def outTerm (R B : Vec Ideal S512x1024 .f32) (u : FVec Ideal S512x256 .f32) (wg : Vec Ideal S1x256x4 .f32) (wo : Vec Ideal S1x512x256 .f32)
    (r : Fin 512) (d : Fin 256) (p : Fin 512) : EReal :=
  (R (ix2 r (⟨p.val, by omega⟩ : Fin 1024)) * B (ix2 r (⟨p.val, by omega⟩ : Fin 1024))
      + R (ix2 r (⟨512 + p.val, by omega⟩ : Fin 1024)) * B (ix2 r (⟨512 + p.val, by omega⟩ : Fin 1024)))
    * (∑ h, Ideal.logistic (∑ e, u (ix2 r e) * wg (ix3 0 e h)) * e4p (ix2 h p)) * wo (ix3 0 p d)

/-- The rows leaving a layer, from what the memory loop read. -/
theorem next_val (X : ℕ → Fin 256 → ℝ) (x : FVec Ideal S512x256 .f32) (hx : ∀ (r : Fin 512) (d : Fin 256), x (ix2 r d) = ((X r d : ℝ) : EReal))
    (hu : ∀ (r : Fin 512) (d : Fin 256), u (ix2 r d) = ((mix W X r d : ℝ) : EReal))
    (wg : Vec Ideal S1x256x4 .f32) (hwg : ∀ (d : Fin 256) (h : Fin 4), wg (ix3 0 d h) = ((W.wg d h : ℝ) : EReal))
    (R B : Vec Ideal S512x1024 .f32) (wo : Vec Ideal S1x512x256 .f32)
    (hR : ∀ (r : Fin 512) (n : Fin 8) (j : Fin 64), R (ix2 r (lane n j)) = (((head W (mix W X) (mOf n) (hOf n)).read r j : ℝ) : EReal))
    (hB : ∀ (r : Fin 512) (n : Fin 8) (j : Fin 64), B (ix2 r (lane n j)) = ((blend W (mix W X r) (hOf n) (mOf n) : ℝ) : EReal))
    (hB0 : ∀ (r : Fin 512) (d : Fin 1024), 64 ≤ d.val % 128 → B (ix2 r d) = 0)
    (hwo : ∀ (h : Fin 4) (j : Fin 64) (d : Fin 256), wo (ix3 0 (lane4 h ⟨j.val, by omega⟩) d) = ((W.wo (at4 h j) d : ℝ) : EReal))
    (r : Fin 512) (d : Fin 256) :
    k0_pay380 x e4p u wg R B wo (ix2 r d) = ((layer W X r d : ℝ) : EReal) := by
  pointwise [k0_pay380, hx]
  have hterm : ∀ (h : Fin 4) (e : Fin 64), outTerm R B u wg wo r d (lane4 h ⟨e.val, by omega⟩)
      = ((outRow W (mix W X) r h e * W.wo (at4 h e) d : ℝ) : EReal) := by
    intro h e
    have e0 : (⟨(lane4 h ⟨e.val, by omega⟩).val, by omega⟩ : Fin 1024) = lane ⟨h.val, by omega⟩ e := Fin.ext rfl
    have e1 : (⟨512 + (lane4 h ⟨e.val, by omega⟩).val, by omega⟩ : Fin 1024) = lane ⟨4 + h.val, by omega⟩ e :=
      Fin.ext (by simp only [lane, lane4]; omega)
    have m0 : mOf ⟨h.val, by omega⟩ = 0 := Fin.ext (by simp only [mOf]; show _ = 0; omega)
    have m1 : mOf ⟨4 + h.val, by omega⟩ = 1 := Fin.ext (by simp only [mOf]; show _ = 1; omega)
    have h0 : hOf ⟨h.val, by omega⟩ = h := Fin.ext (by simp only [hOf]; omega)
    have h1 : hOf ⟨4 + h.val, by omega⟩ = h := Fin.ext (by simp only [hOf]; omega)
    unfold outTerm
    simp only [hu, hwg, e4p_val]
    rw [e0, e1, hR, hR, hB, hB, m0, m1, h0, h1, hwo, sum_pick _ _ h (fun k => by simp only [lane4, Fin.ext_iff]; omega)]
    simp only [← EReal.coe_mul, ← coe_sum, Ideal.logistic_coe, ← EReal.coe_add]
    congr 1
    unfold outRow outGate Model.sig
    rw [Fin.sum_univ_two]
    ring
  have hpad : ∀ (h : Fin 4) (e : Fin 64), outTerm R B u wg wo r d (lane4 h ⟨64 + e.val, by omega⟩) = 0 := by
    intro h e
    unfold outTerm
    rw [hB0 r _ (by simp only [lane4]; omega), hB0 r _ (by simp only [lane4]; omega), mul_zero, mul_zero, add_zero, zero_mul, zero_mul]
  have hsum : ∑ p, outTerm R B u wg wo r d p = ((∑ h, ∑ k, outRow W (mix W X) r h k * W.wo (at4 h k) d : ℝ) : EReal) := by
    rw [sum_lane4, coe_sum]
    refine Finset.sum_congr rfl fun h _ => ?_
    rw [coe_sum, show (∑ e : Fin 128, outTerm R B u wg wo r d (lane4 h e)) = _ from Fin.sum_univ_add (a := 64) (b := 64) (fun e => outTerm R B u wg wo r d (lane4 h e))]
    refine (congrArg₂ (· + ·) (Finset.sum_congr rfl fun e _ => hterm h e) (Finset.sum_eq_zero fun e _ => hpad h e)).trans ?_
    rw [add_zero]
  refine (congrArg (fun z => ((X r d : ℝ) : EReal) + u (ix2 r d) + z) hsum).trans ?_
  rw [hu, ← EReal.coe_add, ← EReal.coe_add, add_assoc]
  rfl

end Memory

end Cert.KernelRows

end
-- ==== Proof.KHead.lean ====
/-
  One head of one chunk in the kernel's memory loop: its matrix operations, in the kernel's order, and their values.
-/
module

public import proofs.«01_k».proof.Proof.KMem
public import proofs.«01_k».proof.Proof.Chunk

@[expose] public section

set_option maxRecDepth 16384

noncomputable section

namespace Cert.KernelHead

open Idealize.ShloMosaic Idealize.ShloMosaic.TcCoe Idealize.SL.Sem
open Cert.KernelIdeal Cert.KernelIdeal.Gen Cert.Model Cert.KernelRows

/-- A 64 by 64 block. -/
abbrev Sq : Type := FVec Ideal S64x64 .f32

/-- The matrix product of two blocks. -/
def prod (a b : Sq) : Sq := matmul dot_S64x64_S64x64_S64x64_1_0_0_1_n_n none a b (constant S64x64 .f32 0x00000000#32)

/-- The product of a block with a transposed one. -/
def prodT (a b : Sq) : Sq := matmul dot_S64x64_S64x64_S64x64_1_1_0_0_n_n none a b (constant S64x64 .f32 0x00000000#32)

/-- One doubling step. -/
def dblV (N x : Sq) : Sq := addf x (prod N x)

/-- The six doubling steps. -/
def solV (N x : Sq) : Sq :=
  dblV (prod (prod (prod (prod (prod N N) (prod N N)) (prod (prod N N) (prod N N)))
      (prod (prod (prod N N) (prod N N)) (prod (prod N N) (prod N N))))
    (prod (prod (prod (prod N N) (prod N N)) (prod (prod N N) (prod N N)))
      (prod (prod (prod N N) (prod N N)) (prod (prod N N) (prod N N)))))
  (dblV (prod (prod (prod (prod N N) (prod N N)) (prod (prod N N) (prod N N)))
      (prod (prod (prod N N) (prod N N)) (prod (prod N N) (prod N N))))
    (dblV (prod (prod (prod N N) (prod N N)) (prod (prod N N) (prod N N)))
      (dblV (prod (prod N N) (prod N N)) (dblV (prod N N) (dblV N x)))))

/-- The decay between two rows of the chunk. -/
def decV (I : Sq) (one : FVec Ideal S1x64 .f32) (cs : Sq) : Sq :=
  exp (minimumf (subf cs (broadcastTo S64x64 (matmul dot_S1x64_S64x64_S1x64_1_0_0_1_n_n none one (mulf cs I)
    (constant S1x64 .f32 0x00000000#32)) broadcasts_S1x64_S64x64)) (broadcast S64x64 (Scalar.ofBits .f32 0x00000000#32)))

/-- The chunk's strictly lower triangular block. -/
def nV (mS I : Sq) (one : FVec Ideal S1x64 .f32) (K bt cs : Sq) : Sq :=
  mulf (prodT K K) (mulf (mulf (subf (broadcast S64x64 (Scalar.ofBits .f32 0x00000000#32)) bt) (decV I one cs)) mS)

/-- The right-hand side of the chunk's system. -/
def cV (K V bt cs S : Sq) : Sq := subf (mulf bt V) (prod (mulf K (mulf bt (exp cs))) S)

/-- The chunk's solved errors. -/
def errV (mS I : Sq) (one : FVec Ideal S1x64 .f32) (K V bt cs S : Sq) : Sq := solV (nV mS I one K bt cs) (cV K V bt cs S)

/-- The chunk's reads. -/
def readV (mS mI I : Sq) (one : FVec Ideal S1x64 .f32) (K V R bt cs S : Sq) : Sq :=
  shapeCast S64x64 (addf (prod (mulf R (exp cs)) S) (prod (mulf (prodT R K) (mulf (decV I one cs) mI)) (errV mS I one K V bt cs S)))
    shapeCasts_S64x64_S64x64

/-- The memory after the chunk. -/
def nextV (mS I : Sq) (one : FVec Ideal S1x64 .f32) (K V bt cs S : Sq) : FVec Ideal S1x64x64 .f32 :=
  shapeCast S1x64x64 (addf (mulf (broadcastTo S64x64 (exp (extractStridedSlice S1x64 ![63, 0] cs slices_S64x64_o63_0_S1x64))
      broadcasts_S1x64_S64x64) S)
    (matmul dot_S64x64_S64x64_S64x64_0_0_1_1_n_n none (mulf K (exp (minimumf (subf (broadcastTo S64x64
        (extractStridedSlice S1x64 ![63, 0] cs slices_S64x64_o63_0_S1x64) broadcasts_S1x64_S64x64) cs)
        (broadcast S64x64 (Scalar.ofBits .f32 0x00000000#32))))) (errV mS I one K V bt cs S) (constant S64x64 .f32 0x00000000#32)))
    shapeCasts_S64x64_S1x64x64

/-! ## Values -/

/-- A block holding real numbers. -/
abbrev Is (X : Sq) (x : Fin 64 → Fin 64 → ℝ) : Prop := ∀ i j, X (ix2 i j) = ((x i j : ℝ) : EReal)

theorem prod_is {A B : Sq} {a b : Fin 64 → Fin 64 → ℝ} (ha : Is A a) (hb : Is B b) : Is (prod A B) (Chunk.mm a b) := by
  intro i j
  pointwise [prod, ha, hb]
  simp only [← EReal.coe_mul, ← coe_sum]
  rfl

theorem prodT_is {A B : Sq} {a b : Fin 64 → Fin 64 → ℝ} (ha : Is A a) (hb : Is B b) :
    Is (prodT A B) (fun i j => ∑ e, a i e * b j e) := by
  intro i j
  pointwise [prodT, ha, hb]
  simp only [← EReal.coe_mul, ← coe_sum]

theorem dblV_is {A B : Sq} {a b : Fin 64 → Fin 64 → ℝ} (ha : Is A a) (hb : Is B b) : Is (dblV A B) (Chunk.dbl a b) := by
  intro i j
  pointwise [dblV, prod, ha, hb]
  simp only [← EReal.coe_mul, ← coe_sum, ← EReal.coe_add]
  rfl

theorem solV_is {A B : Sq} {a b : Fin 64 → Fin 64 → ℝ} (ha : Is A a) (hb : Is B b) : Is (solV A B) (Chunk.solve6 a b) := by
  have h1 := prod_is ha ha
  have h2 := prod_is h1 h1
  have h3 := prod_is h2 h2
  have h4 := prod_is h3 h3
  have h5 := prod_is h4 h4
  exact dblV_is h5 (dblV_is h4 (dblV_is h3 (dblV_is h2 (dblV_is h1 (dblV_is ha hb)))))

section Head

variable {mS mI I K V R bt cs S : Sq} {one : FVec Ideal S1x64 .f32}
  {w r v s : Fin 64 → Fin 64 → ℝ} {b c : Fin 64 → ℝ}
  (hmS : Is mS (fun i j => if j < i then 1 else 0)) (hmI : Is mI (fun i j => if j ≤ i then 1 else 0))
  (hI : Is I (fun i j => if i = j then 1 else 0)) (hone : ∀ j, one (ix2 0 j) = ((1 : ℝ) : EReal))
  (hK : Is K w) (hV : Is V v) (hR : Is R r) (hbt : Is bt (fun i _ => b i)) (hcs : Is cs (fun i _ => c i)) (hS : Is S s)

include hI hone hcs in
theorem decV_is : Is (decV I one cs) (fun i j => Real.exp (min (c i - c j) 0)) := by
  intro i j
  pointwise [decV, hI, hone, hcs]
  simp only [← EReal.coe_mul, ← coe_sum, one_mul, mul_ite, mul_one, mul_zero, Finset.sum_ite_eq', Finset.mem_univ, if_true,
    ← EReal.coe_sub, Ideal.exp_coe]
  rw [← EReal.coe_zero, ← coe_min, Ideal.exp_coe]

include hmS hI hone hK hbt hcs in
theorem nV_is : Is (nV mS I one K bt cs) (Chunk.nmat w b c) := by
  intro i j
  pointwise [nV, prodT_is hK hK, decV_is hI hone hcs, hmS, hbt]
  rw [zero_sub]
  simp only [← EReal.coe_neg, ← EReal.coe_mul]
  rfl

include hK hV hbt hcs hS in
theorem cV_is : Is (cV K V bt cs S) (Chunk.rhs w v b c s) := by
  intro i j
  pointwise [cV, prod, hK, hV, hbt, hcs, hS]
  simp only [← EReal.coe_mul, ← coe_sum, ← EReal.coe_sub, Ideal.exp_coe]
  rfl

include hmS hI hone hK hV hbt hcs hS in
theorem errV_is : Is (errV mS I one K V bt cs S) (Chunk.sol w v b c s) :=
  solV_is (nV_is hmS hI hone hK hbt hcs) (cV_is hK hV hbt hcs hS)

include hmS hmI hI hone hK hV hR hbt hcs hS in
theorem readV_is : Is (readV mS mI I one K V R bt cs S) (Chunk.reads w r v b c s) := by
  intro i j
  pointwise [readV, prod, prodT_is hR hK, decV_is hI hone hcs, errV_is hmS hI hone hK hV hbt hcs hS, hmI, hR, hcs, hS]
  simp only [Ideal.exp_coe, ← EReal.coe_mul, ← coe_sum, ← EReal.coe_add]
  rfl

include hmS hI hone hK hV hbt hcs hS in
theorem nextV_is (i j : Fin 64) : nextV mS I one K V bt cs S (ix3 0 i j) = ((Chunk.next w v b c s i j : ℝ) : EReal) := by
  pointwise [nextV, errV_is hmS hI hone hK hV hbt hcs hS, hK, hcs, hS]
  simp only [← EReal.coe_zero, ← EReal.coe_sub, ← coe_min, Ideal.exp_coe, ← EReal.coe_mul, ← coe_sum, ← EReal.coe_add]
  rfl

end Head

end Cert.KernelHead

end
-- ==== Proof.KLoop.lean ====
/-
  One trip of the kernel's memory loop: what it stores in the memory and in the reads, and what is read back from those stores.
-/
module

public import proofs.«01_k».proof.Proof.KHead
public import proofs.«01_k».proof.Proof.Gen.KernelIdeal.Loops
public import proofs.«01_k».proof.Proof.Gen.KernelIdeal.Skeleton
public import Idealize.ShloMosaic.Lib.WritesUnit

@[expose] public section

set_option maxRecDepth 16384

noncomputable section

namespace Cert.KernelLoop

open Idealize.ShloMosaic Idealize.ShloMosaic.TcCoe Idealize.SL.Sem
open Cert.KernelIdeal Cert.KernelIdeal.Gen Cert.KernelHead Cert.KernelRows

/-- The memory's stores, one head after the other, the last one first. -/
def pieces28 (g : Fin 8 → FVec Ideal S1x64x64 .f32) : List (View.Piece (Elt Ideal) S8x64x64 .f32) :=
  [⟨Rect.unit (s := S8x64x64) ![7, 0, 0] ![1, 64, 64] inb_S8x64x64_S1x64x64_7_0_0, g 7⟩,
   ⟨Rect.unit (s := S8x64x64) ![6, 0, 0] ![1, 64, 64] inb_S8x64x64_S1x64x64_6_0_0, g 6⟩,
   ⟨Rect.unit (s := S8x64x64) ![5, 0, 0] ![1, 64, 64] inb_S8x64x64_S1x64x64_5_0_0, g 5⟩,
   ⟨Rect.unit (s := S8x64x64) ![4, 0, 0] ![1, 64, 64] inb_S8x64x64_S1x64x64_4_0_0, g 4⟩,
   ⟨Rect.unit (s := S8x64x64) ![3, 0, 0] ![1, 64, 64] inb_S8x64x64_S1x64x64_3_0_0, g 3⟩,
   ⟨Rect.unit (s := S8x64x64) ![2, 0, 0] ![1, 64, 64] inb_S8x64x64_S1x64x64_2_0_0, g 2⟩,
   ⟨Rect.unit (s := S8x64x64) ![1, 0, 0] ![1, 64, 64] inb_S8x64x64_S1x64x64_1_0_0, g 1⟩,
   ⟨Rect.unit (s := S8x64x64) ![0, 0, 0] ![1, 64, 64] inb_S8x64x64_S1x64x64_0_0_0, g 0⟩]

/-- The reads' stores, one head after the other, the last one first. -/
def pieces27 (o : Fin 8 → Fin 2 → ℕ) (inb : ∀ n a, o n a + S64x64.size a ≤ S512x1024.size a) (g : Fin 8 → Sq) :
    List (View.Piece (Elt Ideal) S512x1024 .f32) :=
  [⟨Rect.unit (s := S512x1024) (o 7) ![64, 64] (inb 7), g 7⟩,
   ⟨Rect.unit (s := S512x1024) (o 6) ![64, 64] (inb 6), g 6⟩,
   ⟨Rect.unit (s := S512x1024) (o 5) ![64, 64] (inb 5), g 5⟩,
   ⟨Rect.unit (s := S512x1024) (o 4) ![64, 64] (inb 4), g 4⟩,
   ⟨Rect.unit (s := S512x1024) (o 3) ![64, 64] (inb 3), g 3⟩,
   ⟨Rect.unit (s := S512x1024) (o 2) ![64, 64] (inb 2), g 2⟩,
   ⟨Rect.unit (s := S512x1024) (o 1) ![64, 64] (inb 1), g 1⟩,
   ⟨Rect.unit (s := S512x1024) (o 0) ![64, 64] (inb 0), g 0⟩]

/-- The memory a trip finds, head by head. -/
def old (v : Memref sig .tc .vmem S8x64x64 .f32) (f : BufTy.Contents (Elt Ideal) v.view.ty) : Fin 8 → Sq :=
  ![k0_pay2 (v.view.readAt (Elt Ideal) (Rect.unit (s := S8x64x64) ![0, 0, 0] S1x64x64.size inb_S8x64x64_S1x64x64_0_0_0).toLoadRect f),
    k0_pay3 (v.view.readAt (Elt Ideal) (Rect.unit (s := S8x64x64) ![1, 0, 0] S1x64x64.size inb_S8x64x64_S1x64x64_1_0_0).toLoadRect f),
    k0_pay4 (v.view.readAt (Elt Ideal) (Rect.unit (s := S8x64x64) ![2, 0, 0] S1x64x64.size inb_S8x64x64_S1x64x64_2_0_0).toLoadRect f),
    k0_pay5 (v.view.readAt (Elt Ideal) (Rect.unit (s := S8x64x64) ![3, 0, 0] S1x64x64.size inb_S8x64x64_S1x64x64_3_0_0).toLoadRect f),
    k0_pay6 (v.view.readAt (Elt Ideal) (Rect.unit (s := S8x64x64) ![4, 0, 0] S1x64x64.size inb_S8x64x64_S1x64x64_4_0_0).toLoadRect f),
    k0_pay7 (v.view.readAt (Elt Ideal) (Rect.unit (s := S8x64x64) ![5, 0, 0] S1x64x64.size inb_S8x64x64_S1x64x64_5_0_0).toLoadRect f),
    k0_pay8 (v.view.readAt (Elt Ideal) (Rect.unit (s := S8x64x64) ![6, 0, 0] S1x64x64.size inb_S8x64x64_S1x64x64_6_0_0).toLoadRect f),
    k0_pay9 (v.view.readAt (Elt Ideal) (Rect.unit (s := S8x64x64) ![7, 0, 0] S1x64x64.size inb_S8x64x64_S1x64x64_7_0_0).toLoadRect f)]

/-- The 64 by 64 block of a buffer at an offset. -/
def cut (v : Memref sig .tc .vmem S512x1024 .f32) (f : BufTy.Contents (Elt Ideal) v.view.ty) {o : Fin 2 → ℕ}
    (inb : ∀ a, o a + S64x64.size a ≤ S512x1024.size a) : Sq :=
  v.view.readAt (Elt Ideal) (Rect.unit (s := S512x1024) o S64x64.size inb).toLoadRect f

/-- The block's entry. -/
theorem cut_val (v : Memref sig .tc .vmem S512x1024 .f32) (f : BufTy.Contents (Elt Ideal) v.view.ty) {o : Fin 2 → ℕ}
    (inb : ∀ a, o a + S64x64.size a ≤ S512x1024.size a) (k : ℕ) (hk : k < 8) (n : Fin 8) (ho : o = ![64 * k, 128 * n.val]) (i j : Fin 64) :
    cut v f inb (ix2 i j) = v.view.read (Elt Ideal) f (ix2 (⟨64 * k + i.val, by omega⟩ : Fin 512) (lane n j)) := by
  subst ho
  refine congrArg (v.view.read (Elt Ideal) f) (funext fun a => Fin.ext ?_)
  fin_cases a
  · show 64 * k + 1 * i.val = 64 * k + i.val
    omega
  · show 128 * n.val + 1 * j.val = 128 * n.val + j.val
    omega

/-- The memory's entry. -/
theorem old_val (v : Memref sig .tc .vmem S8x64x64 .f32) (f : BufTy.Contents (Elt Ideal) v.view.ty) (n : Fin 8) (i j : Fin 64) :
    old v f n (ix2 i j) = v.view.read (Elt Ideal) f (ix3 n i j) := by
  fin_cases n
  all_goals
    dsimp only [old, Matrix.cons_val]
    pointwise [k0_pay2, k0_pay3, k0_pay4, k0_pay5, k0_pay6, k0_pay7, k0_pay8, k0_pay9]
    refine congrArg (v.view.read (Elt Ideal) f) (funext fun a => Fin.ext ?_)
    fin_cases a
    · rfl
    · show 0 + 1 * i.val = i.val
      omega
    · show 0 + 1 * j.val = j.val
      omega

/-- The memory's stores, read back. -/
theorem read_pieces28 (v : Memref sig .tc .vmem S8x64x64 .f32) (f : BufTy.Contents (Elt Ideal) v.view.ty)
    (g : Fin 8 → FVec Ideal S1x64x64 .f32) (n : Fin 8) (i j : Fin 64) :
    v.view.read (Elt Ideal) (v.view.writes (Elt Ideal) f (pieces28 g)) (ix3 n i j) = g n (ix3 0 i j) := by
  unfold pieces28
  fin_cases n
  all_goals
    repeat' first
      | exact View.read_writes_cons_unit_of_mem v.view f _ _ _ _ (ix3 (0 : Fin 1) i j) rfl
          (by intro a; fin_cases a <;> simp [ix3])
      | refine (View.read_writes_cons_unit_of_not_mem v.view f _ _ _ _ rfl (0 : Fin 3) (by simp [ix3])).trans ?_

/-- The reads' stores, read back inside the chunk. -/
theorem read_pieces27 (v : Memref sig .tc .vmem S512x1024 .f32) (f : BufTy.Contents (Elt Ideal) v.view.ty)
    {o : Fin 8 → Fin 2 → ℕ} (inb : ∀ n a, o n a + S64x64.size a ≤ S512x1024.size a) (g : Fin 8 → Sq)
    (k : ℕ) (hk : k < 8) (ho : ∀ n, o n = ![64 * k, 128 * n.val]) (n : Fin 8) (i j : Fin 64) :
    v.view.read (Elt Ideal) (v.view.writes (Elt Ideal) f (pieces27 o inb g)) (ix2 (⟨64 * k + i.val, by omega⟩ : Fin 512) (lane n j))
      = g n (ix2 i j) := by
  unfold pieces27
  have hj := j.isLt
  fin_cases n
  all_goals
    repeat' first
      | exact View.read_writes_cons_unit_of_mem v.view f _ _ _ _ (ix2 i j) (ho _)
          (by intro a; fin_cases a <;> simp [ix2, lane])
      | refine (View.read_writes_cons_unit_of_not_mem v.view f _ _ _ _ (ho _) (1 : Fin 2) (by simp [ix2, lane]; omega)).trans ?_

/-- The reads' stores leave the other rows. -/
theorem read_pieces27_of_row (v : Memref sig .tc .vmem S512x1024 .f32) (f : BufTy.Contents (Elt Ideal) v.view.ty)
    {o : Fin 8 → Fin 2 → ℕ} (inb : ∀ n a, o n a + S64x64.size a ≤ S512x1024.size a) (g : Fin 8 → Sq)
    (k : ℕ) (ho : ∀ n, o n = ![64 * k, 128 * n.val]) (r : Fin 512) (hr : r.val < 64 * k) (d : Fin 1024) :
    v.view.read (Elt Ideal) (v.view.writes (Elt Ideal) f (pieces27 o inb g)) (ix2 r d) = v.view.read (Elt Ideal) f (ix2 r d) := by
  unfold pieces27
  repeat' refine (View.read_writes_cons_unit_of_not_mem v.view f _ _ _ _ (ho _) (0 : Fin 2) (Or.inl hr)).trans ?_
  rw [View.writes_nil]

section Loop

variable (v27 : Memref sig .tc .vmem S512x1024 .f32) (v28 : Memref sig .tc .vmem S8x64x64 .f32)
  (G27 : BufTy.Contents (Elt Ideal) v27.view.ty) (G28 : BufTy.Contents (Elt Ideal) v28.view.ty)
  (mS mI I : Sq) (one : FVec Ideal S1x64 .f32)
  (P : ℕ → List (View.Piece (Elt Ideal) S512x1024 .f32) × List (View.Piece (Elt Ideal) S8x64x64 .f32))
  {T : ℕ} (hT : T = 8) (K V R bt cs : Fin T → Fin 8 → Sq) (o : Fin T → Fin 8 → Fin 2 → ℕ)
  (H : Fin 8 → Chunk.Head) (hl : ∀ n t, (H n).l t ≤ 0)
  (hmS : Is mS (fun i j => if j < i then 1 else 0)) (hmI : Is mI (fun i j => if j ≤ i then 1 else 0))
  (hI : Is I (fun i j => if i = j then 1 else 0)) (hone : ∀ j, one (ix2 0 j) = ((1 : ℝ) : EReal))
  (hK : ∀ k n, Is (K k n) (fun i => (H n).w (64 * k.val + i))) (hV : ∀ k n, Is (V k n) (fun i => (H n).v (64 * k.val + i)))
  (hR : ∀ k n, Is (R k n) (fun i => (H n).r (64 * k.val + i)))
  (hbt : ∀ k n, Is (bt k n) (fun i _ => (H n).b (64 * k.val + i))) (hcs : ∀ k n, Is (cs k n) (fun i _ => (H n).cs (64 * k.val) i))
  (inb : ∀ k n a, o k n a + S64x64.size a ≤ S512x1024.size a) (ho : ∀ k n, o k n = ![64 * k.val, 128 * n.val])
  (h0 : P 0 = ([], []))
  (hs : ∀ k : Fin T, P (k.val + 1)
    = (pieces27 (o k) (inb k) (fun n => readV mS mI I one (K k n) (V k n) (R k n) (bt k n) (cs k n)
          (old v28 (v28.view.writes (Elt Ideal) G28 (P k.val).2) n)) ++ (P k.val).1,
       pieces28 (fun n => nextV mS I one (K k n) (V k n) (bt k n) (cs k n)
          (old v28 (v28.view.writes (Elt Ideal) G28 (P k.val).2) n)) ++ (P k.val).2))
  (hG : ∀ (n : Fin 8) (i j : Fin 64), v28.view.read (Elt Ideal) G28 (ix3 n i j) = 0)

include hT hl hmS hmI hI hone hK hV hR hbt hcs inb ho h0 hs hG in
/-- After `k` chunks the memory is every head's after `64 k` steps, and the rows before hold every head's reads. -/
theorem loop_val (k : ℕ) (hk : k ≤ T) :
    (∀ (n : Fin 8) (i j : Fin 64), v28.view.read (Elt Ideal) (v28.view.writes (Elt Ideal) G28 (P k).2) (ix3 n i j)
        = (((H n).mem (64 * k) i j : ℝ) : EReal))
      ∧ ∀ (r : Fin 512) (n : Fin 8) (j : Fin 64), r.val < 64 * k →
          v27.view.read (Elt Ideal) (v27.view.writes (Elt Ideal) G27 (P k).1) (ix2 r (lane n j)) = (((H n).read r j : ℝ) : EReal) := by
  induction k with
  | zero =>
    rw [h0]
    refine ⟨fun n i j => ?_, fun r n j hr => absurd hr (by omega)⟩
    rw [View.writes_nil, hG]
    rfl
  | succ k ih =>
    subst hT
    have hk' : k < 8 := hk
    let q : Fin 8 := ⟨k, hk'⟩
    obtain ⟨hm, hr⟩ := ih (by omega)
    have hS : ∀ n, Is (old v28 (v28.view.writes (Elt Ideal) G28 (P k).2) n) ((H n).mem (64 * k)) := fun n i j => by
      rw [old_val, hm]
    rw [hs q]
    refine ⟨fun n i j => ?_, fun r n j hlt => ?_⟩
    · rw [View.writes_append, read_pieces28]
      refine (nextV_is hmS hI hone (hK q n) (hV q n) (hbt q n) (hcs q n) (hS n) i j).trans ?_
      exact congrArg (fun x : ℝ => (x : EReal)) (congrFun (congrFun ((H n).next_eq (64 * k) (hl n)) i) j)
    · rw [View.writes_append]
      by_cases hlow : r.val < 64 * k
      · rw [read_pieces27_of_row v27 _ (inb q) _ k (ho q) r hlow]
        exact hr r n j hlow
      · obtain ⟨i, hi⟩ : ∃ i : Fin 64, r = ⟨64 * k + i.val, by omega⟩ := ⟨⟨r.val - 64 * k, by omega⟩, Fin.ext (by simp only; omega)⟩
        rw [hi, read_pieces27 v27 _ (inb q) _ k hk' (ho q)]
        refine (readV_is hmS hmI hI hone (hK q n) (hV q n) (hR q n) (hbt q n) (hcs q n) (hS n) i j).trans ?_
        exact congrArg (fun x : ℝ => (x : EReal)) ((H n).reads_eq (64 * k) (hl n) i j)

end Loop

/-- Where the chunk's blocks of the eight heads start. -/
def offs1 (k : Fin k0_t1_loop.trips) : Fin 8 → Fin 2 → ℕ :=
  ![k0_off1 k, k0_off2 k, k0_off3 k, k0_off4 k, k0_off5 k, k0_off6 k, k0_off7 k, k0_off8 k]

theorem offs1_inb (k : Fin k0_t1_loop.trips) : ∀ n a, offs1 k n a + S64x64.size a ≤ S512x1024.size a :=
  Fin.cons (k0_off1_inb k) (Fin.cons (k0_off2_inb k) (Fin.cons (k0_off3_inb k) (Fin.cons (k0_off4_inb k)
    (Fin.cons (k0_off5_inb k) (Fin.cons (k0_off6_inb k) (Fin.cons (k0_off7_inb k) (Fin.cons (k0_off8_inb k)
      (fun n => n.elim0))))))))

theorem offs1_eq (k : Fin k0_t1_loop.trips) (n : Fin 8) : offs1 k n = ![64 * k.val, 128 * n.val] := by
  fin_cases n
  exacts [k0_off1_eq k, k0_off2_eq k, k0_off3_eq k, k0_off4_eq k, k0_off5_eq k, k0_off6_eq k, k0_off7_eq k, k0_off8_eq k]

set_option maxHeartbeats 4000000 in
/-- What a trip stores in the memory: the eight heads' next memories. -/
theorem trip1_mem
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v9 : FVec Ideal S512x256 .f32) (v137 : FVec Ideal S4x512 .f32) (v143 : FVec Ideal S64x64 .f32)
    (v147 : FVec Ideal S64x64 .f32) (v151 : FVec Ideal S64x64 .f32) (v152 : FVec Ideal S1x64 .f32)
    (v272 : FVec Ideal S512x256 .f32) (v394 : FVec Ideal S8x64x64 .f32) (X_arg21 : BufTy.Contents (Elt Ideal) arg21.view.ty)
    (X_arg22 : BufTy.Contents (Elt Ideal) arg22.view.ty) (X_arg23 : BufTy.Contents (Elt Ideal) arg23.view.ty)
    (X_arg24 : BufTy.Contents (Elt Ideal) arg24.view.ty) (X_arg25 : BufTy.Contents (Elt Ideal) arg25.view.ty)
    (k : Fin k0_t1_loop.trips) (f27 : BufTy.Contents (Elt Ideal) arg27.view.ty) (f28 : BufTy.Contents (Elt Ideal) arg28.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v9 v137 v143 v147 v151 v152 v272 v394 X_arg21 X_arg22 X_arg23 X_arg24 X_arg25 k).2.1 f27 f28
      = pieces28 (fun n => nextV v143 v151 v152 (cut arg23 X_arg23 (offs1_inb k n)) (cut arg21 X_arg21 (offs1_inb k n))
          (cut arg25 X_arg25 (offs1_inb k n)) (cut arg24 X_arg24 (offs1_inb k n)) (old arg28 f28 n)) := by
  unfold trip_k0_t1
  dsimp only
  refine (?_ : _ = pieces28 (fun n => nextV v143 v151 v152 (cut arg23 X_arg23 (offs1_inb k n)) (cut arg21 X_arg21 (offs1_inb k n))
          (cut arg25 X_arg25 (offs1_inb k n)) (cut arg24 X_arg24 (offs1_inb k n)) (old arg28 f28 n)))
  dsimp only [pieces28, cut, offs1, old, Matrix.cons_val]
  sl_unfold_words
  dsimp only
  repeat' refine congrArg₂ List.cons (congrArg (fun w => (⟨Rect.unit (s := S8x64x64) _ ![1, 64, 64] _, w⟩ : View.Piece (Elt Ideal) S8x64x64 .f32)) ?_) ?_
  all_goals first
    | rfl
    | (generalize View.readAt (Elt Ideal) arg23.view _ X_arg23 = K
       generalize View.readAt (Elt Ideal) arg21.view _ X_arg21 = V
       generalize View.readAt (Elt Ideal) arg24.view _ X_arg24 = cs
       generalize View.readAt (Elt Ideal) arg25.view _ X_arg25 = bt
       generalize View.readAt (Elt Ideal) arg28.view _ f28 = S
       rfl)

set_option maxHeartbeats 4000000 in
/-- What a trip stores in the reads: the eight heads' reads of the chunk. -/
theorem trip1_reads
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v9 : FVec Ideal S512x256 .f32) (v137 : FVec Ideal S4x512 .f32) (v143 : FVec Ideal S64x64 .f32)
    (v147 : FVec Ideal S64x64 .f32) (v151 : FVec Ideal S64x64 .f32) (v152 : FVec Ideal S1x64 .f32)
    (v272 : FVec Ideal S512x256 .f32) (v394 : FVec Ideal S8x64x64 .f32) (X_arg21 : BufTy.Contents (Elt Ideal) arg21.view.ty)
    (X_arg22 : BufTy.Contents (Elt Ideal) arg22.view.ty) (X_arg23 : BufTy.Contents (Elt Ideal) arg23.view.ty)
    (X_arg24 : BufTy.Contents (Elt Ideal) arg24.view.ty) (X_arg25 : BufTy.Contents (Elt Ideal) arg25.view.ty)
    (k : Fin k0_t1_loop.trips) (f27 : BufTy.Contents (Elt Ideal) arg27.view.ty) (f28 : BufTy.Contents (Elt Ideal) arg28.view.ty) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v9 v137 v143 v147 v151 v152 v272 v394 X_arg21 X_arg22 X_arg23 X_arg24 X_arg25 k).1 f27 f28
      = pieces27 (offs1 k) (offs1_inb k) (fun n => readV v143 v147 v151 v152 (cut arg23 X_arg23 (offs1_inb k n))
          (cut arg21 X_arg21 (offs1_inb k n)) (cut arg22 X_arg22 (offs1_inb k n))
          (cut arg25 X_arg25 (offs1_inb k n)) (cut arg24 X_arg24 (offs1_inb k n)) (old arg28 f28 n)) := by
  unfold trip_k0_t1
  dsimp only
  refine (?_ : _ = pieces27 (offs1 k) (offs1_inb k) (fun n => readV v143 v147 v151 v152 (cut arg23 X_arg23 (offs1_inb k n))
          (cut arg21 X_arg21 (offs1_inb k n)) (cut arg22 X_arg22 (offs1_inb k n))
          (cut arg25 X_arg25 (offs1_inb k n)) (cut arg24 X_arg24 (offs1_inb k n)) (old arg28 f28 n)))
  dsimp only [pieces27, cut, offs1, old, Matrix.cons_val]
  sl_unfold_words
  dsimp only
  repeat' refine congrArg₂ List.cons (congrArg (fun w => (⟨Rect.unit (s := S512x1024) _ ![64, 64] _, w⟩ : View.Piece (Elt Ideal) S512x1024 .f32)) ?_) ?_
  all_goals first
    | rfl
    | (generalize View.readAt (Elt Ideal) arg23.view _ X_arg23 = K
       generalize View.readAt (Elt Ideal) arg21.view _ X_arg21 = V
       generalize View.readAt (Elt Ideal) arg22.view _ X_arg22 = R
       generalize View.readAt (Elt Ideal) arg24.view _ X_arg24 = cs
       generalize View.readAt (Elt Ideal) arg25.view _ X_arg25 = bt
       generalize View.readAt (Elt Ideal) arg28.view _ f28 = S
       rfl)

/-- The rows of reads a whole loop leaves, from the values of the buffers it reads. -/
theorem run1_val
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v9 : FVec Ideal S512x256 .f32) (v137 : FVec Ideal S4x512 .f32) (v143 : FVec Ideal S64x64 .f32)
    (v147 : FVec Ideal S64x64 .f32) (v151 : FVec Ideal S64x64 .f32) (v152 : FVec Ideal S1x64 .f32)
    (v272 : FVec Ideal S512x256 .f32) (v394 : FVec Ideal S8x64x64 .f32) (X_arg21 : BufTy.Contents (Elt Ideal) arg21.view.ty)
    (X_arg22 : BufTy.Contents (Elt Ideal) arg22.view.ty) (X_arg23 : BufTy.Contents (Elt Ideal) arg23.view.ty)
    (X_arg24 : BufTy.Contents (Elt Ideal) arg24.view.ty) (X_arg25 : BufTy.Contents (Elt Ideal) arg25.view.ty)
    (G27 : BufTy.Contents (Elt Ideal) arg27.view.ty) (G28 : BufTy.Contents (Elt Ideal) arg28.view.ty)
    (H : Fin 8 → Chunk.Head) (hl : ∀ n t, (H n).l t ≤ 0)
    (hmS : Is v143 (fun i j => if j < i then 1 else 0)) (hmI : Is v147 (fun i j => if j ≤ i then 1 else 0))
    (hI : Is v151 (fun i j => if i = j then 1 else 0)) (hone : ∀ j, v152 (ix2 0 j) = ((1 : ℝ) : EReal))
    (hK : ∀ (r : Fin 512) n j, arg23.view.read (Elt Ideal) X_arg23 (ix2 r (lane n j)) = (((H n).w r j : ℝ) : EReal))
    (hV : ∀ (r : Fin 512) n j, arg21.view.read (Elt Ideal) X_arg21 (ix2 r (lane n j)) = (((H n).v r j : ℝ) : EReal))
    (hR : ∀ (r : Fin 512) n j, arg22.view.read (Elt Ideal) X_arg22 (ix2 r (lane n j)) = (((H n).r r j : ℝ) : EReal))
    (hb : ∀ (r : Fin 512) n j, arg25.view.read (Elt Ideal) X_arg25 (ix2 r (lane n j)) = (((H n).b r : ℝ) : EReal))
    (hc : ∀ (r : Fin 512) n j, arg24.view.read (Elt Ideal) X_arg24 (ix2 r (lane n j)) = (((H n).cs (64 * (r.val / 64)) (r.val % 64) : ℝ) : EReal))
    (hG : ∀ (n : Fin 8) (i j : Fin 64), arg28.view.read (Elt Ideal) G28 (ix3 n i j) = 0) (r : Fin 512) (n : Fin 8) (j : Fin 64) :
    arg27.view.read (Elt Ideal) (arg27.view.writes (Elt Ideal) G27
        (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v9 v137 v143 v147 v151 v152 v272 v394 X_arg21 X_arg22 X_arg23 X_arg24 X_arg25 G27 G28 k0_t1_loop.trips).1) (ix2 r (lane n j)) = (((H n).read r j : ℝ) : EReal) := by
  have hT : k0_t1_loop.trips = 8 := by decide
  refine (loop_val arg27 arg28 G27 G28 v143 v147 v151 v152
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v9 v137 v143 v147 v151 v152 v272 v394 X_arg21 X_arg22 X_arg23 X_arg24 X_arg25 G27 G28) hT
    (fun k n => cut arg23 X_arg23 (offs1_inb k n)) (fun k n => cut arg21 X_arg21 (offs1_inb k n))
    (fun k n => cut arg22 X_arg22 (offs1_inb k n)) (fun k n => cut arg25 X_arg25 (offs1_inb k n))
    (fun k n => cut arg24 X_arg24 (offs1_inb k n)) offs1 H hl hmS hmI hI hone
    (fun k n i j => (cut_val _ _ _ k (hT ▸ k.isLt) n (offs1_eq k n) i j).trans (hK _ n j))
    (fun k n i j => (cut_val _ _ _ k (hT ▸ k.isLt) n (offs1_eq k n) i j).trans (hV _ n j))
    (fun k n i j => (cut_val _ _ _ k (hT ▸ k.isLt) n (offs1_eq k n) i j).trans (hR _ n j))
    (fun k n i j => (cut_val _ _ _ k (hT ▸ k.isLt) n (offs1_eq k n) i j).trans (hb _ n j))
    (fun k n i j => ((cut_val _ _ _ k (hT ▸ k.isLt) n (offs1_eq k n) i j).trans (hc _ n j)).trans ?_)
    offs1_inb offs1_eq rfl (fun k => ?_) hG k0_t1_loop.trips le_rfl).2 r n j (by rw [hT]; exact r.isLt)
  · rw [show 64 * ((64 * k.val + i.val) / 64) = 64 * k.val by omega, show (64 * k.val + i.val) % 64 = i.val by omega]
  · rw [pb_k0_t1_succ]
    dsimp only [tripL_k0_t1]
    rw [trip1_reads, trip1_mem]

/-- Where the chunk's blocks of the eight heads start. -/
def offs2 (k : Fin k0_t2_loop.trips) : Fin 8 → Fin 2 → ℕ :=
  ![k0_off9 k, k0_off10 k, k0_off11 k, k0_off12 k, k0_off13 k, k0_off14 k, k0_off15 k, k0_off16 k]

theorem offs2_inb (k : Fin k0_t2_loop.trips) : ∀ n a, offs2 k n a + S64x64.size a ≤ S512x1024.size a :=
  Fin.cons (k0_off9_inb k) (Fin.cons (k0_off10_inb k) (Fin.cons (k0_off11_inb k) (Fin.cons (k0_off12_inb k)
    (Fin.cons (k0_off13_inb k) (Fin.cons (k0_off14_inb k) (Fin.cons (k0_off15_inb k) (Fin.cons (k0_off16_inb k)
      (fun n => n.elim0))))))))

theorem offs2_eq (k : Fin k0_t2_loop.trips) (n : Fin 8) : offs2 k n = ![64 * k.val, 128 * n.val] := by
  fin_cases n
  exacts [k0_off9_eq k, k0_off10_eq k, k0_off11_eq k, k0_off12_eq k, k0_off13_eq k, k0_off14_eq k, k0_off15_eq k, k0_off16_eq k]

set_option maxHeartbeats 4000000 in
/-- What a trip stores in the memory: the eight heads' next memories. -/
theorem trip2_mem
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v137 : FVec Ideal S4x512 .f32) (v143 : FVec Ideal S64x64 .f32) (v147 : FVec Ideal S64x64 .f32)
    (v151 : FVec Ideal S64x64 .f32) (v152 : FVec Ideal S1x64 .f32) (v415 : FVec Ideal S512x256 .f32)
    (v475 : FVec Ideal S512x256 .f32) (c0_i32_330 : BitVec 32) (c8_i32_331 : BitVec 32)
    (X_arg21 : BufTy.Contents (Elt Ideal) arg21.view.ty) (X_arg22 : BufTy.Contents (Elt Ideal) arg22.view.ty)
    (X_arg23 : BufTy.Contents (Elt Ideal) arg23.view.ty) (X_arg24 : BufTy.Contents (Elt Ideal) arg24.view.ty)
    (X_arg25 : BufTy.Contents (Elt Ideal) arg25.view.ty)
    (k : Fin k0_t2_loop.trips) (f27 : BufTy.Contents (Elt Ideal) arg27.view.ty) (f28 : BufTy.Contents (Elt Ideal) arg28.view.ty) :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v143 v147 v151 v152 v415 v475 c0_i32_330 c8_i32_331 X_arg21 X_arg22 X_arg23 X_arg24 X_arg25 k).2.1 f27 f28
      = pieces28 (fun n => nextV v143 v151 v152 (cut arg23 X_arg23 (offs2_inb k n)) (cut arg21 X_arg21 (offs2_inb k n))
          (cut arg25 X_arg25 (offs2_inb k n)) (cut arg24 X_arg24 (offs2_inb k n)) (old arg28 f28 n)) := by
  unfold trip_k0_t2
  dsimp only
  refine (?_ : _ = pieces28 (fun n => nextV v143 v151 v152 (cut arg23 X_arg23 (offs2_inb k n)) (cut arg21 X_arg21 (offs2_inb k n))
          (cut arg25 X_arg25 (offs2_inb k n)) (cut arg24 X_arg24 (offs2_inb k n)) (old arg28 f28 n)))
  dsimp only [pieces28, cut, offs2, old, Matrix.cons_val]
  sl_unfold_words
  dsimp only
  repeat' refine congrArg₂ List.cons (congrArg (fun w => (⟨Rect.unit (s := S8x64x64) _ ![1, 64, 64] _, w⟩ : View.Piece (Elt Ideal) S8x64x64 .f32)) ?_) ?_
  all_goals first
    | rfl
    | (generalize View.readAt (Elt Ideal) arg23.view _ X_arg23 = K
       generalize View.readAt (Elt Ideal) arg21.view _ X_arg21 = V
       generalize View.readAt (Elt Ideal) arg24.view _ X_arg24 = cs
       generalize View.readAt (Elt Ideal) arg25.view _ X_arg25 = bt
       generalize View.readAt (Elt Ideal) arg28.view _ f28 = S
       rfl)

set_option maxHeartbeats 4000000 in
/-- What a trip stores in the reads: the eight heads' reads of the chunk. -/
theorem trip2_reads
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v137 : FVec Ideal S4x512 .f32) (v143 : FVec Ideal S64x64 .f32) (v147 : FVec Ideal S64x64 .f32)
    (v151 : FVec Ideal S64x64 .f32) (v152 : FVec Ideal S1x64 .f32) (v415 : FVec Ideal S512x256 .f32)
    (v475 : FVec Ideal S512x256 .f32) (c0_i32_330 : BitVec 32) (c8_i32_331 : BitVec 32)
    (X_arg21 : BufTy.Contents (Elt Ideal) arg21.view.ty) (X_arg22 : BufTy.Contents (Elt Ideal) arg22.view.ty)
    (X_arg23 : BufTy.Contents (Elt Ideal) arg23.view.ty) (X_arg24 : BufTy.Contents (Elt Ideal) arg24.view.ty)
    (X_arg25 : BufTy.Contents (Elt Ideal) arg25.view.ty)
    (k : Fin k0_t2_loop.trips) (f27 : BufTy.Contents (Elt Ideal) arg27.view.ty) (f28 : BufTy.Contents (Elt Ideal) arg28.view.ty) :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v143 v147 v151 v152 v415 v475 c0_i32_330 c8_i32_331 X_arg21 X_arg22 X_arg23 X_arg24 X_arg25 k).1 f27 f28
      = pieces27 (offs2 k) (offs2_inb k) (fun n => readV v143 v147 v151 v152 (cut arg23 X_arg23 (offs2_inb k n))
          (cut arg21 X_arg21 (offs2_inb k n)) (cut arg22 X_arg22 (offs2_inb k n))
          (cut arg25 X_arg25 (offs2_inb k n)) (cut arg24 X_arg24 (offs2_inb k n)) (old arg28 f28 n)) := by
  unfold trip_k0_t2
  dsimp only
  refine (?_ : _ = pieces27 (offs2 k) (offs2_inb k) (fun n => readV v143 v147 v151 v152 (cut arg23 X_arg23 (offs2_inb k n))
          (cut arg21 X_arg21 (offs2_inb k n)) (cut arg22 X_arg22 (offs2_inb k n))
          (cut arg25 X_arg25 (offs2_inb k n)) (cut arg24 X_arg24 (offs2_inb k n)) (old arg28 f28 n)))
  dsimp only [pieces27, cut, offs2, old, Matrix.cons_val]
  sl_unfold_words
  dsimp only
  repeat' refine congrArg₂ List.cons (congrArg (fun w => (⟨Rect.unit (s := S512x1024) _ ![64, 64] _, w⟩ : View.Piece (Elt Ideal) S512x1024 .f32)) ?_) ?_
  all_goals first
    | rfl
    | (generalize View.readAt (Elt Ideal) arg23.view _ X_arg23 = K
       generalize View.readAt (Elt Ideal) arg21.view _ X_arg21 = V
       generalize View.readAt (Elt Ideal) arg22.view _ X_arg22 = R
       generalize View.readAt (Elt Ideal) arg24.view _ X_arg24 = cs
       generalize View.readAt (Elt Ideal) arg25.view _ X_arg25 = bt
       generalize View.readAt (Elt Ideal) arg28.view _ f28 = S
       rfl)

/-- The rows of reads a whole loop leaves, from the values of the buffers it reads. -/
theorem run2_val
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v137 : FVec Ideal S4x512 .f32) (v143 : FVec Ideal S64x64 .f32) (v147 : FVec Ideal S64x64 .f32)
    (v151 : FVec Ideal S64x64 .f32) (v152 : FVec Ideal S1x64 .f32) (v415 : FVec Ideal S512x256 .f32)
    (v475 : FVec Ideal S512x256 .f32) (c0_i32_330 : BitVec 32) (c8_i32_331 : BitVec 32)
    (X_arg21 : BufTy.Contents (Elt Ideal) arg21.view.ty) (X_arg22 : BufTy.Contents (Elt Ideal) arg22.view.ty)
    (X_arg23 : BufTy.Contents (Elt Ideal) arg23.view.ty) (X_arg24 : BufTy.Contents (Elt Ideal) arg24.view.ty)
    (X_arg25 : BufTy.Contents (Elt Ideal) arg25.view.ty)
    (G27 : BufTy.Contents (Elt Ideal) arg27.view.ty) (G28 : BufTy.Contents (Elt Ideal) arg28.view.ty)
    (H : Fin 8 → Chunk.Head) (hl : ∀ n t, (H n).l t ≤ 0)
    (hmS : Is v143 (fun i j => if j < i then 1 else 0)) (hmI : Is v147 (fun i j => if j ≤ i then 1 else 0))
    (hI : Is v151 (fun i j => if i = j then 1 else 0)) (hone : ∀ j, v152 (ix2 0 j) = ((1 : ℝ) : EReal))
    (hK : ∀ (r : Fin 512) n j, arg23.view.read (Elt Ideal) X_arg23 (ix2 r (lane n j)) = (((H n).w r j : ℝ) : EReal))
    (hV : ∀ (r : Fin 512) n j, arg21.view.read (Elt Ideal) X_arg21 (ix2 r (lane n j)) = (((H n).v r j : ℝ) : EReal))
    (hR : ∀ (r : Fin 512) n j, arg22.view.read (Elt Ideal) X_arg22 (ix2 r (lane n j)) = (((H n).r r j : ℝ) : EReal))
    (hb : ∀ (r : Fin 512) n j, arg25.view.read (Elt Ideal) X_arg25 (ix2 r (lane n j)) = (((H n).b r : ℝ) : EReal))
    (hc : ∀ (r : Fin 512) n j, arg24.view.read (Elt Ideal) X_arg24 (ix2 r (lane n j)) = (((H n).cs (64 * (r.val / 64)) (r.val % 64) : ℝ) : EReal))
    (hG : ∀ (n : Fin 8) (i j : Fin 64), arg28.view.read (Elt Ideal) G28 (ix3 n i j) = 0) (r : Fin 512) (n : Fin 8) (j : Fin 64) :
    arg27.view.read (Elt Ideal) (arg27.view.writes (Elt Ideal) G27
        (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v143 v147 v151 v152 v415 v475 c0_i32_330 c8_i32_331 X_arg21 X_arg22 X_arg23 X_arg24 X_arg25 G27 G28 k0_t2_loop.trips).1) (ix2 r (lane n j)) = (((H n).read r j : ℝ) : EReal) := by
  have hT : k0_t2_loop.trips = 8 := by decide
  refine (loop_val arg27 arg28 G27 G28 v143 v147 v151 v152
    (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 v143 v147 v151 v152 v415 v475 c0_i32_330 c8_i32_331 X_arg21 X_arg22 X_arg23 X_arg24 X_arg25 G27 G28) hT
    (fun k n => cut arg23 X_arg23 (offs2_inb k n)) (fun k n => cut arg21 X_arg21 (offs2_inb k n))
    (fun k n => cut arg22 X_arg22 (offs2_inb k n)) (fun k n => cut arg25 X_arg25 (offs2_inb k n))
    (fun k n => cut arg24 X_arg24 (offs2_inb k n)) offs2 H hl hmS hmI hI hone
    (fun k n i j => (cut_val _ _ _ k (hT ▸ k.isLt) n (offs2_eq k n) i j).trans (hK _ n j))
    (fun k n i j => (cut_val _ _ _ k (hT ▸ k.isLt) n (offs2_eq k n) i j).trans (hV _ n j))
    (fun k n i j => (cut_val _ _ _ k (hT ▸ k.isLt) n (offs2_eq k n) i j).trans (hR _ n j))
    (fun k n i j => (cut_val _ _ _ k (hT ▸ k.isLt) n (offs2_eq k n) i j).trans (hb _ n j))
    (fun k n i j => ((cut_val _ _ _ k (hT ▸ k.isLt) n (offs2_eq k n) i j).trans (hc _ n j)).trans ?_)
    offs2_inb offs2_eq rfl (fun k => ?_) hG k0_t2_loop.trips le_rfl).2 r n j (by rw [hT]; exact r.isLt)
  · rw [show 64 * ((64 * k.val + i.val) / 64) = 64 * k.val by omega, show (64 * k.val + i.val) % 64 = i.val by omega]
  · rw [pb_k0_t2_succ]
    dsimp only [tripL_k0_t2]
    rw [trip2_reads, trip2_mem]

end Cert.KernelLoop

end
-- ==== Proof.KSlab.lean ====
/-
  One layer of the kernel: the blocks of the weights it reads, and the values of the buffers it fills, for the first layer and,
  the same operations grouped otherwise, for the second.
-/
module

public import proofs.«01_k».proof.Proof.KLoop
public import Idealize.ShloMosaic.Lib.VecWindow

@[expose] public section

set_option maxRecDepth 16384

noncomputable section

namespace Cert.KernelSlab

open Idealize.ShloMosaic Idealize.ShloMosaic.TcCoe Idealize.SL.Sem
open Cert.KernelIdeal Cert.KernelIdeal.Gen Cert.Model Cert.KernelRows Cert.KernelHead

/-- The blocks of one layer's weights. -/
structure Slab where
  nw : Vec Ideal S1x1x256 .f32
  wu : Vec Ideal S1x256x512 .f32
  wg : Vec Ideal S1x256x512 .f32
  c3 : Vec Ideal S1x1x1x512 .f32
  c2 : Vec Ideal S1x1x1x512 .f32
  c1 : Vec Ideal S1x1x1x512 .f32
  c0 : Vec Ideal S1x1x1x512 .f32
  cb : Vec Ideal S1x1x512 .f32
  wd : Vec Ideal S1x512x256 .f32
  wv : Vec Ideal S1x256x1024 .f32
  og : Vec Ideal S1x256x4 .f32
  wb0 : Vec Ideal S1x1x256x4 .f32
  wb1 : Vec Ideal S1x1x256x4 .f32
  wa0 : Vec Ideal S1x1x256x4 .f32
  wa1 : Vec Ideal S1x1x256x4 .f32
  al0 : Vec Ideal S1x1x1x4 .f32
  al1 : Vec Ideal S1x1x1x4 .f32
  db0 : Vec Ideal S1x1x1x4 .f32
  db1 : Vec Ideal S1x1x1x4 .f32
  bl0 : Vec Ideal S1x1x256x4 .f32
  bl1 : Vec Ideal S1x1x256x4 .f32
  wo : Vec Ideal S1x512x256 .f32

/-- The blocks hold these real weights. -/
structure Slab.Holds (B : Slab) (W : Weights) : Prop where
  nw : ∀ d : Fin 256, B.nw (ix3 0 0 d) = ((W.nw d : ℝ) : EReal)
  wu : ∀ (d : Fin 256) (c : Fin 512), B.wu (ix3 0 d c) = ((W.up d c : ℝ) : EReal)
  wg : ∀ (d : Fin 256) (c : Fin 512), B.wg (ix3 0 d c) = ((W.gate d c : ℝ) : EReal)
  c3 : ∀ c : Fin 512, B.c3 (ix4 0 0 0 c) = ((W.cw c 3 : ℝ) : EReal)
  c2 : ∀ c : Fin 512, B.c2 (ix4 0 0 0 c) = ((W.cw c 2 : ℝ) : EReal)
  c1 : ∀ c : Fin 512, B.c1 (ix4 0 0 0 c) = ((W.cw c 1 : ℝ) : EReal)
  c0 : ∀ c : Fin 512, B.c0 (ix4 0 0 0 c) = ((W.cw c 0 : ℝ) : EReal)
  cb : ∀ c : Fin 512, B.cb (ix3 0 0 c) = ((W.cb c : ℝ) : EReal)
  wd : ∀ (c : Fin 512) (d : Fin 256), B.wd (ix3 0 c d) = ((W.down c d : ℝ) : EReal)
  wv : ∀ (d : Fin 256) (n : Fin 8) (j : Fin 64), B.wv (ix3 0 d (lane n j)) = ((W.wv d (at8 (mOf n) (hOf n) j) : ℝ) : EReal)
  og : ∀ (d : Fin 256) (h : Fin 4), B.og (ix3 0 d h) = ((W.wg d h : ℝ) : EReal)
  wb0 : ∀ (d : Fin 256) (h : Fin 4), B.wb0 (ix4 0 0 d h) = ((W.wb 0 d h : ℝ) : EReal)
  wb1 : ∀ (d : Fin 256) (h : Fin 4), B.wb1 (ix4 0 0 d h) = ((W.wb 1 d h : ℝ) : EReal)
  wa0 : ∀ (d : Fin 256) (h : Fin 4), B.wa0 (ix4 0 0 d h) = ((W.wa 0 d h : ℝ) : EReal)
  wa1 : ∀ (d : Fin 256) (h : Fin 4), B.wa1 (ix4 0 0 d h) = ((W.wa 1 d h : ℝ) : EReal)
  al0 : ∀ h : Fin 4, B.al0 (ix4 0 0 0 h) = ((W.al 0 h : ℝ) : EReal)
  al1 : ∀ h : Fin 4, B.al1 (ix4 0 0 0 h) = ((W.al 1 h : ℝ) : EReal)
  db0 : ∀ h : Fin 4, B.db0 (ix4 0 0 0 h) = ((W.db 0 h : ℝ) : EReal)
  db1 : ∀ h : Fin 4, B.db1 (ix4 0 0 0 h) = ((W.db 1 h : ℝ) : EReal)
  bl0 : ∀ (d : Fin 256) (h : Fin 4), B.bl0 (ix4 0 0 d h) = ((W.bl d (at2 h 0) : ℝ) : EReal)
  bl1 : ∀ (d : Fin 256) (h : Fin 4), B.bl1 (ix4 0 0 d h) = ((W.bl d (at2 h 1) : ℝ) : EReal)
  wo : ∀ (h : Fin 4) (j : Fin 64) (d : Fin 256), B.wo (ix3 0 (lane4 h ⟨j.val, by omega⟩) d) = ((W.wo (at4 h j) d : ℝ) : EReal)

/-- The divisor of the mean of squares. -/
abbrev c256 : Ideal .f32 := FloatOps.ofBits FTy.f32 1132462080#32

abbrev Slab.nx (B : Slab) (x : FVec Ideal S512x256 .f32) : FVec Ideal S512x256 .f32 := k0_pay345 x (k0_pay343 B.nw) (k0_pay344 x) c256
abbrev Slab.ca (B : Slab) (x : FVec Ideal S512x256 .f32) : FVec Ideal S512x512 .f32 :=
  k0_pay347 x (k0_pay343 B.nw) (k0_pay344 x) c256 B.wu B.c3 B.c2 B.c1
abbrev Slab.up (B : Slab) (x : FVec Ideal S512x256 .f32) : FVec Ideal S512x512 .f32 :=
  k0_pay348 x (k0_pay343 B.nw) (k0_pay344 x) c256 B.wu
/-- The row entering the memory. -/
abbrev Slab.u (B : Slab) (x : FVec Ideal S512x256 .f32) : FVec Ideal S512x256 .f32 :=
  k0_pay349 (B.nx x) (B.ca x) (B.up x) B.c0 B.cb B.wg B.wd
abbrev Slab.vals (B : Slab) (x : FVec Ideal S512x256 .f32) : FVec Ideal S512x1024 .f32 :=
  k0_pay350 (B.nx x) (B.ca x) (B.up x) B.c0 B.cb B.wg B.wd B.wv
abbrev Slab.rk (B : Slab) (x : FVec Ideal S512x256 .f32) : FVec Ideal S512x256 .f32 :=
  k0_pay351 k0_pay329 (B.nx x) (B.ca x) (B.up x) B.c0 B.cb B.wg B.wd
abbrev Slab.rks (B : Slab) (x : FVec Ideal S512x256 .f32) (rp : Vec Ideal S256x1024 .f32) : FVec Ideal S512x1024 .f32 :=
  k0_pay354 (B.rk x) (k0_pay352 rp)
abbrev Slab.wks (B : Slab) (x : FVec Ideal S512x256 .f32) (rp : Vec Ideal S256x1024 .f32) : FVec Ideal S512x1024 .f32 :=
  k0_pay355 (B.rk x) (k0_pay352 rp)
abbrev Slab.btc (B : Slab) (x : FVec Ideal S512x256 .f32) : FVec Ideal S512x1024 .f32 :=
  k0_pay371 e8 (k0_pay356 (B.u x) B.wb0) (k0_pay365 (B.u x) B.wb1)
abbrev Slab.csc (B : Slab) (x : FVec Ideal S512x256 .f32) : FVec Ideal S512x1024 .f32 :=
  rowCs (B.u x) (rowLd (B.u x) B.wa0 B.db0 B.al0) B.wa1 B.db1 B.al1
abbrev Slab.blc (B : Slab) (x : FVec Ideal S512x256 .f32) : FVec Ideal S512x1024 .f32 :=
  k0_pay373 e8 (B.u x) (k0_pay364 (B.u x) B.bl0) B.bl1

section Values

variable {B : Slab} {W : Weights} (hB : B.Holds W) {x : FVec Ideal S512x256 .f32} {X : ℕ → Fin 256 → ℝ}
  (hx : ∀ (r : Fin 512) (d : Fin 256), x (ix2 r d) = ((X r d : ℝ) : EReal)) (r : Fin 512)

include hB hx

theorem u_val (r : Fin 512) (d : Fin 256) : B.u x (ix2 r d) = ((mix W X r d : ℝ) : EReal) :=
  rowU_val x X hx W B.nw B.wu B.wg B.c3 B.c2 B.c1 B.c0 B.cb B.wd hB.nw hB.wu hB.wg hB.c3 hB.c2 hB.c1 hB.c0 hB.cb hB.wd r d

theorem vals_is (n : Fin 8) (j : Fin 64) : B.vals x (ix2 r (lane n j)) = (((head W (mix W X) (mOf n) (hOf n)).v r j : ℝ) : EReal) :=
  vals_val (mix W X) W _ _ _ _ _ _ _ (u_val hB hx) B.wv hB.wv r n j

theorem rk_is (h : Fin 4) (e : Fin 64) : B.rk x (ix2 r (at4 h e)) = ((unitKey (mix W X r) h e : ℝ) : EReal) :=
  rk0_val (mix W X) _ _ _ _ _ _ _ (u_val hB hx) r h e

section Turned

variable {rp : Vec Ideal S256x1024 .f32}
  (hrp : ∀ (d : Fin 256) (n : Fin 8) (j : Fin 64), rp (ix2 d (lane n j))
    = if d = at4 (hOf n) (src (mOf n) j) then ((sgn (mOf n) j : ℝ) : EReal) else 0)

include hrp

theorem rks_is (n : Fin 8) (j : Fin 64) : B.rks x rp (ix2 r (lane n j)) = (((head W (mix W X) (mOf n) (hOf n)).r r j : ℝ) : EReal) :=
  rks_val (mix W X) _ (k0_pay352 rp) (rk_is hB hx) (fun d n j => by pointwise [k0_pay352, hrp]) r n j

theorem wks_is (n : Fin 8) (j : Fin 64) : B.wks x rp (ix2 r (lane n j)) = (((head W (mix W X) (mOf n) (hOf n)).w r j : ℝ) : EReal) :=
  wks_val (mix W X) _ (k0_pay352 rp) (rk_is hB hx) (fun d n j => by pointwise [k0_pay352, hrp]) r n j

end Turned

theorem btc_is (n : Fin 8) (j : Fin 64) : B.btc x (ix2 r (lane n j)) = (((head W (mix W X) (mOf n) (hOf n)).b r : ℝ) : EReal) :=
  btc_val _ _ (fun r m h => beta W (mix W X r) m h) (beta_val _ (mix W X) W (u_val hB hx) B.wb0 0 hB.wb0)
    (beta_val _ (mix W X) W (u_val hB hx) B.wb1 1 hB.wb1) r n j

theorem csc_is (n : Fin 8) (j : Fin 64) : B.csc x (ix2 r (lane n j))
    = (((head W (mix W X) (mOf n) (hOf n)).cs (64 * (r.val / 64)) (r.val % 64) : ℝ) : EReal) :=
  csc_val _ (mix W X) W (u_val hB hx) _ B.wa1 B.db1 B.al1
    (rowLd_val _ (mix W X) W (u_val hB hx) B.wa0 B.db0 B.al0 0 hB.wa0 hB.db0 hB.al0) hB.wa1 hB.db1 hB.al1 r n j

theorem blc_is (r : Fin 512) (n : Fin 8) (j : Fin 64) : B.blc x (ix2 r (lane n j)) = ((blend W (mix W X r) (hOf n) (mOf n) : ℝ) : EReal) :=
  blendc_val _ (mix W X) W (u_val hB hx) _ B.bl1 (bl_val _ (mix W X) W (u_val hB hx) B.bl0 0 hB.bl0) hB.bl1 r n j

omit hB hx in
theorem blc_pad (r : Fin 512) (d : Fin 1024) (hd : 64 ≤ d.val % 128) : B.blc x (ix2 r d) = 0 :=
  blendc_pad _ _ _ r d hd

/-- The layer's row. -/
theorem layer_is {R Bl : Vec Ideal S512x1024 .f32}
    (hR : ∀ (r : Fin 512) (n : Fin 8) (j : Fin 64), R (ix2 r (lane n j)) = (((head W (mix W X) (mOf n) (hOf n)).read r j : ℝ) : EReal))
    (hBl : Bl = B.blc x) (r : Fin 512) (d : Fin 256) :
    k0_pay380 x e4p (B.u x) B.og R Bl B.wo (ix2 r d) = ((layer W X r d : ℝ) : EReal) := by
  subst hBl
  exact next_val _ W X x hx (u_val hB hx) B.og hB.og R (B.blc x) B.wo hR (blc_is hB hx) blc_pad hB.wo r d

end Values

/-! ## The second layer's grouping -/

section Second

variable (B : Slab) (x : FVec Ideal S512x256 .f32) (e : FVec Ideal S4x512 .f32) (u : FVec Ideal S512x256 .f32) (og : Vec Ideal S1x256x4 .f32)
  (R Bl : Vec Ideal S512x1024 .f32) (wo : Vec Ideal S1x512x256 .f32) (rp : Vec Ideal S256x1024 .f32) (v : FVec Ideal S512x256 .f32)

/-- The first layer's row, scaled. -/
abbrev Slab.nx' : FVec Ideal S512x256 .f32 := k0_pay383 (k0_pay381 B.nw) (k0_pay382 x e u og R Bl wo)
abbrev Slab.cv' : FVec Ideal S512x512 .f32 :=
  k0_pay384 (k0_pay381 B.nw) (k0_pay382 x e u og R Bl wo) B.wu B.c3 B.c2 B.c1 B.c0
abbrev Slab.u' : FVec Ideal S512x256 .f32 := k0_pay385 (B.nx' x e u og R Bl wo) (B.cv' x e u og R Bl wo) B.cb B.wg B.wd

theorem u'_eq : B.u' x e u og R Bl wo = B.u (k0_pay380 x e u og R Bl wo) := rfl
theorem vals'_eq : k0_pay386 (B.nx' x e u og R Bl wo) (B.cv' x e u og R Bl wo) B.cb B.wg B.wd B.wv
    = B.vals (k0_pay380 x e u og R Bl wo) := rfl
theorem rks'_eq : k0_pay388 k0_pay329 (B.nx' x e u og R Bl wo) (B.cv' x e u og R Bl wo) B.cb B.wg B.wd rp
    = B.rks (k0_pay380 x e u og R Bl wo) rp := rfl
theorem wks'_eq : k0_pay389 (k0_pay387 k0_pay329 (B.nx' x e u og R Bl wo) (B.cv' x e u og R Bl wo) B.cb B.wg B.wd rp)
    = B.wks (k0_pay380 x e u og R Bl wo) rp := rfl
theorem btc'_eq : k0_pay407 e8 (k0_pay390 v B.wb0) (k0_pay399 v B.wb1) = k0_pay371 e8 (k0_pay356 v B.wb0) (k0_pay365 v B.wb1) := rfl
theorem csc'_eq : k0_pay408 e8 ctri
      (k0_pay397 (k0_pay392 B.al0) (k0_pay394 v B.wa0 B.db0) (k0_pay395 v B.wa0 B.db0) (k0_pay396 v B.wa0 B.db0))
      (k0_pay401 B.al1) (k0_pay402 v B.wa1 B.db1) (k0_pay404 v B.wa1 B.db1) (k0_pay405 v B.wa1 B.db1) (k0_pay406 v B.wa1 B.db1)
    = rowCs v (rowLd v B.wa0 B.db0 B.al0) B.wa1 B.db1 B.al1 := rfl
theorem blc'_eq : k0_pay409 e8 v (k0_pay398 v B.bl0) B.bl1 = k0_pay373 e8 v (k0_pay364 v B.bl0) B.bl1 := rfl

/-- The last normalisation and the product with the embedding. -/
def rowLogit (x : FVec Ideal S512x256 .f32) (fw : Vec Ideal S1x256 .f32) (et : Vec Ideal S256x272 .f32) : FVec Ideal S512x272 .f32 :=
  matmul dot_S512x256_S256x272_S512x272_1_0_0_1_n_n none (φ₂ := .f32)
    (mulf (mulf x (broadcastTo S512x256 (rsqrt (addf (divf (shapeCast S512x1
        (multiReduction .add [1] S512 (mulf x x) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256))
      (broadcastTo S512x256 (shapeCast S1x256 fw shapeCasts_S1x256_S1x256) broadcasts_S1x256_S512x256))
    (shapeCast S256x272 et shapeCasts_S256x272_S256x272) (constant S512x272 .f32 0x00000000#32)

theorem last_eq (x1 : FVec Ideal S512x256 .f32) (fw : Vec Ideal S1x256 .f32) (et : Vec Ideal S256x272 .f32) :
    k0_pay415 e x1 u og R Bl wo fw et = rowLogit (k0_pay380 x1 e u og R Bl wo) fw et := rfl

end Second

theorem rowLogit_is {x : FVec Ideal S512x256 .f32} {X : ℕ → Fin 256 → ℝ}
    (hx : ∀ (r : Fin 512) (d : Fin 256), x (ix2 r d) = ((X r d : ℝ) : EReal)) (fw : Vec Ideal S1x256 .f32) (w : Fin 256 → ℝ)
    (hw : ∀ d : Fin 256, fw (ix2 0 d) = ((w d : ℝ) : EReal)) (et : Vec Ideal S256x272 .f32) (emb : Fin 272 → Fin 256 → ℝ)
    (he : ∀ (d : Fin 256) (v : Fin 272), et (ix2 d v) = ((emb v d : ℝ) : EReal)) (r : Fin 512) (v : Fin 272) :
    rowLogit x fw et (ix2 r v) = ((logit w emb (X r) v : ℝ) : EReal) := by
  pointwise [rowLogit, hx, hw, he]
  refine (Finset.sum_congr rfl fun d _ => congrArg (· * ((emb v d : ℝ) : EReal)) (rms_read (X r) w d)).trans ?_
  simp only [← EReal.coe_mul, ← coe_sum]
  rfl

/-- The row of the embedding that an index picks. -/
theorem pick_is (ids : Vec Ideal S1x512x1 .i32) (emb : Vec Ideal S272x256 .f32) (E : Fin 272 → Fin 256 → ℝ)
    (he : ∀ v d, emb (ix2 v d) = ((E v d : ℝ) : EReal)) (q : ℕ → Fin 272)
    (hq : ∀ r : Fin 512, ids (ix3 0 r 0) = BitVec.ofNat 32 (q r).val) (r : Fin 512) (d : Fin 256) :
    k0_pay328 ids emb (ix2 r d) = ((E (q r) d : ℝ) : EReal) := by
  pointwise [k0_pay328, hq, he]
  have hs : ∀ k : Fin 272, Scalar.select (IntOp.cmpi CmpIPredicate.eq (BitVec.ofNat 32 k.val) (BitVec.ofNat 32 (q r).val)) ((E k d : ℝ) : EReal) 0
      = if k = q r then ((E k d : ℝ) : EReal) else 0 := fun k => by
    rw [eq_word _ _ (by omega) (by omega)]
    by_cases h : k = q r
    · simp [h, Scalar.select]
    · have h' : k.val ≠ (q r).val := fun e => h (Fin.ext e)
      simp [h, h', Scalar.select]
  rw [Finset.sum_congr rfl fun k _ => hs k, Finset.sum_ite_eq' Finset.univ (q r), if_pos (Finset.mem_univ _)]

/-! ## Buffers filled at once, and the loops -/

theorem full_read (v : Memref sig .tc .vmem S512x1024 .f32) (f : BufTy.Contents (Elt Ideal) v.view.ty)
    (inb : ∀ a, (![0, 0] : Fin 2 → ℕ) a + S512x1024.size a ≤ S512x1024.size a) (w : FVec Ideal S512x1024 .f32) (L : List (View.Piece (Elt Ideal) S512x1024 .f32)) :
    v.view.read (Elt Ideal) (v.view.writes (Elt Ideal) f (⟨Rect.unit (s := S512x1024) ![0, 0] S512x1024.size inb, w⟩ :: L)) = w :=
  View.read_writes_full v.view f inb w L

theorem masks_S : Is k0_pay335 (fun i j => if j < i then 1 else 0) := fun i j => by
  rw [trilS_val]; by_cases h : j < i
  · rw [if_pos (show j.val < i.val from h)]
    show (1 : EReal) = (((if j < i then (1 : ℝ) else 0) : ℝ) : EReal)
    rw [if_pos h, EReal.coe_one]
  · rw [if_neg (show ¬ j.val < i.val from h)]
    show (0 : EReal) = (((if j < i then (1 : ℝ) else 0) : ℝ) : EReal)
    rw [if_neg h, EReal.coe_zero]

theorem masks_I : Is k0_pay336 (fun i j => if j ≤ i then 1 else 0) := fun i j => by
  rw [trilI_val]; by_cases h : j ≤ i
  · rw [if_pos (show j.val ≤ i.val from h)]
    show (1 : EReal) = (((if j ≤ i then (1 : ℝ) else 0) : ℝ) : EReal)
    rw [if_pos h, EReal.coe_one]
  · rw [if_neg (show ¬ j.val ≤ i.val from h)]
    show (0 : EReal) = (((if j ≤ i then (1 : ℝ) else 0) : ℝ) : EReal)
    rw [if_neg h, EReal.coe_zero]

theorem masks_D : Is k0_pay337 (fun i j => if i = j then 1 else 0) := fun i j => by
  rw [I64_val]; by_cases h : i = j
  · rw [if_pos (show i.val = j.val from congrArg Fin.val h)]
    show (1 : EReal) = (((if i = j then (1 : ℝ) else 0) : ℝ) : EReal)
    rw [if_pos h, EReal.coe_one]
  · rw [if_neg (show ¬ i.val = j.val from fun e => h (Fin.ext e))]
    show (0 : EReal) = (((if i = j then (1 : ℝ) else 0) : ℝ) : EReal)
    rw [if_neg h, EReal.coe_zero]

theorem masks_one (j : Fin 64) : (k0_pay338 : FVec Ideal S1x64 .f32) (ix2 0 j) = ((1 : ℝ) : EReal) := by
  rw [ones_val, EReal.coe_one]

end Cert.KernelSlab

end
-- ==== Proof.KAsm.lean ====
/-
  The kernel's layers put together: the reads of both memory loops, and the logits of one sequence.
-/
module

public import proofs.«01_k».proof.Proof.KSlab

@[expose] public section

set_option maxRecDepth 16384

noncomputable section

namespace Cert.KernelSlab

open Idealize.ShloMosaic Idealize.ShloMosaic.TcCoe Idealize.SL.Sem
open Cert.KernelIdeal Cert.KernelIdeal.Gen Cert.Model Cert.KernelRows Cert.KernelHead Cert.KernelLoop

/-- The reads a layer's loop leaves, over what the buffers were filled with. -/
theorem reads1_is
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v137 : FVec Ideal S4x512 .f32) (v272 : FVec Ideal S512x256 .f32)
    (v394 : FVec Ideal S8x64x64 .f32)
    (inb : ∀ a, (![0, 0] : Fin 2 → ℕ) a + S512x1024.size a ≤ S512x1024.size a)
    (inb' : ∀ a, (![0, 0, 0] : Fin 3 → ℕ) a + S8x64x64.size a ≤ S8x64x64.size a)
    (w21 w22 w23 w24 w25 : FVec Ideal S512x1024 .f32) (z : FVec Ideal S8x64x64 .f32)
    (L21 L22 L23 L24 L25 L27 : List (View.Piece (Elt Ideal) S512x1024 .f32)) (L28 : List (View.Piece (Elt Ideal) S8x64x64 .f32))
    {B : Slab} {W : Weights} (hB : B.Holds W) {x : FVec Ideal S512x256 .f32} {X : ℕ → Fin 256 → ℝ}
    (hx : ∀ (r : Fin 512) (d : Fin 256), x (ix2 r d) = ((X r d : ℝ) : EReal)) {rp : Vec Ideal S256x1024 .f32}
    (hrp : ∀ (d : Fin 256) (n : Fin 8) (j : Fin 64), rp (ix2 d (lane n j))
      = if d = at4 (hOf n) (src (mOf n) j) then ((sgn (mOf n) j : ℝ) : EReal) else 0)
    (h21 : w21 = B.vals x) (h22 : w22 = B.rks x rp) (h23 : w23 = B.wks x rp) (h24 : w24 = B.csc x) (h25 : w25 = B.btc x)
    (hz : ∀ (n : Fin 8) (i j : Fin 64), z (ix3 n i j) = 0) (r : Fin 512) (n : Fin 8) (j : Fin 64) :
    arg27.view.readCov ((pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x v137 k0_pay335 k0_pay336 k0_pay337 k0_pay338 v272 v394
        (arg21.view.writes (Elt Ideal) arg21.view.junk (⟨Rect.unit (s := S512x1024) ![0, 0] S512x1024.size inb, w21⟩ :: L21))
        (arg22.view.writes (Elt Ideal) arg22.view.junk (⟨Rect.unit (s := S512x1024) ![0, 0] S512x1024.size inb, w22⟩ :: L22))
        (arg23.view.writes (Elt Ideal) arg23.view.junk (⟨Rect.unit (s := S512x1024) ![0, 0] S512x1024.size inb, w23⟩ :: L23))
        (arg24.view.writes (Elt Ideal) arg24.view.junk (⟨Rect.unit (s := S512x1024) ![0, 0] S512x1024.size inb, w24⟩ :: L24))
        (arg25.view.writes (Elt Ideal) arg25.view.junk (⟨Rect.unit (s := S512x1024) ![0, 0] S512x1024.size inb, w25⟩ :: L25))
        (arg27.view.writes (Elt Ideal) arg27.view.junk L27)
        (arg28.view.writes (Elt Ideal) arg28.view.junk (⟨Rect.unit (s := S8x64x64) ![0, 0, 0] S8x64x64.size inb', z⟩ :: L28))
        k0_t1_loop.trips).1 ++ L27) (Rect.unit (s := S512x1024) ![0, 0] S512x1024.size inb).toLoadRect (ix2 r (lane n j))
      = (((head W (mix W X) (mOf n) (hOf n)).read r j : ℝ) : EReal) := by
  subst h21 h22 h23 h24 h25
  unfold View.readCov
  rw [View.readAt_full, View.writes_append]
  refine run1_val (H := fun n => head W (mix W X) (mOf n) (hOf n)) (hl := fun n t => ld_nonpos W _ _ _) (hmS := masks_S) (hmI := masks_I)
    (hI := masks_D) (hone := masks_one) (hK := fun r n j => ?_) (hV := fun r n j => ?_) (hR := fun r n j => ?_) (hb := fun r n j => ?_)
    (hc := fun r n j => ?_) (hG := fun n i j => ?_) ..
  · rw [full_read]; exact wks_is hB hx r hrp n j
  · rw [full_read]; exact vals_is hB hx r n j
  · rw [full_read]; exact rks_is hB hx r hrp n j
  · rw [full_read]; exact btc_is hB hx r n j
  · rw [full_read]; exact csc_is hB hx r n j
  · rw [View.read_writes_full arg28.view _ inb' z L28]; exact hz n i j

/-- The reads a layer's loop leaves, over what the buffers were filled with. -/
theorem reads2_is
    (𝒱 : Variants) (c : Dev nD) (bd : Option 𝒱.V) (i : grid0.Coords) (arg1 : Memref sig .tc .vmem S1x512x1 .i32)
    (harg1 : arg1.IsWhole) (arg2 : Memref sig .tc .vmem S272x256 .f32) (harg2 : arg2.IsWhole)
    (arg3 : Memref sig .tc .vmem S256x272 .f32) (harg3 : arg3.IsWhole) (arg4 : Memref sig .tc .vmem S2x1x256 .f32)
    (harg4 : arg4.IsWhole) (arg5 : Memref sig .tc .vmem S2x256x512 .f32) (harg5 : arg5.IsWhole)
    (arg6 : Memref sig .tc .vmem S2x256x512 .f32) (harg6 : arg6.IsWhole) (arg7 : Memref sig .tc .vmem S2x512x256 .f32)
    (harg7 : arg7.IsWhole) (arg8 : Memref sig .tc .vmem S2x4x1x512 .f32) (harg8 : arg8.IsWhole)
    (arg9 : Memref sig .tc .vmem S2x1x512 .f32) (harg9 : arg9.IsWhole) (arg10 : Memref sig .tc .vmem S2x256x1024 .f32)
    (harg10 : arg10.IsWhole) (arg11 : Memref sig .tc .vmem S2x256x4 .f32) (harg11 : arg11.IsWhole)
    (arg12 : Memref sig .tc .vmem S2x2x256x4 .f32) (harg12 : arg12.IsWhole) (arg13 : Memref sig .tc .vmem S2x2x256x4 .f32)
    (harg13 : arg13.IsWhole) (arg14 : Memref sig .tc .vmem S2x2x1x4 .f32) (harg14 : arg14.IsWhole)
    (arg15 : Memref sig .tc .vmem S2x2x1x4 .f32) (harg15 : arg15.IsWhole) (arg16 : Memref sig .tc .vmem S2x2x256x4 .f32)
    (harg16 : arg16.IsWhole) (arg17 : Memref sig .tc .vmem S2x512x256 .f32) (harg17 : arg17.IsWhole)
    (arg18 : Memref sig .tc .vmem S1x256 .f32) (harg18 : arg18.IsWhole) (arg19 : Memref sig .tc .vmem S256x1024 .f32)
    (harg19 : arg19.IsWhole) (arg20 : Memref sig .tc .vmem S1x512x272 .f32) (harg20 : arg20.IsWhole)
    (arg21 : Memref sig .tc .vmem S512x1024 .f32) (harg21 : arg21.IsWhole) (arg22 : Memref sig .tc .vmem S512x1024 .f32)
    (harg22 : arg22.IsWhole) (arg23 : Memref sig .tc .vmem S512x1024 .f32) (harg23 : arg23.IsWhole)
    (arg24 : Memref sig .tc .vmem S512x1024 .f32) (harg24 : arg24.IsWhole) (arg25 : Memref sig .tc .vmem S512x1024 .f32)
    (harg25 : arg25.IsWhole) (arg26 : Memref sig .tc .vmem S512x1024 .f32) (harg26 : arg26.IsWhole)
    (arg27 : Memref sig .tc .vmem S512x1024 .f32) (harg27 : arg27.IsWhole) (arg28 : Memref sig .tc .vmem S8x64x64 .f32)
    (harg28 : arg28.IsWhole) (v137 : FVec Ideal S4x512 .f32) (v475 : FVec Ideal S512x256 .f32)
    (c0_i32_330 : BitVec 32) (c8_i32_331 : BitVec 32)
    (inb : ∀ a, (![0, 0] : Fin 2 → ℕ) a + S512x1024.size a ≤ S512x1024.size a)
    (inb' : ∀ a, (![0, 0, 0] : Fin 3 → ℕ) a + S8x64x64.size a ≤ S8x64x64.size a)
    (w21 w22 w23 w24 w25 : FVec Ideal S512x1024 .f32) (z : FVec Ideal S8x64x64 .f32)
    (L21 L22 L23 L24 L25 L27 : List (View.Piece (Elt Ideal) S512x1024 .f32)) (L28 : List (View.Piece (Elt Ideal) S8x64x64 .f32))
    {B : Slab} {W : Weights} (hB : B.Holds W) {x : FVec Ideal S512x256 .f32} {X : ℕ → Fin 256 → ℝ}
    (hx : ∀ (r : Fin 512) (d : Fin 256), x (ix2 r d) = ((X r d : ℝ) : EReal)) {rp : Vec Ideal S256x1024 .f32}
    (hrp : ∀ (d : Fin 256) (n : Fin 8) (j : Fin 64), rp (ix2 d (lane n j))
      = if d = at4 (hOf n) (src (mOf n) j) then ((sgn (mOf n) j : ℝ) : EReal) else 0)
    (h21 : w21 = B.vals x) (h22 : w22 = B.rks x rp) (h23 : w23 = B.wks x rp) (h24 : w24 = B.csc x) (h25 : w25 = B.btc x)
    (hz : ∀ (n : Fin 8) (i j : Fin 64), z (ix3 n i j) = 0) (r : Fin 512) (n : Fin 8) (j : Fin 64) :
    arg27.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v137 k0_pay335 k0_pay336 k0_pay337 k0_pay338 x v475 c0_i32_330 c8_i32_331
        (arg21.view.writes (Elt Ideal) arg21.view.junk (⟨Rect.unit (s := S512x1024) ![0, 0] S512x1024.size inb, w21⟩ :: L21))
        (arg22.view.writes (Elt Ideal) arg22.view.junk (⟨Rect.unit (s := S512x1024) ![0, 0] S512x1024.size inb, w22⟩ :: L22))
        (arg23.view.writes (Elt Ideal) arg23.view.junk (⟨Rect.unit (s := S512x1024) ![0, 0] S512x1024.size inb, w23⟩ :: L23))
        (arg24.view.writes (Elt Ideal) arg24.view.junk (⟨Rect.unit (s := S512x1024) ![0, 0] S512x1024.size inb, w24⟩ :: L24))
        (arg25.view.writes (Elt Ideal) arg25.view.junk (⟨Rect.unit (s := S512x1024) ![0, 0] S512x1024.size inb, w25⟩ :: L25))
        (arg27.view.writes (Elt Ideal) arg27.view.junk L27)
        (arg28.view.writes (Elt Ideal) arg28.view.junk (⟨Rect.unit (s := S8x64x64) ![0, 0, 0] S8x64x64.size inb', z⟩ :: L28))
        k0_t2_loop.trips).1 ++ L27) (Rect.unit (s := S512x1024) ![0, 0] S512x1024.size inb).toLoadRect (ix2 r (lane n j))
      = (((head W (mix W X) (mOf n) (hOf n)).read r j : ℝ) : EReal) := by
  subst h21 h22 h23 h24 h25
  unfold View.readCov
  rw [View.readAt_full, View.writes_append]
  refine run2_val (H := fun n => head W (mix W X) (mOf n) (hOf n)) (hl := fun n t => ld_nonpos W _ _ _) (hmS := masks_S) (hmI := masks_I)
    (hI := masks_D) (hone := masks_one) (hK := fun r n j => ?_) (hV := fun r n j => ?_) (hR := fun r n j => ?_) (hb := fun r n j => ?_)
    (hc := fun r n j => ?_) (hG := fun n i j => ?_) ..
  · rw [full_read]; exact wks_is hB hx r hrp n j
  · rw [full_read]; exact vals_is hB hx r n j
  · rw [full_read]; exact rks_is hB hx r hrp n j
  · rw [full_read]; exact btc_is hB hx r n j
  · rw [full_read]; exact csc_is hB hx r n j
  · rw [View.read_writes_full arg28.view _ inb' z L28]; exact hz n i j

end Cert.KernelSlab

end
-- ==== Proof.BlocksKernelIdeal.lean ====
/-
  The final output array of `KernelIdeal` block by block: block `t` is what grid point `t` wrote (`blocks19`, `flushed19_A`),
  and the run with that array named (`run_blocks`). The text is the generated value module's, set on `FrameKernelIdeal`. -/
module

public import proofs.«01_k».proof.Proof.FrameKernelIdeal
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`), read through the window's block. -/
theorem flushed19 (c : Dev nD) (t : Fin cfg0.N) :
    (dats m 0 c).flushed 19 t = (cfg0.win 19).cut (grid0.coords t) (outsAt0 m c t) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0]

/-- The index map sends distinct grid points to distinct block indices (decided over the 8 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S8x512x272.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v42) = (dats m 0 c).arrAt 19 cfg0.N :=
  (h c).1 19

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: input window 6 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 10 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 10).trans (((dats m 0 c).arrAt_in 10 rfl _).trans ((A_eq m c 10).trans (V_main_arg9 m c)))

/-- After the frame run, argument `main_arg10` is as launched: input window 11 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 11).trans (((dats m 0 c).arrAt_in 11 rfl _).trans ((A_eq m c 11).trans (V_main_arg10 m c)))

/-- After the frame run, argument `main_arg11` is as launched: input window 12 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 12).trans (((dats m 0 c).arrAt_in 12 rfl _).trans ((A_eq m c 12).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v42) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.KernelIdeal.Value

end
-- ==== Proof.Args.lean ====
/-
  The arguments as the model's numbers: what every entry being finite and every token id naming a row of the table give.
-/
module

public import proofs.«01_k».proof.Pre_tame
public import proofs.«01_k».proof.Proof.Gen.Pre_tame
public import proofs.«01_k».proof.Proof.Model
public import Idealize.ShloMosaic.Lib.ReduceAll
public import Idealize.ShloMosaic.Lib.Pointwise

@[expose] public section

noncomputable section

namespace Cert.Args

open Idealize.ShloMosaic Idealize.ShloMosaic.TcCoe Idealize.SL.Sem
open Cert.Pre_tame Cert.Pre_tame.Facts Cert.Model

section

variable (a0 : IVec S8x512 32)
  (a1 : FVec Ideal S272x256 .f32) (a2 : FVec Ideal S2x256 .f32) (a3 : FVec Ideal S2x256x512 .f32)
  (a4 : FVec Ideal S2x256x512 .f32) (a5 : FVec Ideal S2x512x256 .f32) (a6 : FVec Ideal S2x512x4 .f32)
  (a7 : FVec Ideal S2x512 .f32) (a8 : FVec Ideal S2x256x512 .f32) (a9 : FVec Ideal S2x256x4 .f32)
  (a10 : FVec Ideal S2x2x256x4 .f32) (a11 : FVec Ideal S2x2x256x4 .f32) (a12 : FVec Ideal S2x2x4 .f32)
  (a13 : FVec Ideal S2x2x4 .f32) (a14 : FVec Ideal S2x256x8 .f32) (a15 : FVec Ideal S2x256x256 .f32)
  (a16 : FVec Ideal S256 .f32)

/-- The arrays hold the layers' weights `W`, the table `E`, the token ids `q` and the last norm's weights `w`. -/
structure Means (W : Fin 2 → Weights) (E : Fin 272 → Fin 256 → ℝ) (q : Fin 8 → ℕ → Fin 272) (w : Fin 256 → ℝ) : Prop where
  id : ∀ b (t : Fin 512), a0 (ix2 b t) = BitVec.ofNat 32 (q b t).val
  emb : ∀ v d, a1 (ix2 v d) = ((E v d : ℝ) : EReal)
  nw : ∀ l d, a2 (ix2 l d) = (((W l).nw d : ℝ) : EReal)
  up : ∀ l d c, a3 (ix3 l d c) = (((W l).up d c : ℝ) : EReal)
  gate : ∀ l d c, a4 (ix3 l d c) = (((W l).gate d c : ℝ) : EReal)
  down : ∀ l c d, a5 (ix3 l c d) = (((W l).down c d : ℝ) : EReal)
  cw : ∀ l c j, a6 (ix3 l c j) = (((W l).cw c j : ℝ) : EReal)
  cb : ∀ l c, a7 (ix2 l c) = (((W l).cb c : ℝ) : EReal)
  wv : ∀ l d c, a8 (ix3 l d c) = (((W l).wv d c : ℝ) : EReal)
  wg : ∀ l d h, a9 (ix3 l d h) = (((W l).wg d h : ℝ) : EReal)
  wb : ∀ l m d h, a10 (ix4 l m d h) = (((W l).wb m d h : ℝ) : EReal)
  wa : ∀ l m d h, a11 (ix4 l m d h) = (((W l).wa m d h : ℝ) : EReal)
  al : ∀ l m h, a12 (ix3 l m h) = (((W l).al m h : ℝ) : EReal)
  db : ∀ l m h, a13 (ix3 l m h) = (((W l).db m h : ℝ) : EReal)
  bl : ∀ l d c, a14 (ix3 l d c) = (((W l).bl d c : ℝ) : EReal)
  wo : ∀ l c d, a15 (ix3 l c d) = (((W l).wo c d : ℝ) : EReal)
  fw : ∀ d, a16 (ix1 d) = ((w d : ℝ) : EReal)

end

theorem real_of {s : Shape} {axes : List (Fin s.rank)} (a : FVec Ideal s .f32) (hb : S_.BroadcastsInDim s (![] : Fin 0 → Fin s.rank))
    (hr : s.ReducesTo axes S_) (j : S_.Idx)
    (e : Host.reduce IntOp.andi (cmpf .olt (Host.absf a) (broadcastInDim s ![] hb (constant (F := Ideal) S_ .f32 0x7F800000#32)))
      (constantI S_ 1 1#1) hr Facts.h_S_ j = 1#1) (i : s.Idx) : a i = ((a i).toReal : EReal) := by
  haveI : Subsingleton S_.Idx := ⟨fun x y => funext fun k => k.elim0⟩
  have h := Host.reduce_andi_all _ _ _ _ j e i
  rw [show cmpf .olt (Host.absf a) (broadcastInDim s ![] hb (constant (F := Ideal) S_ .f32 0x7F800000#32)) i
    = Ideal.cmp .olt (max (a i) (-(a i))) ⊤ from by
      have htop : Ideal.ofBits .f32 0x7F800000#32 = ⊤ := by simp [Ideal.ofBits, Ideal.ieee]
      pointwise
      rw [htop]
      rfl] at h
  have hl := (Ideal.cmp_olt_eq_one _ _).1 h
  refine (EReal.coe_toReal (fun e => ?_) fun e => ?_).symm
  · rw [e] at hl; simp at hl
  · rw [e] at hl; simp at hl

theorem id_of (a : IVec S8x512 32) (hb : S_.BroadcastsInDim S8x512 (![] : Fin 0 → Fin S8x512.rank))
    {axes : List (Fin S8x512.rank)} (hr : S8x512.ReducesTo axes S_) (j : S_.Idx)
    (e : Host.reduce IntOp.andi (cmpi .sge a (broadcastInDim S8x512 ![] hb (constantI S_ 32 0#32))) (constantI S_ 1 1#1) hr Facts.h_S_ j = 1#1)
    (e' : Host.reduce IntOp.andi (cmpi .slt a (broadcastInDim S8x512 ![] hb (constantI S_ 32 272#32))) (constantI S_ 1 1#1) hr Facts.h_S_ j = 1#1)
    (i : S8x512.Idx) : (a i).toNat < 272 := by
  haveI : Subsingleton S_.Idx := ⟨fun x y => funext fun k => k.elim0⟩
  have h := Host.reduce_andi_all _ _ _ _ j e i
  have h' := Host.reduce_andi_all _ _ _ _ j e' i
  have g := IntOp.cmpi_sge.1 h
  have g' := IntOp.cmpi_slt.1 h'
  rw [show broadcastInDim S8x512 ![] hb (constantI S_ 32 0#32) i = 0#32 from rfl] at g
  rw [show broadcastInDim S8x512 ![] hb (constantI S_ 32 272#32) i = 272#32 from rfl] at g'
  rw [show (0#32 : BitVec 32).toInt = 0 from rfl, BitVec.toInt_eq_toNat_cond] at g
  rw [show (272#32 : BitVec 32).toInt = 272 from rfl, BitVec.toInt_eq_toNat_cond] at g'
  split at g <;> omega

/-- Arrays that the precondition holds of mean some numbers. -/
theorem means_of (a0 : IVec S8x512 32)
  (a1 : FVec Ideal S272x256 .f32) (a2 : FVec Ideal S2x256 .f32) (a3 : FVec Ideal S2x256x512 .f32)
  (a4 : FVec Ideal S2x256x512 .f32) (a5 : FVec Ideal S2x512x256 .f32) (a6 : FVec Ideal S2x512x4 .f32)
  (a7 : FVec Ideal S2x512 .f32) (a8 : FVec Ideal S2x256x512 .f32) (a9 : FVec Ideal S2x256x4 .f32)
  (a10 : FVec Ideal S2x2x256x4 .f32) (a11 : FVec Ideal S2x2x256x4 .f32) (a12 : FVec Ideal S2x2x4 .f32)
  (a13 : FVec Ideal S2x2x4 .f32) (a14 : FVec Ideal S2x256x8 .f32) (a15 : FVec Ideal S2x256x256 .f32)
  (a16 : FVec Ideal S256 .f32)
    (h : Cert.Pre_tame.fn (F := Ideal) a0 a1 a2 a3 a4 a5 a6 a7 a8 a9 a10 a11 a12 a13 a14 a15 a16 = fun _ => 1#1) : ∃ W E q w, Means a0 a1 a2 a3 a4 a5 a6 a7 a8 a9 a10 a11 a12 a13 a14 a15 a16 W E q w := by
  have e := congrFun h (Shape.Idx.first Facts.h_S_)
  dsimp only [fn, fn_part1, fn_part2, fn_part3, fn_part4, fn_part5] at e
  have both : ∀ (x y : IVec S_ 1) (k : S_.Idx), andi x y k = 1#1 ↔ x k = 1#1 ∧ y k = 1#1 := fun x y k => IntOp.andi_eq_one
  simp only [both] at e

  obtain ⟨⟨⟨⟨⟨⟨⟨⟨⟨⟨⟨⟨⟨⟨⟨⟨⟨h0a, h0b⟩, h1⟩, h2⟩, h3⟩, h4⟩, h5⟩, h6⟩, h7⟩, h8⟩, h9⟩, h10⟩, h11⟩, h12⟩, h13⟩, h14⟩, h15⟩, h16⟩ := e
  have hq := id_of a0 _ _ _ h0a h0b
  refine ⟨fun l => {
    nw := fun d => (a2 (ix2 l d)).toReal,
    up := fun d c => (a3 (ix3 l d c)).toReal,
    gate := fun d c => (a4 (ix3 l d c)).toReal,
    down := fun c d => (a5 (ix3 l c d)).toReal,
    cw := fun c j => (a6 (ix3 l c j)).toReal,
    cb := fun c => (a7 (ix2 l c)).toReal,
    wv := fun d c => (a8 (ix3 l d c)).toReal,
    wg := fun d h => (a9 (ix3 l d h)).toReal,
    wb := fun m d h => (a10 (ix4 l m d h)).toReal,
    wa := fun m d h => (a11 (ix4 l m d h)).toReal,
    al := fun m h => (a12 (ix3 l m h)).toReal,
    db := fun m h => (a13 (ix3 l m h)).toReal,
    bl := fun d c => (a14 (ix3 l d c)).toReal,
    wo := fun c d => (a15 (ix3 l c d)).toReal }, fun v d => (a1 (ix2 v d)).toReal,
    fun b t => if ht : t < 512 then ⟨(a0 (ix2 b ⟨t, ht⟩)).toNat, hq _⟩ else 0, fun d => (a16 (ix1 d)).toReal, ?_⟩
  exact {
    id := fun b t => by simp
    emb := fun v d => real_of _ _ _ _ h1 (ix2 v d)
    nw := fun l d => real_of _ _ _ _ h2 (ix2 l d)
    up := fun l d c => real_of _ _ _ _ h3 (ix3 l d c)
    gate := fun l d c => real_of _ _ _ _ h4 (ix3 l d c)
    down := fun l c d => real_of _ _ _ _ h5 (ix3 l c d)
    cw := fun l c j => real_of _ _ _ _ h6 (ix3 l c j)
    cb := fun l c => real_of _ _ _ _ h7 (ix2 l c)
    wv := fun l d c => real_of _ _ _ _ h8 (ix3 l d c)
    wg := fun l d h => real_of _ _ _ _ h9 (ix3 l d h)
    wb := fun l m d h => real_of _ _ _ _ h10 (ix4 l m d h)
    wa := fun l m d h => real_of _ _ _ _ h11 (ix4 l m d h)
    al := fun l m h => real_of _ _ _ _ h12 (ix3 l m h)
    db := fun l m h => real_of _ _ _ _ h13 (ix3 l m h)
    bl := fun l d c => real_of _ _ _ _ h14 (ix3 l d c)
    wo := fun l c d => real_of _ _ _ _ h15 (ix3 l c d)
    fw := fun d => real_of _ _ _ _ h16 (ix1 d) }

end Cert.Args

end
-- ==== Proof.KHost.lean ====
/-
  What the kernel's windows hold at a grid point, as entries of the arguments: the host's preparation of the operands read entry by
  entry, and the two layers' weight blocks against the real weights the arguments hold.
-/
module

public import proofs.«01_k».proof.Proof.KAsm
public import proofs.«01_k».proof.Proof.BlocksKernelIdeal
public import proofs.«01_k».proof.Proof.Args
public import Idealize.ShloMosaic.Lib.Pipeline.ValueKit
public import Idealize.ShloMosaic.Lib.StableHlo.ReadAt

@[expose] public section

set_option maxRecDepth 16384

noncomputable section

namespace Cert.KernelHost

open Idealize.ShloMosaic Idealize.ShloMosaic.TcCoe Idealize.SL.Sem
open Cert.KernelIdeal Cert.KernelIdeal.Gen Cert.Model Cert.KernelRows Cert.KernelHead Cert.KernelLoop Cert.KernelSlab Cert.Args

variable (m : (ℓ : Loc nD τ sig) → Buf (Elt Ideal) ℓ) (c : Dev nD) (t : Fin cfg0.N)

/-! ## The operands the host prepares -/

theorem V0 (b : Fin 8) (r : Fin 512) : V m c main_v0 (ix3 b r 0)
    = m ((c : Thread nD τ).loc main_arg0) (ix2 b r) := by
  simp only [V, List.flatten_cons, List.flatten_nil, List.append_nil]
  after_reads_at

theorem V1 (d : Fin 256) (v : Fin 272) : V m c main_v1 (ix2 d v)
    = m ((c : Thread nD τ).loc main_arg1) (ix2 v d) := by
  simp only [V, List.flatten_cons, List.flatten_nil, List.append_nil]
  after_reads_at

theorem V2 (l : Fin 2) (d : Fin 256) : V m c main_v2 (ix3 l 0 d)
    = m ((c : Thread nD τ).loc main_arg2) (ix2 l d) := by
  simp only [V, List.flatten_cons, List.flatten_nil, List.append_nil]
  after_reads_at

theorem V4 (l : Fin 2) (j : Fin 4) (k : Fin 512) : V m c main_v4 (ix4 l j 0 k)
    = m ((c : Thread nD τ).loc main_arg6) (ix3 l k j) := by
  simp only [V, List.flatten_cons, List.flatten_nil, List.append_nil]
  after_reads_at

theorem V5 (l : Fin 2) (k : Fin 512) : V m c main_v5 (ix3 l 0 k)
    = m ((c : Thread nD τ).loc main_arg7) (ix2 l k) := by
  simp only [V, List.flatten_cons, List.flatten_nil, List.append_nil]
  after_reads_at

theorem V8 (l p : Fin 2) (h : Fin 4) : V m c main_v8 (ix4 l p 0 h)
    = m ((c : Thread nD τ).loc main_arg12) (ix3 l p h) := by
  simp only [V, List.flatten_cons, List.flatten_nil, List.append_nil]
  after_reads_at

theorem V9 (l p : Fin 2) (h : Fin 4) : V m c main_v9 (ix4 l p 0 h)
    = m ((c : Thread nD τ).loc main_arg13) (ix3 l p h) := by
  simp only [V, List.flatten_cons, List.flatten_nil, List.append_nil]
  after_reads_at

theorem V10 (d : Fin 256) : V m c main_v10 (ix2 0 d)
    = m ((c : Thread nD τ).loc main_arg16) (ix1 d) := by
  simp only [V, List.flatten_cons, List.flatten_nil, List.append_nil]
  after_reads_at

theorem V7 (l p : Fin 2) (d : Fin 256) (h : Fin 4) : V m c main_v7 (ix4 l p d h)
    = m ((c : Thread nD τ).loc main_arg14) (ix3 l d (at2 h p)) := by
  simp only [V, List.flatten_cons, List.flatten_nil, List.append_nil]
  after_reads_at
  exact congrArg (fun k : Fin 8 => m ((c : Thread nD τ).loc main_arg14) (ix3 l d k)) (Fin.ext (by unfold at2; dsimp only; omega))

theorem V13 (l : Fin 2) (d : Fin 256) (n : Fin 8) (j : Fin 64) : V m c main_v13 (ix3 l d (lane n j))
    = m ((c : Thread nD τ).loc main_arg8) (ix3 l d (at8 (mOf n) (hOf n) j)) := by
  simp only [V, List.flatten_cons, List.flatten_nil, List.append_nil]
  after_reads_at
  have e1 : (lane n j).val / 128 = n.val := by unfold lane; dsimp only; omega
  have e2 : (lane n j).val % 128 = j.val := by unfold lane; dsimp only; omega
  rw [dif_pos (by rw [e1, e2]; exact ⟨n.2, j.2⟩)]
  exact congrArg (fun k : Fin 512 => m ((c : Thread nD τ).loc main_arg8) (ix3 l d k)) (Fin.ext (by unfold at8 mOf hOf; dsimp only; rw [e1, e2]; omega))

theorem V16 (l : Fin 2) (h : Fin 4) (j : Fin 64) (d : Fin 256) : V m c main_v16 (ix3 l (lane4 h ⟨j.val, by omega⟩) d)
    = m ((c : Thread nD τ).loc main_arg15) (ix3 l (at4 h j) d) := by
  simp only [V, List.flatten_cons, List.flatten_nil, List.append_nil]
  after_reads_at
  have e1 : (lane4 h ⟨j.val, by omega⟩).val / 128 = h.val := by unfold lane4; dsimp only; omega
  have e2 : (lane4 h ⟨j.val, by omega⟩).val % 128 = j.val := by unfold lane4; dsimp only; omega
  rw [dif_pos (by rw [e1, e2]; exact ⟨h.2, j.2⟩)]
  exact congrArg (fun k : Fin 256 => m ((c : Thread nD τ).loc main_arg15) (ix3 l k d)) (Fin.ext (by unfold at4; dsimp only; rw [e1, e2]; omega))

/-! ### The sign table -/

theorem used_word : ∀ (n : Fin 8) (j : Fin 64),
    IntOp.cmpi CmpIPredicate.slt (IntOp.andi (BitVec.ofNat 32 (lane n j).val) 127#32) 64#32 = 1#1 := by decide +kernel

theorem src_word : ∀ (n : Fin 8) (j : Fin 64),
    IntOp.ori
        (IntOp.shli ArithUnit.host (IntOp.andi (IntOp.shrui ArithUnit.host (BitVec.ofNat 32 (lane n j).val) 7#32) 3#32) 6#32)
        (IntOp.xori (IntOp.andi (BitVec.ofNat 32 (lane n j).val) 127#32) (IntOp.shrui ArithUnit.host (BitVec.ofNat 32 (lane n j).val) 9#32))
      = BitVec.ofNat 32 (at4 (hOf n) (src (mOf n) j)).val := by decide +kernel

theorem sgn_word : ∀ (n : Fin 8) (j : Fin 64),
    IntOp.cmpi CmpIPredicate.eq (IntOp.andi (BitVec.ofNat 32 (lane n j).val) 513#32) 512#32
      = BitVec.ofBool (decide (mOf n = 1 ∧ j.val % 2 = 0)) := by decide +kernel

theorem one_word (x : BitVec 1) : IntOp.andi 1#1 x = x := by revert x; decide +kernel

theorem neg_one : (FloatOps.ofBits FTy.f32 3212836864#32 : Ideal .f32) = ((-1 : ℝ) : EReal) := by
  show Ideal.ofBits .f32 3212836864#32 = _
  simp [Ideal.ofBits, Ideal.ieee]
  rw [← EReal.coe_mul]
  norm_num

theorem sel_of (b : BitVec 1) (p : Prop) [Decidable p] (h : b = BitVec.ofBool (decide p)) (x y : EReal) :
    Scalar.select b x y = if p then x else y := by
  subst h; by_cases hp : p
  · simp [hp, Scalar.select]
  · simp [hp, Scalar.select]

theorem V41 (d : Fin 256) (n : Fin 8) (j : Fin 64) : V m c main_v41 (ix2 d (lane n j))
    = if d = at4 (hOf n) (src (mOf n) j) then ((sgn (mOf n) j : ℝ) : EReal) else 0 := by
  simp only [V, List.flatten_cons, List.flatten_nil, List.append_nil]
  after_reads_at
  rw [used_word, src_word, one_word, eq_word _ _ (by omega) (by omega)]
  refine (sel_of _ _ rfl _ _).trans ?_
  simp only [id]
  pointwise
  rw [sgn_word]
  refine Eq.trans (congrArg₂ (fun x y : EReal => if d.val = (at4 (hOf n) (src (mOf n) j)).val then x else y)
    (x' := ((sgn (mOf n) j : ℝ) : EReal)) (y' := 0) ?_ rfl) ?_
  · refine (sel_of _ _ rfl _ _).trans ?_
    unfold sgn
    split_ifs
    · exact neg_one
    · exact EReal.coe_one.symm
  · simp only [Fin.ext_iff]

/-! ## The windows -/

/-- The sequence of grid point `t`. -/
def seq : Fin 8 := ⟨t.val, t.2⟩

theorem b0 (r : Fin 512) : iblk m c 0 t (ix3 0 r 0) = V m c main_v0 (ix3 (seq t) r 0) := by
  have h0 : win0_0.index t 0 = t.val := by revert t; decide +kernel
  have h1 : win0_0.index t 1 = 0 := by revert t; decide +kernel
  have h2 : win0_0.index t 2 = 0 := by revert t; decide +kernel
  blk_ext! [iblk, seq, h0, h1, h2]

theorem b1 (v : Fin 272) (d : Fin 256) : iblk m c 1 t (ix2 v d) = m ((c : Thread nD τ).loc main_arg1) (ix2 v d) := by
  have h0 : win0_1.index t 0 = 0 := by revert t; decide +kernel
  have h1 : win0_1.index t 1 = 0 := by revert t; decide +kernel
  blk_ext! [iblk, V, h0, h1]

theorem b2 (d : Fin 256) (v : Fin 272) : iblk m c 2 t (ix2 d v) = V m c main_v1 (ix2 d v) := by
  have h0 : win0_2.index t 0 = 0 := by revert t; decide +kernel
  have h1 : win0_2.index t 1 = 0 := by revert t; decide +kernel
  blk_ext! [iblk, h0, h1]

theorem b3 (l : Fin 2) (d : Fin 256) : iblk m c 3 t (ix3 l 0 d) = V m c main_v2 (ix3 l 0 d) := by
  have h0 : win0_3.index t 0 = 0 := by revert t; decide +kernel
  have h1 : win0_3.index t 1 = 0 := by revert t; decide +kernel
  have h2 : win0_3.index t 2 = 0 := by revert t; decide +kernel
  blk_ext! [iblk, h0, h1, h2]

theorem b4 (l : Fin 2) (d : Fin 256) (k : Fin 512) : iblk m c 4 t (ix3 l d k) = m ((c : Thread nD τ).loc main_arg3) (ix3 l d k) := by
  have h0 : win0_4.index t 0 = 0 := by revert t; decide +kernel
  have h1 : win0_4.index t 1 = 0 := by revert t; decide +kernel
  have h2 : win0_4.index t 2 = 0 := by revert t; decide +kernel
  blk_ext! [iblk, V, h0, h1, h2]

theorem b5 (l : Fin 2) (d : Fin 256) (k : Fin 512) : iblk m c 5 t (ix3 l d k) = m ((c : Thread nD τ).loc main_arg4) (ix3 l d k) := by
  have h0 : win0_5.index t 0 = 0 := by revert t; decide +kernel
  have h1 : win0_5.index t 1 = 0 := by revert t; decide +kernel
  have h2 : win0_5.index t 2 = 0 := by revert t; decide +kernel
  blk_ext! [iblk, V, h0, h1, h2]

theorem b6 (l : Fin 2) (k : Fin 512) (d : Fin 256) : iblk m c 6 t (ix3 l k d) = m ((c : Thread nD τ).loc main_arg5) (ix3 l k d) := by
  have h0 : win0_6.index t 0 = 0 := by revert t; decide +kernel
  have h1 : win0_6.index t 1 = 0 := by revert t; decide +kernel
  have h2 : win0_6.index t 2 = 0 := by revert t; decide +kernel
  blk_ext! [iblk, V, h0, h1, h2]

theorem b7 (l : Fin 2) (j : Fin 4) (k : Fin 512) : iblk m c 7 t (ix4 l j 0 k) = V m c main_v4 (ix4 l j 0 k) := by
  have h0 : win0_7.index t 0 = 0 := by revert t; decide +kernel
  have h1 : win0_7.index t 1 = 0 := by revert t; decide +kernel
  have h2 : win0_7.index t 2 = 0 := by revert t; decide +kernel
  have h3 : win0_7.index t 3 = 0 := by revert t; decide +kernel
  blk_ext! [iblk, h0, h1, h2, h3]

theorem b8 (l : Fin 2) (k : Fin 512) : iblk m c 8 t (ix3 l 0 k) = V m c main_v5 (ix3 l 0 k) := by
  have h0 : win0_8.index t 0 = 0 := by revert t; decide +kernel
  have h1 : win0_8.index t 1 = 0 := by revert t; decide +kernel
  have h2 : win0_8.index t 2 = 0 := by revert t; decide +kernel
  blk_ext! [iblk, h0, h1, h2]

theorem b9 (l : Fin 2) (d : Fin 256) (k : Fin 1024) : iblk m c 9 t (ix3 l d k) = V m c main_v13 (ix3 l d k) := by
  have h0 : win0_9.index t 0 = 0 := by revert t; decide +kernel
  have h1 : win0_9.index t 1 = 0 := by revert t; decide +kernel
  have h2 : win0_9.index t 2 = 0 := by revert t; decide +kernel
  blk_ext! [iblk, h0, h1, h2]

theorem b10 (l : Fin 2) (d : Fin 256) (h : Fin 4) : iblk m c 10 t (ix3 l d h) = m ((c : Thread nD τ).loc main_arg9) (ix3 l d h) := by
  have h0 : win0_10.index t 0 = 0 := by revert t; decide +kernel
  have h1 : win0_10.index t 1 = 0 := by revert t; decide +kernel
  have h2 : win0_10.index t 2 = 0 := by revert t; decide +kernel
  blk_ext! [iblk, V, h0, h1, h2]

theorem b11 (l p : Fin 2) (d : Fin 256) (h : Fin 4) : iblk m c 11 t (ix4 l p d h) = m ((c : Thread nD τ).loc main_arg10) (ix4 l p d h) := by
  have h0 : win0_11.index t 0 = 0 := by revert t; decide +kernel
  have h1 : win0_11.index t 1 = 0 := by revert t; decide +kernel
  have h2 : win0_11.index t 2 = 0 := by revert t; decide +kernel
  have h3 : win0_11.index t 3 = 0 := by revert t; decide +kernel
  blk_ext! [iblk, V, h0, h1, h2, h3]

theorem b12 (l p : Fin 2) (d : Fin 256) (h : Fin 4) : iblk m c 12 t (ix4 l p d h) = m ((c : Thread nD τ).loc main_arg11) (ix4 l p d h) := by
  have h0 : win0_12.index t 0 = 0 := by revert t; decide +kernel
  have h1 : win0_12.index t 1 = 0 := by revert t; decide +kernel
  have h2 : win0_12.index t 2 = 0 := by revert t; decide +kernel
  have h3 : win0_12.index t 3 = 0 := by revert t; decide +kernel
  blk_ext! [iblk, V, h0, h1, h2, h3]

theorem b13 (l p : Fin 2) (h : Fin 4) : iblk m c 13 t (ix4 l p 0 h) = V m c main_v8 (ix4 l p 0 h) := by
  have h0 : win0_13.index t 0 = 0 := by revert t; decide +kernel
  have h1 : win0_13.index t 1 = 0 := by revert t; decide +kernel
  have h2 : win0_13.index t 2 = 0 := by revert t; decide +kernel
  have h3 : win0_13.index t 3 = 0 := by revert t; decide +kernel
  blk_ext! [iblk, h0, h1, h2, h3]

theorem b14 (l p : Fin 2) (h : Fin 4) : iblk m c 14 t (ix4 l p 0 h) = V m c main_v9 (ix4 l p 0 h) := by
  have h0 : win0_14.index t 0 = 0 := by revert t; decide +kernel
  have h1 : win0_14.index t 1 = 0 := by revert t; decide +kernel
  have h2 : win0_14.index t 2 = 0 := by revert t; decide +kernel
  have h3 : win0_14.index t 3 = 0 := by revert t; decide +kernel
  blk_ext! [iblk, h0, h1, h2, h3]

theorem b15 (l p : Fin 2) (d : Fin 256) (h : Fin 4) : iblk m c 15 t (ix4 l p d h) = V m c main_v7 (ix4 l p d h) := by
  have h0 : win0_15.index t 0 = 0 := by revert t; decide +kernel
  have h1 : win0_15.index t 1 = 0 := by revert t; decide +kernel
  have h2 : win0_15.index t 2 = 0 := by revert t; decide +kernel
  have h3 : win0_15.index t 3 = 0 := by revert t; decide +kernel
  blk_ext! [iblk, h0, h1, h2, h3]

theorem b16 (l : Fin 2) (k : Fin 512) (d : Fin 256) : iblk m c 16 t (ix3 l k d) = V m c main_v16 (ix3 l k d) := by
  have h0 : win0_16.index t 0 = 0 := by revert t; decide +kernel
  have h1 : win0_16.index t 1 = 0 := by revert t; decide +kernel
  have h2 : win0_16.index t 2 = 0 := by revert t; decide +kernel
  blk_ext! [iblk, h0, h1, h2]

theorem b17 (d : Fin 256) : iblk m c 17 t (ix2 0 d) = V m c main_v10 (ix2 0 d) := by
  have h0 : win0_17.index t 0 = 0 := by revert t; decide +kernel
  have h1 : win0_17.index t 1 = 0 := by revert t; decide +kernel
  blk_ext! [iblk, h0, h1]

theorem b18 (d : Fin 256) (k : Fin 1024) : iblk m c 18 t (ix2 d k) = V m c main_v41 (ix2 d k) := by
  have h0 : win0_18.index t 0 = 0 := by revert t; decide +kernel
  have h1 : win0_18.index t 1 = 0 := by revert t; decide +kernel
  blk_ext! [iblk, h0, h1]

/-! ## The two layers' weight blocks -/

/-- Layer 0's weight blocks at a grid point. -/
abbrev slab0 (c : Dev nD) (t : Fin cfg0.N) : Slab where
  nw := View.ld (iblk m c 3 t) (Rect.unit (s := S2x1x256) ![0, 0, 0] S1x1x256.size inb_S2x1x256_S1x1x256_0_0_0)
  wu := View.ld (iblk m c 4 t) (Rect.unit (s := S2x256x512) ![0, 0, 0] S1x256x512.size inb_S2x256x512_S1x256x512_0_0_0)
  wg := View.ld (iblk m c 5 t) (Rect.unit (s := S2x256x512) ![0, 0, 0] S1x256x512.size inb_S2x256x512_S1x256x512_0_0_0)
  c3 := View.ld (iblk m c 7 t) (Rect.unit (s := S2x4x1x512) ![0, 3, 0, 0] S1x1x1x512.size inb_S2x4x1x512_S1x1x1x512_0_3_0_0)
  c2 := View.ld (iblk m c 7 t) (Rect.unit (s := S2x4x1x512) ![0, 2, 0, 0] S1x1x1x512.size inb_S2x4x1x512_S1x1x1x512_0_2_0_0)
  c1 := View.ld (iblk m c 7 t) (Rect.unit (s := S2x4x1x512) ![0, 1, 0, 0] S1x1x1x512.size inb_S2x4x1x512_S1x1x1x512_0_1_0_0)
  c0 := View.ld (iblk m c 7 t) (Rect.unit (s := S2x4x1x512) ![0, 0, 0, 0] S1x1x1x512.size inb_S2x4x1x512_S1x1x1x512_0_0_0_0)
  cb := View.ld (iblk m c 8 t) (Rect.unit (s := S2x1x512) ![0, 0, 0] S1x1x512.size inb_S2x1x512_S1x1x512_0_0_0)
  wd := View.ld (iblk m c 6 t) (Rect.unit (s := S2x512x256) ![0, 0, 0] S1x512x256.size inb_S2x512x256_S1x512x256_0_0_0)
  wv := View.ld (iblk m c 9 t) (Rect.unit (s := S2x256x1024) ![0, 0, 0] S1x256x1024.size inb_S2x256x1024_S1x256x1024_0_0_0)
  og := View.ld (iblk m c 10 t) (Rect.unit (s := S2x256x4) ![0, 0, 0] S1x256x4.size inb_S2x256x4_S1x256x4_0_0_0)
  wb0 := View.ld (iblk m c 11 t) (Rect.unit (s := S2x2x256x4) ![0, 0, 0, 0] S1x1x256x4.size inb_S2x2x256x4_S1x1x256x4_0_0_0_0)
  wb1 := View.ld (iblk m c 11 t) (Rect.unit (s := S2x2x256x4) ![0, 1, 0, 0] S1x1x256x4.size inb_S2x2x256x4_S1x1x256x4_0_1_0_0)
  wa0 := View.ld (iblk m c 12 t) (Rect.unit (s := S2x2x256x4) ![0, 0, 0, 0] S1x1x256x4.size inb_S2x2x256x4_S1x1x256x4_0_0_0_0)
  wa1 := View.ld (iblk m c 12 t) (Rect.unit (s := S2x2x256x4) ![0, 1, 0, 0] S1x1x256x4.size inb_S2x2x256x4_S1x1x256x4_0_1_0_0)
  al0 := View.ld (iblk m c 13 t) (Rect.unit (s := S2x2x1x4) ![0, 0, 0, 0] S1x1x1x4.size inb_S2x2x1x4_S1x1x1x4_0_0_0_0)
  al1 := View.ld (iblk m c 13 t) (Rect.unit (s := S2x2x1x4) ![0, 1, 0, 0] S1x1x1x4.size inb_S2x2x1x4_S1x1x1x4_0_1_0_0)
  db0 := View.ld (iblk m c 14 t) (Rect.unit (s := S2x2x1x4) ![0, 0, 0, 0] S1x1x1x4.size inb_S2x2x1x4_S1x1x1x4_0_0_0_0)
  db1 := View.ld (iblk m c 14 t) (Rect.unit (s := S2x2x1x4) ![0, 1, 0, 0] S1x1x1x4.size inb_S2x2x1x4_S1x1x1x4_0_1_0_0)
  bl0 := View.ld (iblk m c 15 t) (Rect.unit (s := S2x2x256x4) ![0, 0, 0, 0] S1x1x256x4.size inb_S2x2x256x4_S1x1x256x4_0_0_0_0)
  bl1 := View.ld (iblk m c 15 t) (Rect.unit (s := S2x2x256x4) ![0, 1, 0, 0] S1x1x256x4.size inb_S2x2x256x4_S1x1x256x4_0_1_0_0)
  wo := View.ld (iblk m c 16 t) (Rect.unit (s := S2x512x256) ![0, 0, 0] S1x512x256.size inb_S2x512x256_S1x512x256_0_0_0)

/-- Layer 1's weight blocks at a grid point. -/
abbrev slab1 (c : Dev nD) (t : Fin cfg0.N) : Slab where
  nw := View.ld (iblk m c 3 t) (Rect.unit (s := S2x1x256) ![1, 0, 0] S1x1x256.size inb_S2x1x256_S1x1x256_1_0_0)
  wu := View.ld (iblk m c 4 t) (Rect.unit (s := S2x256x512) ![1, 0, 0] S1x256x512.size inb_S2x256x512_S1x256x512_1_0_0)
  wg := View.ld (iblk m c 5 t) (Rect.unit (s := S2x256x512) ![1, 0, 0] S1x256x512.size inb_S2x256x512_S1x256x512_1_0_0)
  c3 := View.ld (iblk m c 7 t) (Rect.unit (s := S2x4x1x512) ![1, 3, 0, 0] S1x1x1x512.size inb_S2x4x1x512_S1x1x1x512_1_3_0_0)
  c2 := View.ld (iblk m c 7 t) (Rect.unit (s := S2x4x1x512) ![1, 2, 0, 0] S1x1x1x512.size inb_S2x4x1x512_S1x1x1x512_1_2_0_0)
  c1 := View.ld (iblk m c 7 t) (Rect.unit (s := S2x4x1x512) ![1, 1, 0, 0] S1x1x1x512.size inb_S2x4x1x512_S1x1x1x512_1_1_0_0)
  c0 := View.ld (iblk m c 7 t) (Rect.unit (s := S2x4x1x512) ![1, 0, 0, 0] S1x1x1x512.size inb_S2x4x1x512_S1x1x1x512_1_0_0_0)
  cb := View.ld (iblk m c 8 t) (Rect.unit (s := S2x1x512) ![1, 0, 0] S1x1x512.size inb_S2x1x512_S1x1x512_1_0_0)
  wd := View.ld (iblk m c 6 t) (Rect.unit (s := S2x512x256) ![1, 0, 0] S1x512x256.size inb_S2x512x256_S1x512x256_1_0_0)
  wv := View.ld (iblk m c 9 t) (Rect.unit (s := S2x256x1024) ![1, 0, 0] S1x256x1024.size inb_S2x256x1024_S1x256x1024_1_0_0)
  og := View.ld (iblk m c 10 t) (Rect.unit (s := S2x256x4) ![1, 0, 0] S1x256x4.size inb_S2x256x4_S1x256x4_1_0_0)
  wb0 := View.ld (iblk m c 11 t) (Rect.unit (s := S2x2x256x4) ![1, 0, 0, 0] S1x1x256x4.size inb_S2x2x256x4_S1x1x256x4_1_0_0_0)
  wb1 := View.ld (iblk m c 11 t) (Rect.unit (s := S2x2x256x4) ![1, 1, 0, 0] S1x1x256x4.size inb_S2x2x256x4_S1x1x256x4_1_1_0_0)
  wa0 := View.ld (iblk m c 12 t) (Rect.unit (s := S2x2x256x4) ![1, 0, 0, 0] S1x1x256x4.size inb_S2x2x256x4_S1x1x256x4_1_0_0_0)
  wa1 := View.ld (iblk m c 12 t) (Rect.unit (s := S2x2x256x4) ![1, 1, 0, 0] S1x1x256x4.size inb_S2x2x256x4_S1x1x256x4_1_1_0_0)
  al0 := View.ld (iblk m c 13 t) (Rect.unit (s := S2x2x1x4) ![1, 0, 0, 0] S1x1x1x4.size inb_S2x2x1x4_S1x1x1x4_1_0_0_0)
  al1 := View.ld (iblk m c 13 t) (Rect.unit (s := S2x2x1x4) ![1, 1, 0, 0] S1x1x1x4.size inb_S2x2x1x4_S1x1x1x4_1_1_0_0)
  db0 := View.ld (iblk m c 14 t) (Rect.unit (s := S2x2x1x4) ![1, 0, 0, 0] S1x1x1x4.size inb_S2x2x1x4_S1x1x1x4_1_0_0_0)
  db1 := View.ld (iblk m c 14 t) (Rect.unit (s := S2x2x1x4) ![1, 1, 0, 0] S1x1x1x4.size inb_S2x2x1x4_S1x1x1x4_1_1_0_0)
  bl0 := View.ld (iblk m c 15 t) (Rect.unit (s := S2x2x256x4) ![1, 0, 0, 0] S1x1x256x4.size inb_S2x2x256x4_S1x1x256x4_1_0_0_0)
  bl1 := View.ld (iblk m c 15 t) (Rect.unit (s := S2x2x256x4) ![1, 1, 0, 0] S1x1x256x4.size inb_S2x2x256x4_S1x1x256x4_1_1_0_0)
  wo := View.ld (iblk m c 16 t) (Rect.unit (s := S2x512x256) ![1, 0, 0] S1x512x256.size inb_S2x512x256_S1x512x256_1_0_0)

/-- The arguments on core `c` hold these real numbers. -/
abbrev Given (W : Fin 2 → Weights) (E : Fin 272 → Fin 256 → ℝ) (q : Fin 8 → ℕ → Fin 272) (w : Fin 256 → ℝ) : Prop :=
  Means (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) W E q w

variable {m c} {W : Fin 2 → Weights} {E : Fin 272 → Fin 256 → ℝ} {q : Fin 8 → ℕ → Fin 272} {w : Fin 256 → ℝ} (h : Given m c W E q w)

include h

theorem holds0 : (slab0 m c t).Holds (W 0) where
  nw d := by
    pointwise
    exact (b3 m c t 0 d).trans ((V2 m c 0 d).trans (h.nw 0 d))
  wu d k := by
    pointwise
    exact (b4 m c t 0 d k).trans (h.up 0 d k)
  wg d k := by
    pointwise
    exact (b5 m c t 0 d k).trans (h.gate 0 d k)
  c3 k := by
    pointwise
    exact (b7 m c t 0 3 k).trans ((V4 m c 0 3 k).trans (h.cw 0 k 3))
  c2 k := by
    pointwise
    exact (b7 m c t 0 2 k).trans ((V4 m c 0 2 k).trans (h.cw 0 k 2))
  c1 k := by
    pointwise
    exact (b7 m c t 0 1 k).trans ((V4 m c 0 1 k).trans (h.cw 0 k 1))
  c0 k := by
    pointwise
    exact (b7 m c t 0 0 k).trans ((V4 m c 0 0 k).trans (h.cw 0 k 0))
  cb k := by
    pointwise
    exact (b8 m c t 0 k).trans ((V5 m c 0 k).trans (h.cb 0 k))
  wd k d := by
    pointwise
    exact (b6 m c t 0 k d).trans (h.down 0 k d)
  wv d n j := by
    pointwise
    exact (b9 m c t 0 d (lane n j)).trans ((V13 m c 0 d n j).trans (h.wv 0 d (at8 (mOf n) (hOf n) j)))
  og d g := by
    pointwise
    exact (b10 m c t 0 d g).trans (h.wg 0 d g)
  wb0 d g := by
    pointwise
    exact (b11 m c t 0 0 d g).trans (h.wb 0 0 d g)
  wb1 d g := by
    pointwise
    exact (b11 m c t 0 1 d g).trans (h.wb 0 1 d g)
  wa0 d g := by
    pointwise
    exact (b12 m c t 0 0 d g).trans (h.wa 0 0 d g)
  wa1 d g := by
    pointwise
    exact (b12 m c t 0 1 d g).trans (h.wa 0 1 d g)
  al0 g := by
    pointwise
    exact (b13 m c t 0 0 g).trans ((V8 m c 0 0 g).trans (h.al 0 0 g))
  al1 g := by
    pointwise
    exact (b13 m c t 0 1 g).trans ((V8 m c 0 1 g).trans (h.al 0 1 g))
  db0 g := by
    pointwise
    exact (b14 m c t 0 0 g).trans ((V9 m c 0 0 g).trans (h.db 0 0 g))
  db1 g := by
    pointwise
    exact (b14 m c t 0 1 g).trans ((V9 m c 0 1 g).trans (h.db 0 1 g))
  bl0 d g := by
    pointwise
    exact (b15 m c t 0 0 d g).trans ((V7 m c 0 0 d g).trans (h.bl 0 d (at2 g 0)))
  bl1 d g := by
    pointwise
    exact (b15 m c t 0 1 d g).trans ((V7 m c 0 1 d g).trans (h.bl 0 d (at2 g 1)))
  wo g j d := by
    pointwise
    exact (b16 m c t 0 (lane4 g ⟨j.val, by omega⟩) d).trans ((V16 m c 0 g j d).trans (h.wo 0 (at4 g j) d))

theorem holds1 : (slab1 m c t).Holds (W 1) where
  nw d := by
    pointwise
    exact (b3 m c t 1 d).trans ((V2 m c 1 d).trans (h.nw 1 d))
  wu d k := by
    pointwise
    exact (b4 m c t 1 d k).trans (h.up 1 d k)
  wg d k := by
    pointwise
    exact (b5 m c t 1 d k).trans (h.gate 1 d k)
  c3 k := by
    pointwise
    exact (b7 m c t 1 3 k).trans ((V4 m c 1 3 k).trans (h.cw 1 k 3))
  c2 k := by
    pointwise
    exact (b7 m c t 1 2 k).trans ((V4 m c 1 2 k).trans (h.cw 1 k 2))
  c1 k := by
    pointwise
    exact (b7 m c t 1 1 k).trans ((V4 m c 1 1 k).trans (h.cw 1 k 1))
  c0 k := by
    pointwise
    exact (b7 m c t 1 0 k).trans ((V4 m c 1 0 k).trans (h.cw 1 k 0))
  cb k := by
    pointwise
    exact (b8 m c t 1 k).trans ((V5 m c 1 k).trans (h.cb 1 k))
  wd k d := by
    pointwise
    exact (b6 m c t 1 k d).trans (h.down 1 k d)
  wv d n j := by
    pointwise
    exact (b9 m c t 1 d (lane n j)).trans ((V13 m c 1 d n j).trans (h.wv 1 d (at8 (mOf n) (hOf n) j)))
  og d g := by
    pointwise
    exact (b10 m c t 1 d g).trans (h.wg 1 d g)
  wb0 d g := by
    pointwise
    exact (b11 m c t 1 0 d g).trans (h.wb 1 0 d g)
  wb1 d g := by
    pointwise
    exact (b11 m c t 1 1 d g).trans (h.wb 1 1 d g)
  wa0 d g := by
    pointwise
    exact (b12 m c t 1 0 d g).trans (h.wa 1 0 d g)
  wa1 d g := by
    pointwise
    exact (b12 m c t 1 1 d g).trans (h.wa 1 1 d g)
  al0 g := by
    pointwise
    exact (b13 m c t 1 0 g).trans ((V8 m c 1 0 g).trans (h.al 1 0 g))
  al1 g := by
    pointwise
    exact (b13 m c t 1 1 g).trans ((V8 m c 1 1 g).trans (h.al 1 1 g))
  db0 g := by
    pointwise
    exact (b14 m c t 1 0 g).trans ((V9 m c 1 0 g).trans (h.db 1 0 g))
  db1 g := by
    pointwise
    exact (b14 m c t 1 1 g).trans ((V9 m c 1 1 g).trans (h.db 1 1 g))
  bl0 d g := by
    pointwise
    exact (b15 m c t 1 0 d g).trans ((V7 m c 1 0 d g).trans (h.bl 1 d (at2 g 0)))
  bl1 d g := by
    pointwise
    exact (b15 m c t 1 1 d g).trans ((V7 m c 1 1 d g).trans (h.bl 1 d (at2 g 1)))
  wo g j d := by
    pointwise
    exact (b16 m c t 1 (lane4 g ⟨j.val, by omega⟩) d).trans ((V16 m c 1 g j d).trans (h.wo 1 (at4 g j) d))

end Cert.KernelHost

end
-- ==== Proof.KLogit.lean ====
/-
  One sequence's logits out of the kernel: what a grid point writes back is the model's logits for its block of the arguments.
-/
module

public import proofs.«01_k».proof.Proof.KHost
public import Idealize.ShloMosaic.Lib.Pipeline.ValueKit.Acc
public import Idealize.ShloMosaic.Lib.Pipeline.ValueKit

@[expose] public section

set_option maxRecDepth 16384

noncomputable section

namespace Cert.KernelLogit

open Idealize.ShloMosaic Idealize.ShloMosaic.TcCoe Idealize.SL.Sem
open Cert.KernelIdeal Cert.KernelIdeal.Gen Cert.Model Cert.KernelRows Cert.KernelHead Cert.KernelLoop Cert.KernelSlab Cert.KernelHost

variable (m : (ℓ : Loc nD τ sig) → Buf (Elt Ideal) ℓ)

/-- A layer's row, the mixed input given by an equation. -/
theorem layer'_is {B : Slab} {W : Weights} (hB : B.Holds W) {x : FVec Ideal S512x256 .f32} {X : ℕ → Fin 256 → ℝ}
    (hx : ∀ (r : Fin 512) (d : Fin 256), x (ix2 r d) = ((X r d : ℝ) : EReal)) {u : FVec Ideal S512x256 .f32} (hu : u = B.u x)
    {R Bl : Vec Ideal S512x1024 .f32}
    (hR : (∀ (r : Fin 512) (d : Fin 256), x (ix2 r d) = ((X r d : ℝ) : EReal)) → ∀ (r : Fin 512) (n : Fin 8) (j : Fin 64),
      R (ix2 r (lane n j)) = (((head W (mix W X) (mOf n) (hOf n)).read r j : ℝ) : EReal))
    (hBl : Bl = B.blc x) (r : Fin 512) (d : Fin 256) :
    k0_pay380 x e4p u B.og R Bl B.wo (ix2 r d) = ((layer W X r d : ℝ) : EReal) := by
  subst hu
  exact layer_is hB hx (hR hx) hBl r d

theorem btc_of {B : Slab} {x v : FVec Ideal S512x256 .f32} {e : FVec Ideal S8x1024 .f32} {w0 w1 : Vec Ideal S1x1x256x4 .f32}
    (hv : v = B.u x) (he : e = e8) (hw0 : w0 = B.wb0) (hw1 : w1 = B.wb1) :
    k0_pay371 e (k0_pay356 v w0) (k0_pay365 v w1) = B.btc x := by subst hv he hw0 hw1; rfl

theorem blc_of {B : Slab} {x v : FVec Ideal S512x256 .f32} {e : FVec Ideal S8x1024 .f32} {w0 w1 : Vec Ideal S1x1x256x4 .f32}
    (hv : v = B.u x) (he : e = e8) (hw0 : w0 = B.bl0) (hw1 : w1 = B.bl1) :
    k0_pay373 e v (k0_pay364 v w0) w1 = B.blc x := by subst hv he hw0 hw1; rfl

theorem btc'_of {B : Slab} {x v : FVec Ideal S512x256 .f32} {e : FVec Ideal S8x1024 .f32} {w0 w1 : Vec Ideal S1x1x256x4 .f32}
    (hv : v = B.u x) (he : e = e8) (hw0 : w0 = B.wb0) (hw1 : w1 = B.wb1) :
    k0_pay407 e (k0_pay390 v w0) (k0_pay399 v w1) = B.btc x := by subst hv he hw0 hw1; exact btc'_eq _ _

theorem blc'_of {B : Slab} {x v : FVec Ideal S512x256 .f32} {e : FVec Ideal S8x1024 .f32} {w0 w1 : Vec Ideal S1x1x256x4 .f32}
    (hv : v = B.u x) (he : e = e8) (hw0 : w0 = B.bl0) (hw1 : w1 = B.bl1) :
    k0_pay409 e v (k0_pay398 v w0) w1 = B.blc x := by subst hv he hw0 hw1; exact blc'_eq _ _

/-- The kernel spells a row's parts over operands that the blocks equal; each part is the blocks' own. -/
theorem csc_of {B : Slab} {x v : FVec Ideal S512x256 .f32} {e : FVec Ideal S8x1024 .f32} {k : FVec Ideal S512x512 .f32}
    {w0 w1 : Vec Ideal S1x1x256x4 .f32} {b0 a0 b1 a1 : Vec Ideal S1x1x1x4 .f32} (hv : v = B.u x) (he : e = e8) (hk : k = ctri)
    (hw0 : w0 = B.wa0) (hb0 : b0 = B.db0) (ha0 : a0 = B.al0) (hw1 : w1 = B.wa1) (hb1 : b1 = B.db1) (ha1 : a1 = B.al1) :
    k0_pay372 e k (k0_pay363 (k0_pay357 v w0 b0) (k0_pay358 a0) (k0_pay359 v w0 b0) (k0_pay360 v w0 b0) (k0_pay361 v w0 b0) k0_pay362)
      (k0_pay366 v w1 b1) (k0_pay367 a1) (Scalar.ofBits .f32 0x00000000#32) (k0_pay368 v w1 b1) (k0_pay369 v w1 b1) (k0_pay370 v w1 b1)
    = B.csc x := by subst hv he hk hw0 hb0 ha0 hw1 hb1 ha1; rfl

theorem csc'_of {B : Slab} {x v : FVec Ideal S512x256 .f32} {e : FVec Ideal S8x1024 .f32} {k : FVec Ideal S512x512 .f32}
    {w0 w1 : Vec Ideal S1x1x256x4 .f32} {b0 a0 b1 a1 : Vec Ideal S1x1x1x4 .f32} (hv : v = B.u x) (he : e = e8) (hk : k = ctri)
    (hw0 : w0 = B.wa0) (hb0 : b0 = B.db0) (ha0 : a0 = B.al0) (hw1 : w1 = B.wa1) (hb1 : b1 = B.db1) (ha1 : a1 = B.al1) :
    k0_pay408 e k (k0_pay397 (k0_pay392 a0) (k0_pay394 v w0 b0) (k0_pay395 v w0 b0) (k0_pay396 v w0 b0))
      (k0_pay401 a1) (k0_pay402 v w1 b1) (k0_pay404 v w1 b1) (k0_pay405 v w1 b1) (k0_pay406 v w1 b1)
    = B.csc x := by subst hv he hk hw0 hb0 ha0 hw1 hb1 ha1; exact csc'_eq _ _

theorem zero0 (n : Fin 8) (i j : Fin 64) : k0_pay375 (F := Ideal) k0_pay374 (ix3 n i j) = 0 := by pointwise [k0_pay375, k0_pay374]
theorem zero1 (n : Fin 8) (i j : Fin 64) : k0_pay410 (F := Ideal) (ix3 n i j) = 0 := by pointwise [k0_pay410]

/-- The written block at an index. -/
theorem lay_ix (t : Fin cfg0.N) (x : FVec Ideal S512x272 .f32) (r : Fin 512) (v : Fin 272) :
    (cfg0.win 19).cut (grid0.coords t) (k0_pay1 x) (ix3 0 r v) = x (ix2 r v) := by
  show k0_pay1 x (ix3 0 r v) = _
  pointwise [k0_pay1]

set_option maxHeartbeats 16000000 in -- one grid point is long: checking it walks past the default budget
/-- The logits that a grid point leaves in its block. -/
theorem point (c : Dev nD) (t : Fin cfg0.N) (W0 W1 : Weights) (h0 : (slab0 m c t).Holds W0) (h1 : (slab1 m c t).Holds W1)
    (E : Fin 272 → Fin 256 → ℝ) (hE : ∀ v d, iblk m c 1 t (ix2 v d) = ((E v d : ℝ) : EReal))
    (hT : ∀ d v, iblk m c 2 t (ix2 d v) = ((E v d : ℝ) : EReal))
    (q : ℕ → Fin 272) (hq : ∀ r : Fin 512, iblk m c 0 t (ix3 0 r 0) = BitVec.ofNat 32 (q r).val)
    (w : Fin 256 → ℝ) (hw : ∀ d, iblk m c 17 t (ix2 0 d) = ((w d : ℝ) : EReal))
    (hrp : ∀ (d : Fin 256) (n : Fin 8) (j : Fin 64), iblk m c 18 t (ix2 d (lane n j))
      = if d = at4 (hOf n) (src (mOf n) j) then ((sgn (mOf n) j : ℝ) : EReal) else 0)
    (r : Fin 512) (v : Fin 272) :
    (dats m 0 c).flushed 19 t (ix3 0 r v) = ((logit w E (layer W1 (layer W0 fun r => E (q r)) r) v : ℝ) : EReal) := by
  rw [Value.flushed19_A]
  frame_out
  have hx : ∀ (r : Fin 512) (d : Fin 256), k0_pay328 (iblk m c 0 t) (iblk m c 1 t) (ix2 r d) = ((E (q r) d : ℝ) : EReal) :=
    pick_is _ _ E hE q hq
  refine Eq.trans (lay_ix _ _ r v) ?_
  refine Eq.trans (congrFun (last_eq ..) _) ?_
  refine rowLogit_is (X := layer W1 (layer W0 fun r => E (q r))) (fun r d => ?_) _ w hw _ E hT r v
  refine layer'_is (B := slab1 m c t) h1 (X := layer W0 fun r => E (q r)) ?_ ?_ ?_ ?_ r d
  · intro r d
    refine layer'_is (B := slab0 m c t) h0 hx ?_ ?_ ?_ r d
    · rfl
    · intro _ r n j
      refine reads1_is (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t) (arg13 := ms0_12 t) (arg14 := ms0_13 t) (arg15 := ms0_14 t) (arg16 := ms0_15 t) (arg17 := ms0_16 t) (arg18 := ms0_17 t) (arg19 := ms0_18 t) (arg20 := ms0_19 t) (arg21 := scM0_0) (arg22 := scM0_1) (arg23 := scM0_2) (arg24 := scM0_3) (arg25 := scM0_4) (arg26 := scM0_5) (arg27 := scM0_6) (arg28 := scM0_7)
        (B := slab0 m c t) (W := W0) (hB := h0) (X := fun r => E (q r)) (x := k0_pay328 (iblk m c 0 t) (iblk m c 1 t))
        (hx := hx) (hrp := hrp) (h21 := ?_) (h22 := ?_) (h23 := ?_) (h24 := ?_) (h25 := ?_) (hz := ?_) (r := r) (n := n) (j := j) ..
      · rfl
      · rfl
      · rfl
      · refine csc_of (B := slab0 m c t) ?_ ?_ ?_ ?_ ?_ ?_ ?_ ?_ ?_ <;> rfl
      · refine btc_of (B := slab0 m c t) ?_ ?_ ?_ ?_ <;> rfl
      · exact zero0
    · refine blc_of (B := slab0 m c t) ?_ ?_ ?_ ?_ <;> rfl
  · exact u'_eq (slab1 m c t) ..
  · intro hx1 r n j
    refine reads2_is (arg1 := ms0_0 t) (arg2 := ms0_1 t) (arg3 := ms0_2 t) (arg4 := ms0_3 t) (arg5 := ms0_4 t) (arg6 := ms0_5 t) (arg7 := ms0_6 t) (arg8 := ms0_7 t) (arg9 := ms0_8 t) (arg10 := ms0_9 t) (arg11 := ms0_10 t) (arg12 := ms0_11 t) (arg13 := ms0_12 t) (arg14 := ms0_13 t) (arg15 := ms0_14 t) (arg16 := ms0_15 t) (arg17 := ms0_16 t) (arg18 := ms0_17 t) (arg19 := ms0_18 t) (arg20 := ms0_19 t) (arg21 := scM0_0) (arg22 := scM0_1) (arg23 := scM0_2) (arg24 := scM0_3) (arg25 := scM0_4) (arg26 := scM0_5) (arg27 := scM0_6) (arg28 := scM0_7)
      (B := slab1 m c t) (W := W1) (hB := h1) (X := layer W0 fun r => E (q r)) (hx := hx1) (hrp := hrp)
      (h21 := ?_) (h22 := ?_) (h23 := ?_) (h24 := ?_) (h25 := ?_) (hz := ?_) (r := r) (n := n) (j := j) ..
    · exact vals'_eq (slab1 m c t) ..
    · exact rks'_eq (slab1 m c t) ..
    · exact wks'_eq (slab1 m c t) ..
    · refine csc'_of (B := slab1 m c t) (u'_eq (slab1 m c t) ..) ?_ ?_ ?_ ?_ ?_ ?_ ?_ ?_ <;> rfl
    · refine btc'_of (B := slab1 m c t) (u'_eq (slab1 m c t) ..) ?_ ?_ ?_ <;> rfl
    · exact zero1
  · refine blc'_of (B := slab1 m c t) (u'_eq (slab1 m c t) ..) ?_ ?_ ?_ <;> rfl

end Cert.KernelLogit

end
-- ==== Proof.KArray.lean ====
/-
  The kernel's result array: each entry is its sequence's logit.
-/
module

public import proofs.«01_k».proof.Proof.KLogit

@[expose] public section

set_option maxRecDepth 16384

noncomputable section

namespace Cert.KernelArray

open Idealize.ShloMosaic Idealize.ShloMosaic.TcCoe Idealize.SL.Sem
open Cert.KernelIdeal Cert.KernelIdeal.Gen Cert.Model Cert.Args Cert.KernelHost

variable {m : (ℓ : Loc nD τ sig) → Buf (Elt Ideal) ℓ} {c : Dev nD}

/-- An entry of the final array is what its sequence's grid point wrote back. -/
theorem entry (b : Fin 8) (r : Fin 512) (v : Fin 272) :
    (dats m 0 c).arrAt 19 cfg0.N (ix3 b r v) = (dats m 0 c).flushed 19 (⟨b.val, b.2⟩ : Fin cfg0.N) (ix3 0 r v) := by
  have hf : ∀ t : Fin cfg0.N, (cfg0.win 19).flush t = true := by decide +kernel
  have h0 : ∀ t : Fin cfg0.N, win0_19.index t 0 = t.val := by decide +kernel
  have h1 : ∀ t : Fin cfg0.N, win0_19.index t 1 = 0 := by decide +kernel
  have h2 : ∀ t : Fin cfg0.N, win0_19.index t 2 = 0 := by decide +kernel
  refine Eq.trans (Eq.symm ?_) (congrFun (Value.blocks19 m c ⟨b.val, b.2⟩ (hf _)) (ix3 0 r v))
  generalize (dats m 0 c).arrAt 19 cfg0.N = A
  blk_ext! [h0, h1, h2]

/-- An entry of the final array is the model's logit on the numbers the arguments hold. -/
theorem array_is {W : Fin 2 → Weights} {E : Fin 272 → Fin 256 → ℝ} {q : Fin 8 → ℕ → Fin 272} {w : Fin 256 → ℝ} (h : Given m c W E q w)
    (b : Fin 8) (r : Fin 512) (v : Fin 272) : (dats m 0 c).arrAt 19 cfg0.N (ix3 b r v)
      = ((logit w E (layer (W 1) (layer (W 0) fun r => E (q b r)) r) v : ℝ) : EReal) := by
  refine (entry b r v).trans ?_
  refine Cert.KernelLogit.point m c (⟨b.val, b.2⟩ : Fin cfg0.N) (W 0) (W 1) (holds0 _ h) (holds1 _ h) E ?_ ?_ (q b) ?_ w ?_ ?_ r v
  · exact fun v d => (b1 m c _ v d).trans (h.emb v d)
  · exact fun d v => (b2 m c _ d v).trans ((V1 m c d v).trans (h.emb v d))
  · exact fun r => (b0 m c _ r).trans ((V0 m c b r).trans (h.id b r))
  · exact fun d => (b17 m c _ d).trans ((V10 m c d).trans (h.fw d))
  · exact fun d n j => (b18 m c _ d (Cert.KernelRows.lane n j)).trans (V41 m c d n j)

end Cert.KernelArray

end
-- ==== Proof.RefRows.lean ====
/-
  The reference's layer, one token of every sequence: its operations grouped, and each group's values.
-/
module

public import proofs.«01_k».proof.Proof.KRows
public import proofs.«01_k».proof.Proof.Gen.ReferenceIdeal

@[expose] public section

set_option maxRecDepth 16384

noncomputable section

namespace Cert.RefRows

open Idealize.ShloMosaic Idealize.ShloMosaic.TcCoe Idealize.SL.Sem
open Cert.ReferenceIdeal Cert.ReferenceIdeal.Gen Cert.Model Cert.KernelRows

/-! ## The operations -/

/-- The scaled row. -/
def nx (x : FVec Ideal S8x256 .f32) (w : FVec Ideal S256 .f32) : FVec Ideal S8x256 .f32 :=
  mulf (mulf x (broadcastInDim S8x256 ![0, 1] bcast_S8x1_S8x256_0_1 (Host.rsqrt (addf (Host.divf (broadcastInDim S8x1 ![0]
    bcast_S8_S8x1_0 (Host.reduceAdd (mulf x x) (constant S_ .f32 0x00000000#32) reducesTo_S8x256_S8_d1 h_S_)) (broadcastInDim
    S8x1 ![] bcast_S_S8x1 (constant S_ .f32 0x43800000#32))) (broadcastInDim S8x1 ![] bcast_S_S8x1 (constant S_ .f32
    0x358637BD#32)))))) (broadcastInDim S8x256 ![0, 1] bcast_S1x256_S8x256_0_1 (broadcastInDim S1x256 ![1] bcast_S256_S1x256_1
    w))

/-- The inputs that the convolution sees: the ones kept, and this token's. -/
def seen (n : FVec Ideal S8x256 .f32) (up : FVec Ideal S256x512 .f32) (p : FVec Ideal S8x3x512 .f32) : FVec Ideal S8x4x512 .f32
  :=
  concatenate S8x4x512 1 [⟨S8x3x512, p⟩, ⟨S8x1x512, (broadcastInDim S8x1x512 ![0, 2] bcast_S8x512_S8x1x512_0_2 (Host.dotGeneral
    dot_S8x256_S256x512_S8x512_1_0_0_1_n_n none n up))⟩] concatenates_S8x3x512_S8x1x512_S8x4x512_d1

/-- The convolution and its bias. -/
def pre (a : FVec Ideal S8x4x512 .f32) (k0 : FVec Ideal S512 .f32) (k1 : FVec Ideal S512 .f32) (k2 : FVec Ideal S512 .f32) (k3 :
  FVec Ideal S512 .f32) (cb : FVec Ideal S512 .f32) : FVec Ideal S8x512 .f32 :=
  addf (addf (addf (addf (addf (broadcastInDim S8x512 ![] bcast_S_S8x512 (constant S_ .f32 0x00000000#32)) (mulf (shapeCast
    S8x512 (extractStridedSlice S8x1x512 ![0, 0, 0] a slices_S8x4x512_S8x1x512_0_0_0) shapeCasts_S8x1x512_S8x512)
    (broadcastInDim S8x512 ![0, 1] bcast_S1x512_S8x512_0_1 (broadcastInDim S1x512 ![1] bcast_S512_S1x512_1 k0)))) (mulf
    (shapeCast S8x512 (extractStridedSlice S8x1x512 ![0, 1, 0] a slices_S8x4x512_S8x1x512_0_1_0) shapeCasts_S8x1x512_S8x512)
    (broadcastInDim S8x512 ![0, 1] bcast_S1x512_S8x512_0_1 (broadcastInDim S1x512 ![1] bcast_S512_S1x512_1 k1)))) (mulf
    (shapeCast S8x512 (extractStridedSlice S8x1x512 ![0, 2, 0] a slices_S8x4x512_S8x1x512_0_2_0) shapeCasts_S8x1x512_S8x512)
    (broadcastInDim S8x512 ![0, 1] bcast_S1x512_S8x512_0_1 (broadcastInDim S1x512 ![1] bcast_S512_S1x512_1 k2)))) (mulf
    (shapeCast S8x512 (extractStridedSlice S8x1x512 ![0, 3, 0] a slices_S8x4x512_S8x1x512_0_3_0) shapeCasts_S8x1x512_S8x512)
    (broadcastInDim S8x512 ![0, 1] bcast_S1x512_S8x512_0_1 (broadcastInDim S1x512 ![1] bcast_S512_S1x512_1 k3))))
    (broadcastInDim S8x512 ![0, 1] bcast_S1x512_S8x512_0_1 (broadcastInDim S1x512 ![1] bcast_S512_S1x512_1 cb))

/-- The gated product, brought back to the row's width. -/
def mixed (n : FVec Ideal S8x256 .f32) (y : FVec Ideal S8x512 .f32) (wg : FVec Ideal S256x512 .f32) (wd : FVec Ideal S512x256
  .f32) : FVec Ideal S8x256 .f32 :=
  Host.dotGeneral dot_S8x512_S512x256_S8x256_1_0_0_1_n_n none (mulf (mulf (Host.dotGeneral
    dot_S8x256_S256x512_S8x512_1_0_0_1_n_n none n wg) (Host.divf (broadcastInDim S8x512 ![] bcast_S_S8x512 (constant S_ .f32
    0x3F800000#32)) (addf (broadcastInDim S8x512 ![] bcast_S_S8x512 (constant S_ .f32 0x3F800000#32)) (Host.exp (Host.negf
    (Host.dotGeneral dot_S8x256_S256x512_S8x512_1_0_0_1_n_n none n wg)))))) (mulf y (Host.divf (broadcastInDim S8x512 ![]
    bcast_S_S8x512 (constant S_ .f32 0x3F800000#32)) (addf (broadcastInDim S8x512 ![] bcast_S_S8x512 (constant S_ .f32
    0x3F800000#32)) (Host.exp (Host.negf y)))))) wd

/-- The values. -/
def vals (u : FVec Ideal S8x256 .f32) (w : FVec Ideal S256x512 .f32) : FVec Ideal S8x2x4x64 .f32 :=
  shapeCast S8x2x4x64 (Host.dotGeneral dot_S8x256_S256x512_S8x512_1_0_0_1_n_n none u w) shapeCasts_S8x512_S8x2x4x64

/-- The output gate. -/
def gates (u : FVec Ideal S8x256 .f32) (w : FVec Ideal S256x4 .f32) : FVec Ideal S8x4 .f32 :=
  Host.divf (broadcastInDim S8x4 ![] bcast_S_S8x4 (constant S_ .f32 0x3F800000#32)) (addf (broadcastInDim S8x4 ![] bcast_S_S8x4
    (constant S_ .f32 0x3F800000#32)) (Host.exp (Host.negf (Host.dotGeneral dot_S8x256_S256x4_S8x4_1_0_0_1_n_n none u w))))

/-- The writing strengths. -/
def betas (u : FVec Ideal S8x256 .f32) (w : FVec Ideal S2x256x4 .f32) : FVec Ideal S8x2x4 .f32 :=
  Host.divf (broadcastInDim S8x2x4 ![] bcast_S_S8x2x4 (constant S_ .f32 0x3F800000#32)) (addf (broadcastInDim S8x2x4 ![]
    bcast_S_S8x2x4 (constant S_ .f32 0x3F800000#32)) (Host.exp (Host.negf (Host.dotGeneral
    dot_S8x256_S2x256x4_S8x2x4_1_1_0_02_n_n none u w))))

/-- What the decay is made of. -/
def alphas (u : FVec Ideal S8x256 .f32) (w : FVec Ideal S2x256x4 .f32) (db : FVec Ideal S2x4 .f32) : FVec Ideal S8x2x4 .f32 :=
  addf (Host.dotGeneral dot_S8x256_S2x256x4_S8x2x4_1_1_0_02_n_n none u w) (broadcastInDim S8x2x4 ![0, 1, 2]
    bcast_S1x2x4_S8x2x4_0_1_2 (broadcastInDim S1x2x4 ![1, 2] bcast_S2x4_S1x2x4_1_2 db))

/-- The decay. -/
def decay (a : FVec Ideal S8x2x4 .f32) (al : FVec Ideal S2x4 .f32) : FVec Ideal S8x2x4 .f32 :=
  Host.exp (mulf (broadcastInDim S8x2x4 ![0, 1, 2] bcast_S1x2x4_S8x2x4_0_1_2 (Host.negf (broadcastInDim S1x2x4 ![1, 2]
    bcast_S2x4_S1x2x4_1_2 (Host.exp al)))) (select (cmpf .une (subf a (broadcastInDim S8x2x4 ![] bcast_S_S8x2x4 (constant S_
    .f32 0x00000000#32))) (subf a (broadcastInDim S8x2x4 ![] bcast_S_S8x2x4 (constant S_ .f32 0x00000000#32)))) (addf a
    (broadcastInDim S8x2x4 ![] bcast_S_S8x2x4 (constant S_ .f32 0x00000000#32))) (addf (maximumf a (broadcastInDim S8x2x4 ![]
    bcast_S_S8x2x4 (constant S_ .f32 0x00000000#32))) (Host.log1p (Host.exp (Host.negf (Host.absf (subf a (broadcastInDim S8x2x4
    ![] bcast_S_S8x2x4 (constant S_ .f32 0x00000000#32))))))))))

/-- The blend's logits. -/
def logits (u : FVec Ideal S8x256 .f32) (w : FVec Ideal S256x8 .f32) : FVec Ideal S8x4x2 .f32 :=
  shapeCast S8x4x2 (Host.dotGeneral dot_S8x256_S256x8_S8x8_1_0_0_1_n_n none u w) shapeCasts_S8x8_S8x4x2

/-- The blend. -/
def blends (z : FVec Ideal S8x4x2 .f32) : FVec Ideal S8x4x2 .f32 :=
  Host.divf (Host.exp (subf z (broadcastInDim S8x4x2 ![0, 1, 2] bcast_S8x4x1_S8x4x2_0_1_2 (broadcastInDim S8x4x1 ![0, 1]
    bcast_S8x4_S8x4x1_0_1 (maximumf (broadcastInDim S8x4 ![] bcast_S_S8x4 (constant S_ .f32 0xFF800000#32)) (Host.reduce
    FloatOps.maximumf z (constant S_ .f32 0xFF800000#32) reducesTo_S8x4x2_S8x4_d2 h_S_)))))) (broadcastInDim S8x4x2 ![0, 1, 2]
    bcast_S8x4x1_S8x4x2_0_1_2 (broadcastInDim S8x4x1 ![0, 1] bcast_S8x4_S8x4x1_0_1 (Host.reduceAdd (Host.exp (subf z
    (broadcastInDim S8x4x2 ![0, 1, 2] bcast_S8x4x1_S8x4x2_0_1_2 (broadcastInDim S8x4x1 ![0, 1] bcast_S8x4_S8x4x1_0_1 (maximumf
    (broadcastInDim S8x4 ![] bcast_S_S8x4 (constant S_ .f32 0xFF800000#32)) (Host.reduce FloatOps.maximumf z (constant S_ .f32
    0xFF800000#32) reducesTo_S8x4x2_S8x4_d2 h_S_)))))) (constant S_ .f32 0x00000000#32) reducesTo_S8x4x2_S8x4_d2 h_S_)))

/-- The unit keys. -/
def key0 (u : FVec Ideal S8x256 .f32) : FVec Ideal S8x4x64 .f32 :=
  Host.divf (shapeCast S8x4x64 u shapeCasts_S8x256_S8x4x64) (broadcastInDim S8x4x64 ![0, 1, 2] bcast_S8x4x1_S8x4x64_0_1_2
    (maximumf (Host.sqrt (broadcastInDim S8x4x1 ![0, 1] bcast_S8x4_S8x4x1_0_1 (Host.reduceAdd (mulf (shapeCast S8x4x64 u
    shapeCasts_S8x256_S8x4x64) (shapeCast S8x4x64 u shapeCasts_S8x256_S8x4x64)) (constant S_ .f32 0x00000000#32)
    reducesTo_S8x4x64_S8x4_d2 h_S_))) (broadcastInDim S8x4x1 ![] bcast_S_S8x4x1 (constant S_ .f32 0x2B8CBCCC#32))))

/-- The keys and the turned keys. -/
def keys (k : FVec Ideal S8x4x64 .f32) : FVec Ideal S8x2x4x64 .f32 :=
  concatenate S8x2x4x64 1 [⟨S8x1x4x64, (broadcastInDim S8x1x4x64 ![0, 2, 3] bcast_S8x4x64_S8x1x4x64_0_2_3 k)⟩, ⟨S8x1x4x64,
    (broadcastInDim S8x1x4x64 ![0, 2, 3] bcast_S8x4x64_S8x1x4x64_0_2_3 (shapeCast S8x4x64 (concatenate S8x4x32x2 3 [⟨S8x4x32x1,
    (broadcastInDim S8x4x32x1 ![0, 1, 2] bcast_S8x4x32_S8x4x32x1_0_1_2 (Host.negf (Host.slice S8x4x32 ![0, 0, 1] ![1, 1, 2] k
    slicesBy_S8x4x64_S8x4x32_0s1_0s1_1s2)))⟩, ⟨S8x4x32x1, (broadcastInDim S8x4x32x1 ![0, 1, 2] bcast_S8x4x32_S8x4x32x1_0_1_2
    (Host.slice S8x4x32 ![0, 0, 0] ![1, 1, 2] k slicesBy_S8x4x64_S8x4x32_0s1_0s1_0s2))⟩]
    concatenates_S8x4x32x1_S8x4x32x1_S8x4x32x2_d3) shapeCasts_S8x4x32x2_S8x4x64))⟩]
    concatenates_S8x1x4x64_S8x1x4x64_S8x2x4x64_d1

/-- The memory after its decay. -/
def faded (S : FVec Ideal S8x2x4x64x64 .f32) (d : FVec Ideal S8x2x4 .f32) : FVec Ideal S8x2x4x64x64 .f32 :=
  mulf S (broadcastInDim S8x2x4x64x64 ![0, 1, 2, 3, 4] bcast_S8x2x4x1x1_S8x2x4x64x64_0_1_2_3_4 (broadcastInDim S8x2x4x1x1 ![0,
    1, 2] bcast_S8x2x4_S8x2x4x1x1_0_1_2 d))

/-- The memory after the write. -/
def written (S : FVec Ideal S8x2x4x64x64 .f32) (v : FVec Ideal S8x2x4x64 .f32) (k : FVec Ideal S8x2x4x64 .f32) (b : FVec Ideal
  S8x2x4 .f32) : FVec Ideal S8x2x4x64x64 .f32 :=
  addf S (mulf (broadcastInDim S8x2x4x64x64 ![0, 1, 2, 3, 4] bcast_S8x2x4x64x1_S8x2x4x64x64_0_1_2_3_4 (broadcastInDim
    S8x2x4x64x1 ![0, 1, 2, 3] bcast_S8x2x4x64_S8x2x4x64x1_0_1_2_3 k)) (broadcastInDim S8x2x4x64x64 ![0, 1, 2, 3, 4]
    bcast_S8x2x4x1x64_S8x2x4x64x64_0_1_2_3_4 (broadcastInDim S8x2x4x1x64 ![0, 1, 2, 4] bcast_S8x2x4x64_S8x2x4x1x64_0_1_2_4 (mulf
    (subf v (Host.dotGeneral dot_S8x2x4x64x64_S8x2x4x64_S8x2x4x64_3_3_4_n_012_012 none S k)) (broadcastInDim S8x2x4x64 ![0, 1,
    2, 3] bcast_S8x2x4x1_S8x2x4x64_0_1_2_3 (broadcastInDim S8x2x4x1 ![0, 1, 2] bcast_S8x2x4_S8x2x4x1_0_1_2 b))))))

/-- What the memory answers. -/
def reads (S : FVec Ideal S8x2x4x64x64 .f32) (k : FVec Ideal S8x2x4x64 .f32) : FVec Ideal S8x2x4x64 .f32 :=
  Host.dotGeneral dot_S8x2x4x64x64_S8x2x4x64_S8x2x4x64_3_3_4_n_012_012 none S k

/-- The row with the layer's addition. -/
def outs (x : FVec Ideal S8x256 .f32) (u : FVec Ideal S8x256 .f32) (bl : FVec Ideal S8x4x2 .f32) (R : FVec Ideal S8x2x4x64 .f32)
  (g : FVec Ideal S8x4 .f32) (wo : FVec Ideal S256x256 .f32) : FVec Ideal S8x256 .f32 :=
  addf x (addf u (Host.dotGeneral dot_S8x256_S256x256_S8x256_1_0_0_1_n_n none (shapeCast S8x256 (mulf (Host.dotGeneral
    dot_S8x4x2_S8x2x4x64_S8x4x64_2_1_n_3_01_02 none bl R) (broadcastInDim S8x4x64 ![0, 1, 2] bcast_S8x4x1_S8x4x64_0_1_2
    (broadcastInDim S8x4x1 ![0, 1] bcast_S8x4_S8x4x1_0_1 g))) shapeCasts_S8x4x64_S8x256) wo))

/-- The inputs kept for the next token. -/
def kept (a : FVec Ideal S8x4x512 .f32) : FVec Ideal S8x3x512 .f32 :=
  extractStridedSlice S8x3x512 ![0, 1, 0] a slices_S8x4x512_S8x3x512_0_1_0

/-! ## Scalar forms -/

theorem sig_div (a : ℝ) : Ideal.div 1 (1 + Ideal.exp (-(a : EReal))) = ((sig a : ℝ) : EReal) := by
  rw [← EReal.coe_neg, Ideal.exp_coe, ← EReal.coe_one, ← EReal.coe_add, div_real _ _ (by positivity), one_div]
  rfl

theorem lowest : Ideal.ofBits .f32 0xFF800000#32 = (⊥ : EReal) := by
  simp [Ideal.ofBits, Ideal.ieee]

theorem fold_two (f : Fin 2 → EReal) : Finset.fold max ⊥ f Finset.univ = max (f 0) (f 1) := by
  rw [show (Finset.univ : Finset (Fin 2)) = {0, 1} from rfl, Finset.fold_insert (by simp), Finset.fold_singleton, max_eq_left bot_le]

theorem sum_at4 (f : Fin 256 → ℝ) : ∑ x, f x = ∑ h : Fin 4, ∑ k : Fin 64, f (at4 h k) := by
  rw [← Fintype.sum_prod_type', ← (finProdFinEquiv (m := 4) (n := 64)).sum_comp f]
  refine Finset.sum_congr rfl fun p _ => congrArg f (Fin.ext ?_)
  show p.2.val + 64 * p.1.val = 64 * p.1.val + p.2.val
  omega

/-! ## The groups' values -/

/-- The scaled row. -/
theorem nx_val {x : FVec Ideal S8x256 .f32} {X : Fin 8 → Fin 256 → ℝ} (hx : ∀ b d, x (ix2 b d) = ((X b d : ℝ) : EReal))
    {w : FVec Ideal S256 .f32} {v : Fin 256 → ℝ} (hw : ∀ d, w (ix1 d) = ((v d : ℝ) : EReal)) (b : Fin 8) (d : Fin 256) :
    nx x w (ix2 b d) = ((rms (X b) v d : ℝ) : EReal) := by
  pointwise [nx, hx, hw]
  exact rms_read _ _ _

/-- One layer's weights, as the reference slices them. -/
structure Slab where
  nw : FVec Ideal S256 .f32
  up : FVec Ideal S256x512 .f32
  gate : FVec Ideal S256x512 .f32
  down : FVec Ideal S512x256 .f32
  k0 : FVec Ideal S512 .f32
  k1 : FVec Ideal S512 .f32
  k2 : FVec Ideal S512 .f32
  k3 : FVec Ideal S512 .f32
  cb : FVec Ideal S512 .f32
  wv : FVec Ideal S256x512 .f32
  wg : FVec Ideal S256x4 .f32
  wb : FVec Ideal S2x256x4 .f32
  wa : FVec Ideal S2x256x4 .f32
  al : FVec Ideal S2x4 .f32
  db : FVec Ideal S2x4 .f32
  bl : FVec Ideal S256x8 .f32
  wo : FVec Ideal S256x256 .f32

/-- The sliced weights are the model's. -/
structure Slab.Holds (B : Slab) (W : Weights) : Prop where
  nw : ∀ d : Fin 256, B.nw (ix1 d) = ((W.nw d : ℝ) : EReal)
  up : ∀ (d : Fin 256) (c : Fin 512), B.up (ix2 d c) = ((W.up d c : ℝ) : EReal)
  gate : ∀ (d : Fin 256) (c : Fin 512), B.gate (ix2 d c) = ((W.gate d c : ℝ) : EReal)
  down : ∀ (c : Fin 512) (d : Fin 256), B.down (ix2 c d) = ((W.down c d : ℝ) : EReal)
  k0 : ∀ c : Fin 512, B.k0 (ix1 c) = ((W.cw c 0 : ℝ) : EReal)
  k1 : ∀ c : Fin 512, B.k1 (ix1 c) = ((W.cw c 1 : ℝ) : EReal)
  k2 : ∀ c : Fin 512, B.k2 (ix1 c) = ((W.cw c 2 : ℝ) : EReal)
  k3 : ∀ c : Fin 512, B.k3 (ix1 c) = ((W.cw c 3 : ℝ) : EReal)
  cb : ∀ c : Fin 512, B.cb (ix1 c) = ((W.cb c : ℝ) : EReal)
  wv : ∀ (d : Fin 256) (c : Fin 512), B.wv (ix2 d c) = ((W.wv d c : ℝ) : EReal)
  wg : ∀ (d : Fin 256) (h : Fin 4), B.wg (ix2 d h) = ((W.wg d h : ℝ) : EReal)
  wb : ∀ (m : Fin 2) (d : Fin 256) (h : Fin 4), B.wb (ix3 m d h) = ((W.wb m d h : ℝ) : EReal)
  wa : ∀ (m : Fin 2) (d : Fin 256) (h : Fin 4), B.wa (ix3 m d h) = ((W.wa m d h : ℝ) : EReal)
  al : ∀ (m : Fin 2) (h : Fin 4), B.al (ix2 m h) = ((W.al m h : ℝ) : EReal)
  db : ∀ (m : Fin 2) (h : Fin 4), B.db (ix2 m h) = ((W.db m h : ℝ) : EReal)
  bl : ∀ (d : Fin 256) (c : Fin 8), B.bl (ix2 d c) = ((W.bl d c : ℝ) : EReal)
  wo : ∀ c d : Fin 256, B.wo (ix2 c d) = ((W.wo c d : ℝ) : EReal)

section Layer

variable (B : Slab) (x : FVec Ideal S8x256 .f32) (p : FVec Ideal S8x3x512 .f32) (k : FVec Ideal S8x2x4x64 .f32)
  (S : FVec Ideal S8x2x4x64x64 .f32)

/-! A layer's token: what it sees, what enters the memory, the keys, the memory after it, and the row it leaves. -/

abbrev Slab.a : FVec Ideal S8x4x512 .f32 := seen (nx x B.nw) B.up p
abbrev Slab.u : FVec Ideal S8x256 .f32 := mixed (nx x B.nw) (pre (B.a x p) B.k0 B.k1 B.k2 B.k3 B.cb) B.gate B.down
abbrev Slab.key : FVec Ideal S8x2x4x64 .f32 := keys (key0 (B.u x p))
abbrev Slab.mem : FVec Ideal S8x2x4x64x64 .f32 :=
  written (faded S (decay (alphas (B.u x p) B.wa B.db) B.al)) (vals (B.u x p) B.wv) k (betas (B.u x p) B.wb)
abbrev Slab.out : FVec Ideal S8x256 .f32 :=
  outs x (B.u x p) (blends (logits (B.u x p) B.bl)) (reads (B.mem x p k S) (B.key x p)) (gates (B.u x p) B.wg) B.wo

/-- What a layer keeps from token to token is the model's, at token `t`. -/
structure At (W : Weights) (X : Fin 8 → ℕ → Fin 256 → ℝ) (t : ℕ) : Prop where
  past : ∀ (b : Fin 8) (i : Fin 3) (c : Fin 512), p (ix3 b i c) = ((lag (fun s => upRow W (X b s) c) (3 - i.val) t : ℝ) : EReal)
  key : ∀ (b : Fin 8) (m : Fin 2) (h : Fin 4) (e : Fin 64), k (ix4 b m h e) = (((head W (mix W (X b)) m h).w t e : ℝ) : EReal)
  mem : ∀ (b : Fin 8) (m : Fin 2) (h : Fin 4) (e f : Fin 64),
    S (ix5 b m h e f) = (((head W (mix W (X b)) m h).mem t e f : ℝ) : EReal)

variable {B x p k S} {W : Weights} (hB : B.Holds W) {X : Fin 8 → ℕ → Fin 256 → ℝ} {t : ℕ}
  (hx : ∀ b d, x (ix2 b d) = ((X b t d : ℝ) : EReal)) (hA : At p k S W X t)

include hB hx hA

theorem a_val (b : Fin 8) (i : Fin 4) (c : Fin 512) :
    B.a x p (ix3 b i c) = ((lag (fun s => upRow W (X b s) c) (3 - i.val) t : ℝ) : EReal) := by
  have hn := nx_val hx hB.nw
  pointwise [seen, hn, hB.up, hA.past]
  split
  · rfl
  · rename_i h
    have e : 3 - i.val = 0 := by omega
    rw [e]
    simp only [← EReal.coe_mul, ← coe_sum]
    rfl

theorem u_val (b : Fin 8) (d : Fin 256) : B.u x p (ix2 b d) = ((mix W (X b) t d : ℝ) : EReal) := by
  have hn := nx_val hx hB.nw
  have hy : ∀ (b : Fin 8) (c : Fin 512), pre (B.a x p) B.k0 B.k1 B.k2 B.k3 B.cb (ix2 b c) = ((conv W (X b) t c + W.cb c : ℝ) : EReal) := by
    intro b c
    have ha := a_val hB hx hA
    pointwise [pre, ha, hB.k0, hB.k1, hB.k2, hB.k3, hB.cb]
    simp only [← EReal.coe_mul, ← EReal.coe_add]
    rfl
  pointwise [mixed, hn, hy, hB.gate, hB.down]
  simp only [← EReal.coe_mul, ← coe_sum, sig_div]
  rfl

theorem key_val (b : Fin 8) (m : Fin 2) (h : Fin 4) (e : Fin 64) :
    B.key x p (ix4 b m h e) = ((key (mix W (X b) t) m h e : ℝ) : EReal) := by
  have hu := u_val hB hx hA
  have h0 : ∀ (b : Fin 8) (h : Fin 4) (e : Fin 64), key0 (B.u x p) (ix3 b h e) = ((unitKey (mix W (X b) t) h e : ℝ) : EReal) := by
    intro b h e
    pointwise [key0, hu]
    have hi : ∀ (f : Fin 64) (hf : h.val * 64 + f.val < 256), (⟨h.val * 64 + f.val, hf⟩ : Fin 256) = at4 h f :=
      fun f hf => Fin.ext (by show h.val * 64 + f.val = 64 * h.val + f.val; omega)
    simp only [hi, ← EReal.coe_mul, ← coe_sum]
    rw [sqrt_real _ (Finset.sum_nonneg fun f _ => mul_self_nonneg _), tiny_coe, ← coe_max,
      div_real _ _ (lt_of_lt_of_le tiny_pos (le_max_right _ _)).ne']
    rfl
  by_cases hm : m = 0
  · subst hm
    pointwise [keys, h0]
    simp [key]
  · have h1 : m = 1 := by omega
    subst h1
    have hk : key (mix W (X b) t) 1 h = rot (unitKey (mix W (X b) t) h) := by unfold key; rw [if_neg hm]
    rw [hk]
    pointwise [keys, h0]
    unfold rot
    split
    · rename_i he
      rw [dif_pos (by omega), ← EReal.coe_neg]
      refine congrArg (fun q => ((-unitKey (mix W (X b) t) h q : ℝ) : EReal)) (Fin.ext ?_)
      show 1 + 2 * (e.val / 2) = e.val + 1
      omega
    · rename_i he
      rw [dif_neg (by omega)]
      refine congrArg (fun q => ((unitKey (mix W (X b) t) h q : ℝ) : EReal)) (Fin.ext ?_)
      show 2 * (e.val / 2) = e.val - 1
      omega

theorem mem_val (b : Fin 8) (m : Fin 2) (h : Fin 4) (e f : Fin 64) :
    B.mem x p k S (ix5 b m h e f) = (((head W (mix W (X b)) m h).mem (t + 1) e f : ℝ) : EReal) := by
  have hu := u_val hB hx hA
  have hv : ∀ (b : Fin 8) (m : Fin 2) (h : Fin 4) (e : Fin 64),
      vals (B.u x p) B.wv (ix4 b m h e) = ((val W (mix W (X b) t) m h e : ℝ) : EReal) := by
    intro b m h e
    pointwise [vals, hu, hB.wv]
    simp only [← EReal.coe_mul, ← coe_sum]
    refine congrArg _ (Finset.sum_congr rfl fun d _ => congrArg (fun q => mix W (X b) t d * W.wv d q) (Fin.ext ?_))
    show m.val * 256 + h.val * 64 + e.val = 256 * m.val + 64 * h.val + e.val
    omega
  have hb : ∀ (b : Fin 8) (m : Fin 2) (h : Fin 4), betas (B.u x p) B.wb (ix3 b m h) = ((beta W (mix W (X b) t) m h : ℝ) : EReal) := by
    intro b m h
    pointwise [betas, hu, hB.wb]
    simp only [← EReal.coe_mul, ← coe_sum, sig_div]
    rfl
  have hd : ∀ (b : Fin 8) (m : Fin 2) (h : Fin 4),
      decay (alphas (B.u x p) B.wa B.db) B.al (ix3 b m h) = ((Real.exp (ld W (mix W (X b) t) m h) : ℝ) : EReal) := by
    intro b m h
    pointwise [decay, alphas, hu, hB.wa, hB.db, hB.al]
    simp only [ne_eq, not_true_eq_false, if_false, ← EReal.coe_mul, ← coe_sum, ← EReal.coe_add]
    rw [← zero_sub (FloatOps.absf _), softplus_read, Ideal.exp_coe, ← EReal.coe_neg, ← EReal.coe_mul, Ideal.exp_coe]
    rfl
  have hS : ∀ (b : Fin 8) (m : Fin 2) (h : Fin 4) (e f : Fin 64), faded S (decay (alphas (B.u x p) B.wa B.db) B.al) (ix5 b m h e f)
      = (((head W (mix W (X b)) m h).mem t e f * Real.exp ((head W (mix W (X b)) m h).l t) : ℝ) : EReal) := by
    intro b m h e f
    pointwise [faded, hd, hA.mem]
    rw [← EReal.coe_mul]
    rfl
  pointwise [written, hS, hv, hb, hA.key]
  simp only [← EReal.coe_mul, ← coe_sum, ← EReal.coe_sub, ← EReal.coe_add]
  rfl

theorem out_val (b : Fin 8) (d : Fin 256) : B.out x p k S (ix2 b d) = ((layer W (X b) t d : ℝ) : EReal) := by
  have hu := u_val hB hx hA
  have hR : ∀ (b : Fin 8) (m : Fin 2) (h : Fin 4) (e : Fin 64),
      reads (B.mem x p k S) (B.key x p) (ix4 b m h e) = (((head W (mix W (X b)) m h).read t e : ℝ) : EReal) := by
    intro b m h e
    have hm := mem_val hB hx hA
    have hk := key_val hB hx hA
    pointwise [reads, hm, hk]
    simp only [← EReal.coe_mul, ← coe_sum]
    rfl
  have hg : ∀ (b : Fin 8) (h : Fin 4), gates (B.u x p) B.wg (ix2 b h) = ((outGate W (mix W (X b) t) h : ℝ) : EReal) := by
    intro b h
    pointwise [gates, hu, hB.wg]
    simp only [← EReal.coe_mul, ← coe_sum, sig_div]
    rfl
  have hl : ∀ (b : Fin 8) (h : Fin 4) (m : Fin 2), logits (B.u x p) B.bl (ix3 b h m) = ((blendLogit W (mix W (X b) t) h m : ℝ) : EReal) := by
    intro b h m
    pointwise [logits, hu, hB.bl]
    simp only [← EReal.coe_mul, ← coe_sum]
    refine congrArg _ (Finset.sum_congr rfl fun d _ => congrArg (fun q => mix W (X b) t d * W.bl d q) (Fin.ext ?_))
    show h.val * 2 + m.val = 2 * h.val + m.val
    omega
  have hbl : ∀ (b : Fin 8) (h : Fin 4) (m : Fin 2),
      blends (logits (B.u x p) B.bl) (ix3 b h m) = ((blend W (mix W (X b) t) h m : ℝ) : EReal) := by
    intro b h m
    pointwise [blends, hl]
    rw [lowest]
    simp only [fold_two, max_eq_right bot_le, ← coe_max, ← EReal.coe_sub, Ideal.exp_coe, ← coe_sum]
    rw [div_real _ _ (Finset.sum_pos (fun i _ => Real.exp_pos _) ⟨0, Finset.mem_univ _⟩).ne', Fin.sum_univ_two]
    rfl
  pointwise [outs, hx, hu, hbl, hR, hg, hB.wo]
  simp only [← EReal.coe_mul, ← coe_sum, ← EReal.coe_add]
  refine congrArg _ ?_
  unfold layer
  rw [sum_at4]
  refine congrArg (fun s => X b t d + (mix W (X b) t d + s)) (Finset.sum_congr rfl fun h _ => Finset.sum_congr rfl fun e _ => ?_)
  have e1 : ∀ hh : (at4 h e).val / 64 < 4, (⟨(at4 h e).val / 64, hh⟩ : Fin 4) = h :=
    fun hh => Fin.ext (by show (64 * h.val + e.val) / 64 = h.val; omega)
  have e2 : ∀ hh : (at4 h e).val % 64 < 64, (⟨(at4 h e).val % 64, hh⟩ : Fin 64) = e :=
    fun hh => Fin.ext (by show (64 * h.val + e.val) % 64 = e.val; omega)
  simp only [e1, e2]
  rfl

/-- After the token, what the layer keeps is the model's at the next token. -/
theorem at_next : At (kept (B.a x p)) (B.key x p) (B.mem x p k S) W X (t + 1) where
  past b i c := by
    have ha := a_val hB hx hA
    pointwise [kept, ha]
    refine congrArg _ ?_
    show lag _ (3 - (1 + i.val)) t = lag _ (3 - i.val) (t + 1)
    unfold lag
    have e : t - (3 - (1 + i.val)) = t + 1 - (3 - i.val) := by omega
    rw [e]
    split <;> split <;> first | rfl | omega
  key b m h e := by
    rw [key_val hB hx hA]
    show _ = ((lag (fun s => key (mix W (X b) s) m h e) 1 (t + 1) : ℝ) : EReal)
    unfold lag
    rw [if_pos (by omega)]
    rfl
  mem := mem_val hB hx hA

end Layer

/-- Before the first token. -/
theorem at_zero {p : FVec Ideal S8x3x512 .f32} {k : FVec Ideal S8x2x4x64 .f32} {S : FVec Ideal S8x2x4x64x64 .f32}
    (hp : ∀ b i c, p (ix3 b i c) = 0) (hk : ∀ b m h e, k (ix4 b m h e) = 0) (hS : ∀ b m h e f, S (ix5 b m h e f) = 0)
    (W : Weights) (X : Fin 8 → ℕ → Fin 256 → ℝ) : At p k S W X 0 where
  past b i c := by
    rw [hp]; unfold lag; rw [if_neg (by omega)]; rfl
  key b m h e := by
    rw [hk]
    show _ = ((lag (fun s => key (mix W (X b) s) m h e) 1 0 : ℝ) : EReal)
    unfold lag; rw [if_neg (by omega)]; rfl
  mem b m h e f := by
    rw [hS]; rfl

end Cert.RefRows

end
-- ==== Proof.RefVal.lean ====
/-
  The reference over the model: each trip goes from one token's state to the next one's, and what the last state holds
  gives the logits.
-/
module

public import proofs.«01_k».proof.Proof.RefRows
public import proofs.«01_k».proof.Proof.Args
public import proofs.«01_k».proof.Proof.Gen.ReferenceIdeal.Step

@[expose] public section

set_option maxRecDepth 16384

noncomputable section

namespace Cert.RefVal

open Idealize.ShloMosaic Idealize.ShloMosaic.TcCoe Idealize.SL.Sem
open Cert.ReferenceIdeal Cert.ReferenceIdeal.Gen Cert.Model Cert.RefRows Cert.Args
open Cert.ReferenceIdeal.Step

section Trip

variable {a0 : IVec S8x512 32} {a1 : FVec Ideal S272x256 .f32} {W : Fin 2 → Weights} {E : Fin 272 → Fin 256 → ℝ}
  {q : Fin 8 → ℕ → Fin 272} {w : Fin 256 → ℝ} {s : State Ideal}
  (hM : Means a0 a1 s.main_v12_1 s.main_v12_2 s.main_v12_5 s.main_v12_6 s.main_v12_3 s.main_v12_4 s.main_v12_7 s.main_v12_8 s.main_v12_9 s.main_v12_10 s.main_v12_12 s.main_v12_11 s.main_v12_13 s.main_v12_14 s.main_v12_15 W E q w) (j : ℕ)

include hM

/-- Layer 0's weights, as a trip slices them. -/
abbrev slab0 (j : ℕ) (s : State Ideal) : Slab :=
  { nw := b5 j s, up := b23 j s, gate := b76 j s, down := b89 j s, k0 := b30 j s, k1 := b40 j s, k2 := b48 j s, k3 := b56 j s, cb := b62 j s, wv := b92 j s, wg := b96 j s, wb := b107 j s, wa := b118 j s, al := b126 j s, db := b121 j s, bl := b148 j s, wo := b207 j s }

theorem slab0_holds : (slab0 j s).Holds (W 0) where
  nw := by have h := hM.nw 0; intros; pointwise [b5, b4, h]
  up := by have h := hM.up 0; intros; pointwise [b23, b22, h]
  gate := by have h := hM.gate 0; intros; pointwise [b76, b75, h]
  down := by have h := hM.down 0; intros; pointwise [b89, b88, h]
  k0 := by have h := hM.cw 0; intros; pointwise [b30, b29, h]
  k1 := by have h := hM.cw 0; intros; pointwise [b40, b39, h]
  k2 := by have h := hM.cw 0; intros; pointwise [b48, b47, h]
  k3 := by have h := hM.cw 0; intros; pointwise [b56, b55, h]
  cb := by have h := hM.cb 0; intros; pointwise [b62, b61, h]
  wv := by have h := hM.wv 0; intros; pointwise [b92, b91, h]
  wg := by have h := hM.wg 0; intros; pointwise [b96, b95, h]
  wb := by have h := hM.wb 0; intros; pointwise [b107, b106, h]
  wa := by have h := hM.wa 0; intros; pointwise [b118, b117, h]
  al := by have h := hM.al 0; intros; pointwise [b126, b125, h]
  db := by have h := hM.db 0; intros; pointwise [b121, b120, h]
  bl := by have h := hM.bl 0; intros; pointwise [b148, b147, h]
  wo := by have h := hM.wo 0; intros; pointwise [b207, b206, h]

/-- Layer 1's weights, as a trip slices them. -/
abbrev slab1 (j : ℕ) (s : State Ideal) : Slab :=
  { nw := b213 j s, up := b231 j s, gate := b284 j s, down := b297 j s, k0 := b238 j s, k1 := b248 j s, k2 := b256 j s, k3 := b264 j s, cb := b270 j s, wv := b300 j s, wg := b304 j s, wb := b315 j s, wa := b326 j s, al := b334 j s, db := b329 j s, bl := b356 j s, wo := b415 j s }

theorem slab1_holds : (slab1 j s).Holds (W 1) where
  nw := by have h := hM.nw 1; intros; pointwise [b213, b212, h]
  up := by have h := hM.up 1; intros; pointwise [b231, b230, h]
  gate := by have h := hM.gate 1; intros; pointwise [b284, b283, h]
  down := by have h := hM.down 1; intros; pointwise [b297, b296, h]
  k0 := by have h := hM.cw 1; intros; pointwise [b238, b237, h]
  k1 := by have h := hM.cw 1; intros; pointwise [b248, b247, h]
  k2 := by have h := hM.cw 1; intros; pointwise [b256, b255, h]
  k3 := by have h := hM.cw 1; intros; pointwise [b264, b263, h]
  cb := by have h := hM.cb 1; intros; pointwise [b270, b269, h]
  wv := by have h := hM.wv 1; intros; pointwise [b300, b299, h]
  wg := by have h := hM.wg 1; intros; pointwise [b304, b303, h]
  wb := by have h := hM.wb 1; intros; pointwise [b315, b314, h]
  wa := by have h := hM.wa 1; intros; pointwise [b326, b325, h]
  al := by have h := hM.al 1; intros; pointwise [b334, b333, h]
  db := by have h := hM.db 1; intros; pointwise [b329, b328, h]
  bl := by have h := hM.bl 1; intros; pointwise [b356, b355, h]
  wo := by have h := hM.wo 1; intros; pointwise [b415, b414, h]

end Trip

/-- The state that token `t` starts from: the arguments, the rows of the token's ids, what each layer keeps, and the rows
    already normalised. -/
structure Inv (a0 : IVec S8x512 32) (a1 : FVec Ideal S272x256 .f32) (W : Fin 2 → Weights) (E : Fin 272 → Fin 256 → ℝ)
    (q : Fin 8 → ℕ → Fin 272) (w : Fin 256 → ℝ) (t : ℕ) (s : State Ideal) : Prop where
  args : Means a0 a1 s.main_v12_1 s.main_v12_2 s.main_v12_5 s.main_v12_6 s.main_v12_3 s.main_v12_4 s.main_v12_7 s.main_v12_8 s.main_v12_9 s.main_v12_10 s.main_v12_12 s.main_v12_11 s.main_v12_13 s.main_v12_14 s.main_v12_15 W E q w
  row : ∀ (r : Fin 512) (b : Fin 8) (d : Fin 256), s.main_v12_0 (ix3 r b d) = ((E (q b r) d : ℝ) : EReal)
  at0 : At s.main_v12_17 s.main_v12_18 s.main_v12_19 (W 0) (fun b r => E (q b r)) t
  at1 : At s.main_v12_20 s.main_v12_21 s.main_v12_22 (W 1) (fun b => layer (W 0) fun r => E (q b r)) t
  done : ∀ (r : Fin 512) (b : Fin 8) (d : Fin 256), r.val < t →
    s.main_v12_23 (ix3 r b d) = ((rms (layer (W 1) (layer (W 0) fun r => E (q b r)) r) w d : ℝ) : EReal)

theorem word_le {k : ℕ} (h : k < 512) : (BitVec.ofNat 32 k).toInt = k := by
  rw [BitVec.toInt_eq_toNat_cond, BitVec.toNat_ofNat, Nat.mod_eq_of_lt (by omega)]
  rw [if_pos (by omega)]

theorem start0 {t : ℕ} (ht : t < 512) (p : S1x8x256.rank = S512x8x256.rank) : Host.clampedStart S512x8x256 S1x8x256 p
    (fun k => (((![(constantI S_ 32 (BitVec.ofNat 32 t) : (⟨S_, .i32⟩ : BufTy).Contents (Elt Ideal)), constantI S_ 32 0#32, constantI S_ 32 0#32] : Fin 3 → (⟨S_, .i32⟩ : BufTy).Contents (Elt Ideal))) k (Shape.Idx.first h_S_)).toInt) 0 = t :=
  Host.clampedStart_of_le p _ 0 t (word_le ht) (by show t + 1 ≤ 512; omega)

theorem start1 (t : ℕ) (p : S1x8x256.rank = S512x8x256.rank) : Host.clampedStart S512x8x256 S1x8x256 p
    (fun k => (((![(constantI S_ 32 (BitVec.ofNat 32 t) : (⟨S_, .i32⟩ : BufTy).Contents (Elt Ideal)), constantI S_ 32 0#32, constantI S_ 32 0#32] : Fin 3 → (⟨S_, .i32⟩ : BufTy).Contents (Elt Ideal))) k (Shape.Idx.first h_S_)).toInt) 1 = 0 :=
  Host.clampedStart_of_le p _ 1 0 rfl (by show 0 + 8 ≤ 8; omega)

theorem start2 (t : ℕ) (p : S1x8x256.rank = S512x8x256.rank) : Host.clampedStart S512x8x256 S1x8x256 p
    (fun k => (((![(constantI S_ 32 (BitVec.ofNat 32 t) : (⟨S_, .i32⟩ : BufTy).Contents (Elt Ideal)), constantI S_ 32 0#32, constantI S_ 32 0#32] : Fin 3 → (⟨S_, .i32⟩ : BufTy).Contents (Elt Ideal))) k (Shape.Idx.first h_S_)).toInt) 2 = 0 :=
  Host.clampedStart_of_le p _ 2 0 rfl (by show 0 + 256 ≤ 256; omega)

/-- The rows a trip reads. -/
theorem row_at (s : State Ideal) {t : ℕ} (ht : t < 512) (b : Fin 8) (d : Fin 256) :
    b3 t s (ix2 b d) = s.main_v12_0 (ix3 ⟨t, ht⟩ b d) := by
  pointwise [b3, b2, b1, b0]
  simp only [start0 ht, start1, start2, Nat.zero_add]

/-- The rows after a trip: the trip's own at its number, and the earlier ones kept. -/
theorem rows_at (s : State Ideal) {t : ℕ} (ht : t < 512) (r : Fin 512) (b : Fin 8) (d : Fin 256) :
    b439 t s (ix3 r b d) = if r.val = t then b435 t s (ix2 b d) else s.main_v12_23 (ix3 r b d) := by
  pointwise [b439, b438, b437, b436]
  simp only [start0 ht, start1, start2, Nat.sub_zero]
  by_cases h : r.val = t
  · rw [dif_pos (by omega), if_pos h]
  · rw [dif_neg (by omega), if_neg h]

theorem trip {a0 : IVec S8x512 32} {a1 : FVec Ideal S272x256 .f32} {W : Fin 2 → Weights} {E : Fin 272 → Fin 256 → ℝ}
    {q : Fin 8 → ℕ → Fin 272} {w : Fin 256 → ℝ} {t : ℕ} (ht : t < 512) {s : State Ideal} (h : Inv a0 a1 W E q w t s) :
    Inv a0 a1 W E q w (t + 1) (step t s) := by
  have h0 := slab0_holds h.args t
  have h1 := slab1_holds h.args t
  have hx : ∀ (b : Fin 8) (d : Fin 256), b3 t s (ix2 b d) = ((E (q b t) d : ℝ) : EReal) :=
    fun b d => (row_at s ht b d).trans (h.row ⟨t, ht⟩ b d)
  have hx1 : ∀ (b : Fin 8) (d : Fin 256), b210 t s (ix2 b d) = ((layer (W 0) (fun r => E (q b r)) t d : ℝ) : EReal) :=
    out_val h0 (X := fun b r => E (q b r)) hx h.at0
  have hx2 : ∀ (b : Fin 8) (d : Fin 256), b418 t s (ix2 b d)
      = ((layer (W 1) (layer (W 0) fun r => E (q b r)) t d : ℝ) : EReal) :=
    out_val h1 (X := fun b => layer (W 0) fun r => E (q b r)) hx1 h.at1
  have hy : ∀ (b : Fin 8) (d : Fin 256), b435 t s (ix2 b d)
      = ((rms (layer (W 1) (layer (W 0) fun r => E (q b r)) t) w d : ℝ) : EReal) :=
    nx_val (X := fun b => layer (W 1) (layer (W 0) fun r => E (q b r)) t) hx2 h.args.fw
  exact {
    args := h.args
    row := h.row
    at0 := at_next h0 (X := fun b r => E (q b r)) hx h.at0
    at1 := at_next h1 (X := fun b => layer (W 0) fun r => E (q b r)) hx1 h.at1
    done := fun r b d hr => by
      refine (rows_at s ht r b d).trans ?_
      split
      · rename_i e
        rw [hy, e]
      · exact h.done r b d (by omega) }

theorem gather_at (a : FVec Ideal S272x256 .f32) (ix : IVec S8x512x1 32) (b : Fin 8) (t : Fin 512) (d : Fin 256) {k : ℕ}
    (hk : k < 272) (h : ix (ix3 b t 0) = BitVec.ofNat 32 k) :
    Host.gather gather_S272x256_S8x512x1_S8x512x256_2_0_n_n_0_2_1256 a ix (ix3 b t d) = a (ix2 ⟨k, hk⟩ d) := by
  unfold Host.gather
  congr 1
  funext ax
  refine Fin.ext ?_
  have hc : ax = 0 ∨ ax = 1 := by
    match ax with
    | ⟨0, _⟩ => exact Or.inl rfl
    | ⟨1, _⟩ => exact Or.inr rfl
  rcases hc with rfl | rfl
  · show gather_S272x256_S8x512x1_S8x512x256_2_0_n_n_0_2_1256.start (ix3 b t d) ix 0
        + gather_S272x256_S8x512x1_S8x512x256_2_0_n_n_0_2_1256.batchCoord (ix3 b t d) 0
        + gather_S272x256_S8x512x1_S8x512x256_2_0_n_n_0_2_1256.offCoord (ix3 b t d) 0 = k
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S272x256_S8x512x1_S8x512x256_2_0_n_n_0_2_1256.startIndexMap from List.mem_singleton.mpr rfl)]
    have hi : gather_S272x256_S8x512x1_S8x512x256_2_0_n_n_0_2_1256.siIdx (ix3 b t d)
        ⟨List.idxOf (0 : Fin 2) gather_S272x256_S8x512x1_S8x512x256_2_0_n_n_0_2_1256.startIndexMap,
          List.idxOf_lt_length_iff.2 (List.mem_singleton.mpr rfl)⟩ = ix3 b t 0 := by
      funext e
      refine Fin.ext ?_
      match e with
      | ⟨0, _⟩ => rfl
      | ⟨1, _⟩ => rfl
      | ⟨2, _⟩ => rfl
    rw [hi, h, word_le (by omega)]
    show min k 271 + 0 + 0 = k
    omega
  · show gather_S272x256_S8x512x1_S8x512x256_2_0_n_n_0_2_1256.start (ix3 b t d) ix 1
        + gather_S272x256_S8x512x1_S8x512x256_2_0_n_n_0_2_1256.batchCoord (ix3 b t d) 1
        + gather_S272x256_S8x512x1_S8x512x256_2_0_n_n_0_2_1256.offCoord (ix3 b t d) 1 = d.val
    rw [GatherDims.batchCoord_eq_zero _ _ _ List.not_mem_nil]
    unfold GatherDims.start
    rw [dif_neg (show ¬ (1 : Fin 2) ∈ gather_S272x256_S8x512x1_S8x512x256_2_0_n_n_0_2_1256.startIndexMap from fun h => absurd (List.mem_singleton.mp h) (by decide))]
    show 0 + 0 + gather_S272x256_S8x512x1_S8x512x256_2_0_n_n_0_2_1256.offCoord (ix3 b t d) 1 = d.val
    rw [Nat.zero_add]
    rfl

/-- The rows the loop starts from are the table's, at the token ids. -/
theorem rows_init {a0 : IVec S8x512 32} {q : Fin 8 → ℕ → Fin 272} (hq : ∀ b (t : Fin 512), a0 (ix2 b t) = BitVec.ofNat 32 (q b t).val)
    (a1 : FVec Ideal S272x256 .f32) (r : Fin 512) (b : Fin 8) (d : Fin 256) :
    A_main_v10 (F := Ideal) a0 a1 (ix3 r b d) = a1 (ix2 (q b r) d) := by
  have e : A_main_v8 (F := Ideal) a0 a1 (ix3 b r 0) = BitVec.ofNat 32 (q b r).val := by
    pointwise [A_main_v8, A_main_v7, A_main_v6, A_main_v4, K_main_v3, K_main_v5, K_main_c, K_main_c_2, hq]
    refine if_neg fun e => ?_
    have h := IntOp.cmpi_slt.1 e
    rw [word_le (by omega), show (0#32 : BitVec 32).toInt = 0 from rfl] at h
    omega
  pointwise [A_main_v10, A_main_v9]
  exact gather_at a1 _ b r d (q b r).isLt e

/-- The states of the loop. -/
def states (s : State Ideal) : ℕ → State Ideal
  | 0 => s
  | n + 1 => step n (states s n)

theorem inv_states {a0 : IVec S8x512 32} {a1 : FVec Ideal S272x256 .f32} {W : Fin 2 → Weights} {E : Fin 272 → Fin 256 → ℝ}
    {q : Fin 8 → ℕ → Fin 272} {w : Fin 256 → ℝ} {s : State Ideal} (h : Inv a0 a1 W E q w 0 s) :
    ∀ t, t ≤ 512 → Inv a0 a1 W E q w t (states s t)
  | 0, _ => h
  | t + 1, ht => trip (by omega) (inv_states h t (by omega))

variable {a0 : IVec S8x512 32} {a1 : FVec Ideal S272x256 .f32}
  {a2 : FVec Ideal S2x256 .f32} {a3 : FVec Ideal S2x256x512 .f32}
  {a4 : FVec Ideal S2x256x512 .f32} {a5 : FVec Ideal S2x512x256 .f32} {a6 : FVec Ideal S2x512x4 .f32}
  {a7 : FVec Ideal S2x512 .f32} {a8 : FVec Ideal S2x256x512 .f32} {a9 : FVec Ideal S2x256x4 .f32}
  {a10 : FVec Ideal S2x2x256x4 .f32} {a11 : FVec Ideal S2x2x256x4 .f32} {a12 : FVec Ideal S2x2x4 .f32}
  {a13 : FVec Ideal S2x2x4 .f32} {a14 : FVec Ideal S2x256x8 .f32} {a15 : FVec Ideal S2x256x256 .f32}
  {a16 : FVec Ideal S256 .f32}

theorem inv_init {W : Fin 2 → Weights} {E : Fin 272 → Fin 256 → ℝ} {q : Fin 8 → ℕ → Fin 272} {w : Fin 256 → ℝ}
    (h : Means a0 a1 a2 a3 a4 a5 a6 a7 a8 a9 a10 a11 a12 a13 a14 a15 a16 W E q w) :
    Inv a0 a1 W E q w 0 (init a2 a3 a6 a7 a4 a5 a8 a9 a10 a11 a13 a12 a14 a15 a16 a0 a1) where
  args := h
  row r b d := (rows_init h.id a1 r b d).trans (h.emb _ _)
  at0 := at_zero (fun b i c => by pointwise [init, K_main_v0, K_main_cst]) (fun b m h e => by pointwise [init, K_main_v1, K_main_cst_0])
    (fun b m h e f => by pointwise [init, K_main_v2, K_main_cst_1]) _ _
  at1 := at_zero (fun b i c => by pointwise [init, K_main_v0, K_main_cst]) (fun b m h e => by pointwise [init, K_main_v1, K_main_cst_0])
    (fun b m h e f => by pointwise [init, K_main_v2, K_main_cst_1]) _ _
  done r b d h := absurd h (by omega)

/-- The reference's result: the model's logits. -/
theorem result {W : Fin 2 → Weights} {E : Fin 272 → Fin 256 → ℝ} {q : Fin 8 → ℕ → Fin 272} {w : Fin 256 → ℝ}
    (h : Means a0 a1 a2 a3 a4 a5 a6 a7 a8 a9 a10 a11 a12 a13 a14 a15 a16 W E q w) (b : Fin 8) (r : Fin 512) (v : Fin 272) :
    R_main_v15 (states (init a2 a3 a6 a7 a4 a5 a8 a9 a10 a11 a13 a12 a14 a15 a16 a0 a1) 512) a1 (ix3 b r v)
      = ((logit w E (layer (W 1) (layer (W 0) fun r => E (q b r)) r) v : ℝ) : EReal) := by
  have hf : ∀ (r : Fin 512) (b : Fin 8) (d : Fin 256), _ := fun r b d => (inv_states (inv_init h) 512 le_rfl).done r b d r.isLt
  have he := h.emb
  pointwise [R_main_v15, hf, he]
  simp only [← EReal.coe_mul, ← coe_sum]
  rfl

end Cert.RefVal

end
-- ==== Proof.RefRun.lean ====
/-
  The reference's run over the step of one token: a valuation that holds a state goes on to hold the next one, each of
  the values that a trip names being that step's, so the run's result is the 512th state's.
-/
module

public import proofs.«01_k».proof.Proof.Gen.ReferenceIdeal.Run
public import proofs.«01_k».proof.Proof.Gen.ReferenceIdeal.Step
public import Idealize.ShloMosaic.Lib.Quiescent

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_17 : V0 (Proc.devRef .tc main_v12_17) = s.main_v12_17
  f_18 : V0 (Proc.devRef .tc main_v12_18) = s.main_v12_18
  f_19 : V0 (Proc.devRef .tc main_v12_19) = s.main_v12_19
  f_20 : V0 (Proc.devRef .tc main_v12_20) = s.main_v12_20
  f_21 : V0 (Proc.devRef .tc main_v12_21) = s.main_v12_21
  f_22 : V0 (Proc.devRef .tc main_v12_22) = s.main_v12_22
  f_23 : V0 (Proc.devRef .tc main_v12_23) = s.main_v12_23
  f_0 : V0 (Proc.devRef .tc main_v12_0) = s.main_v12_0
  f_1 : V0 (Proc.devRef .tc main_v12_1) = s.main_v12_1
  f_2 : V0 (Proc.devRef .tc main_v12_2) = s.main_v12_2
  f_3 : V0 (Proc.devRef .tc main_v12_3) = s.main_v12_3
  f_4 : V0 (Proc.devRef .tc main_v12_4) = s.main_v12_4
  f_5 : V0 (Proc.devRef .tc main_v12_5) = s.main_v12_5
  f_6 : V0 (Proc.devRef .tc main_v12_6) = s.main_v12_6
  f_7 : V0 (Proc.devRef .tc main_v12_7) = s.main_v12_7
  f_8 : V0 (Proc.devRef .tc main_v12_8) = s.main_v12_8
  f_9 : V0 (Proc.devRef .tc main_v12_9) = s.main_v12_9
  f_10 : V0 (Proc.devRef .tc main_v12_10) = s.main_v12_10
  f_11 : V0 (Proc.devRef .tc main_v12_11) = s.main_v12_11
  f_12 : V0 (Proc.devRef .tc main_v12_12) = s.main_v12_12
  f_13 : V0 (Proc.devRef .tc main_v12_13) = s.main_v12_13
  f_14 : V0 (Proc.devRef .tc main_v12_14) = s.main_v12_14
  f_15 : V0 (Proc.devRef .tc main_v12_15) = s.main_v12_15
  n_16 : V0 (Proc.devRef .tc main_v12_16) = constantI S_ 32 (BitVec.ofNat 32 j)

variable {V0 s j}

set_option maxRecDepth 65536

/-! What one trip names is the step's value. -/

theorem al_3 (h : Holds V0 s j) : res_main_while0b_v16 V0 = Cert.ReferenceIdeal.Step.b3 j s := by
  unfold res_main_while0b_v16
  rw [h.f_0, h.n_16]
  rfl

theorem al_21 (h : Holds V0 s j) : res_main_while0b_v31 V0 = Cert.ReferenceIdeal.Step.b21 j s := by
  unfold res_main_while0b_v31
  rw [al_3 h, h.f_1]
  rfl

theorem al_26 (h : Holds V0 s j) : res_main_while0b_v36 V0 = Cert.ReferenceIdeal.Step.b26 j s := by
  unfold res_main_while0b_v36
  rw [al_21 h, h.f_2, h.f_17]
  rfl

theorem al_65 (h : Holds V0 s j) : res_main_while0b_v74 V0 = Cert.ReferenceIdeal.Step.b65 j s := by
  unfold res_main_while0b_v74
  rw [al_26 h, h.f_3, h.f_4]
  rfl

theorem al_77 (h : Holds V0 s j) : res_main_while0b_v78 V0 = Cert.ReferenceIdeal.Step.b77 j s := by
  unfold res_main_while0b_v78
  rw [al_21 h, h.f_5]
  rfl

theorem al_90 (h : Holds V0 s j) : res_main_while0b_v83 V0 = Cert.ReferenceIdeal.Step.b90 j s := by
  unfold res_main_while0b_v83
  rw [al_65 h, al_77 h, h.f_6]
  rfl

theorem al_124 (h : Holds V0 s j) : res_main_while0b_v113 V0 = Cert.ReferenceIdeal.Step.b124 j s := by
  unfold res_main_while0b_v113
  rw [al_90 h, h.f_10, h.f_11]
  rfl

theorem al_130 (h : Holds V0 s j) : res_main_while0b_call3_cst V0 = Cert.ReferenceIdeal.Step.b130 j s := by
  unfold res_main_while0b_call3_cst
  rfl

theorem al_134 (h : Holds V0 s j) : res_main_while0b_call3_v3 V0 = Cert.ReferenceIdeal.Step.b134 j s := by
  unfold res_main_while0b_call3_v3
  rw [al_124 h, al_130 h]
  rfl

theorem al_150 (h : Holds V0 s j) : res_main_while0b_v126 V0 = Cert.ReferenceIdeal.Step.b150 j s := by
  unfold res_main_while0b_v126
  rw [al_90 h, h.f_13]
  rfl

theorem al_159 (h : Holds V0 s j) : res_main_while0b_v133 V0 = Cert.ReferenceIdeal.Step.b159 j s := by
  unfold res_main_while0b_v133
  rw [al_150 h]
  rfl

theorem al_165 (h : Holds V0 s j) : res_main_while0b_v138 V0 = Cert.ReferenceIdeal.Step.b165 j s := by
  unfold res_main_while0b_v138
  rw [al_90 h]
  rfl

theorem al_175 (h : Holds V0 s j) : res_main_while0b_v146 V0 = Cert.ReferenceIdeal.Step.b175 j s := by
  unfold res_main_while0b_v146
  rw [al_165 h]
  rfl

theorem al_185 (h : Holds V0 s j) : res_main_while0b_v156 V0 = Cert.ReferenceIdeal.Step.b185 j s := by
  unfold res_main_while0b_v156
  rw [al_175 h]
  rfl

theorem al_188 (h : Holds V0 s j) : res_main_while0b_v159 V0 = Cert.ReferenceIdeal.Step.b188 j s := by
  unfold res_main_while0b_v159
  rw [al_124 h, al_130 h, al_134 h, h.f_12, h.f_19]
  rfl

theorem al_199 (h : Holds V0 s j) : res_main_while0b_v170 V0 = Cert.ReferenceIdeal.Step.b199 j s := by
  unfold res_main_while0b_v170
  rw [al_90 h, al_188 h, h.f_7, h.f_9, h.f_18]
  rfl

theorem al_210 (h : Holds V0 s j) : res_main_while0b_v181 V0 = Cert.ReferenceIdeal.Step.b210 j s := by
  unfold res_main_while0b_v181
  rw [al_3 h, al_90 h, al_159 h, al_185 h, al_199 h, h.f_8, h.f_14]
  rfl

theorem al_229 (h : Holds V0 s j) : res_main_while0b_v197 V0 = Cert.ReferenceIdeal.Step.b229 j s := by
  unfold res_main_while0b_v197
  rw [al_210 h, h.f_1]
  rfl

theorem al_234 (h : Holds V0 s j) : res_main_while0b_v202 V0 = Cert.ReferenceIdeal.Step.b234 j s := by
  unfold res_main_while0b_v202
  rw [al_229 h, h.f_2, h.f_20]
  rfl

theorem al_273 (h : Holds V0 s j) : res_main_while0b_v240 V0 = Cert.ReferenceIdeal.Step.b273 j s := by
  unfold res_main_while0b_v240
  rw [al_234 h, h.f_3, h.f_4]
  rfl

theorem al_285 (h : Holds V0 s j) : res_main_while0b_v244 V0 = Cert.ReferenceIdeal.Step.b285 j s := by
  unfold res_main_while0b_v244
  rw [al_229 h, h.f_5]
  rfl

theorem al_298 (h : Holds V0 s j) : res_main_while0b_v249 V0 = Cert.ReferenceIdeal.Step.b298 j s := by
  unfold res_main_while0b_v249
  rw [al_273 h, al_285 h, h.f_6]
  rfl

theorem al_332 (h : Holds V0 s j) : res_main_while0b_v279 V0 = Cert.ReferenceIdeal.Step.b332 j s := by
  unfold res_main_while0b_v279
  rw [al_298 h, h.f_10, h.f_11]
  rfl

theorem al_338 (h : Holds V0 s j) : res_main_while0b_call6_cst V0 = Cert.ReferenceIdeal.Step.b338 j s := by
  unfold res_main_while0b_call6_cst
  rfl

theorem al_342 (h : Holds V0 s j) : res_main_while0b_call6_v3 V0 = Cert.ReferenceIdeal.Step.b342 j s := by
  unfold res_main_while0b_call6_v3
  rw [al_332 h, al_338 h]
  rfl

theorem al_358 (h : Holds V0 s j) : res_main_while0b_v292 V0 = Cert.ReferenceIdeal.Step.b358 j s := by
  unfold res_main_while0b_v292
  rw [al_298 h, h.f_13]
  rfl

theorem al_367 (h : Holds V0 s j) : res_main_while0b_v299 V0 = Cert.ReferenceIdeal.Step.b367 j s := by
  unfold res_main_while0b_v299
  rw [al_358 h]
  rfl

theorem al_373 (h : Holds V0 s j) : res_main_while0b_v304 V0 = Cert.ReferenceIdeal.Step.b373 j s := by
  unfold res_main_while0b_v304
  rw [al_298 h]
  rfl

theorem al_383 (h : Holds V0 s j) : res_main_while0b_v312 V0 = Cert.ReferenceIdeal.Step.b383 j s := by
  unfold res_main_while0b_v312
  rw [al_373 h]
  rfl

theorem al_393 (h : Holds V0 s j) : res_main_while0b_v322 V0 = Cert.ReferenceIdeal.Step.b393 j s := by
  unfold res_main_while0b_v322
  rw [al_383 h]
  rfl

theorem al_396 (h : Holds V0 s j) : res_main_while0b_v325 V0 = Cert.ReferenceIdeal.Step.b396 j s := by
  unfold res_main_while0b_v325
  rw [al_332 h, al_338 h, al_342 h, h.f_12, h.f_22]
  rfl

theorem al_407 (h : Holds V0 s j) : res_main_while0b_v336 V0 = Cert.ReferenceIdeal.Step.b407 j s := by
  unfold res_main_while0b_v336
  rw [al_298 h, al_396 h, h.f_7, h.f_9, h.f_21]
  rfl

theorem al_418 (h : Holds V0 s j) : res_main_while0b_v347 V0 = Cert.ReferenceIdeal.Step.b418 j s := by
  unfold res_main_while0b_v347
  rw [al_210 h, al_298 h, al_367 h, al_393 h, al_407 h, h.f_8, h.f_14]
  rfl

/-! One trip's carried values are the step's, field by field; the counter goes to the next number. -/

theorem step_17 (h : Holds V0 s j) : step_main_v12_17 V0 = (step j s).main_v12_17 := by
  unfold step_main_v12_17
  rw [al_26 h]
  rfl

theorem step_18 (h : Holds V0 s j) : step_main_v12_18 V0 = (step j s).main_v12_18 := by
  unfold step_main_v12_18
  rw [al_185 h]
  rfl

theorem step_19 (h : Holds V0 s j) : step_main_v12_19 V0 = (step j s).main_v12_19 := by
  unfold step_main_v12_19
  rw [al_199 h]
  rfl

theorem step_20 (h : Holds V0 s j) : step_main_v12_20 V0 = (step j s).main_v12_20 := by
  unfold step_main_v12_20
  rw [al_234 h]
  rfl

theorem step_21 (h : Holds V0 s j) : step_main_v12_21 V0 = (step j s).main_v12_21 := by
  unfold step_main_v12_21
  rw [al_393 h]
  rfl

theorem step_22 (h : Holds V0 s j) : step_main_v12_22 V0 = (step j s).main_v12_22 := by
  unfold step_main_v12_22
  rw [al_407 h]
  rfl

theorem step_23 (h : Holds V0 s j) : step_main_v12_23 V0 = (step j s).main_v12_23 := by
  unfold step_main_v12_23
  rw [al_418 h, h.f_15, h.n_16, h.f_23]
  rfl

theorem step_16 (h : Holds V0 s j) : step_main_v12_16 V0 = constantI S_ 32 (BitVec.ofNat 32 (j + 1)) := by
  unfold step_main_v12_16
  rw [h.n_16]
  funext i
  show BitVec.ofNat 32 j + 1#32 = BitVec.ofNat 32 (j + 1)
  simp only [BitVec.ofNat_add]

set_option maxRecDepth 8192 in
theorem out_main_v15_holds (h : Holds V0 s j) {x_main_arg1 : (⟨S272x256, .f32⟩ : BufTy).Contents (Elt F)} (h_main_arg1 : V0 (Proc.devRef .tc main_arg1) = x_main_arg1) : out_main_v15 V0 = Cert.ReferenceIdeal.Step.R_main_v15 s x_main_arg1 := by
  unfold out_main_v15 Cert.ReferenceIdeal.Step.R_main_v15
  rw [h.f_23, h_main_arg1]
  try rfl

/-- One trip keeps the valuation holding: `step` of the state, the same set-up values, the next number. -/
theorem holds_step (h : Holds V0 s j) : Holds (STEP V0) (step j s) (j + 1) where
  f_17 := (STEP_main_v12_17 V0).trans (step_17 h)
  f_18 := (STEP_main_v12_18 V0).trans (step_18 h)
  f_19 := (STEP_main_v12_19 V0).trans (step_19 h)
  f_20 := (STEP_main_v12_20 V0).trans (step_20 h)
  f_21 := (STEP_main_v12_21 V0).trans (step_21 h)
  f_22 := (STEP_main_v12_22 V0).trans (step_22 h)
  f_23 := (STEP_main_v12_23 V0).trans (step_23 h)
  n_16 := (STEP_main_v12_16 V0).trans (step_16 h)
  f_0 := (STEP_main_v12_0 V0).trans h.f_0
  f_1 := (STEP_main_v12_1 V0).trans h.f_1
  f_2 := (STEP_main_v12_2 V0).trans h.f_2
  f_3 := (STEP_main_v12_3 V0).trans h.f_3
  f_4 := (STEP_main_v12_4 V0).trans h.f_4
  f_5 := (STEP_main_v12_5 V0).trans h.f_5
  f_6 := (STEP_main_v12_6 V0).trans h.f_6
  f_7 := (STEP_main_v12_7 V0).trans h.f_7
  f_8 := (STEP_main_v12_8 V0).trans h.f_8
  f_9 := (STEP_main_v12_9 V0).trans h.f_9
  f_10 := (STEP_main_v12_10 V0).trans h.f_10
  f_11 := (STEP_main_v12_11 V0).trans h.f_11
  f_12 := (STEP_main_v12_12 V0).trans h.f_12
  f_13 := (STEP_main_v12_13 V0).trans h.f_13
  f_14 := (STEP_main_v12_14 V0).trans h.f_14
  f_15 := (STEP_main_v12_15 V0).trans h.f_15

/-- The state the first trip starts from, of the memory the run starts from. -/
abbrev initState (m : (ℓ : Loc nD τ sig) → Buf (Elt F) ℓ) (c : Dev nD) : State F :=
  init (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg12)) (m ((c.tc : Thread nD τ).loc main_arg14)) (m ((c.tc : Thread nD τ).loc main_arg15)) (m ((c.tc : Thread nD τ).loc main_arg16)) (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v15) = Cert.ReferenceIdeal.Step.R_main_v15 (it c 512) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    have hk := holds_iter m c (it c) (h0 c) (hs c) 512
    ⟨(h c).1.trans (out_main_v15_holds hk (iter_main_arg1 m c 512)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.ReferenceIdeal.StepRun

end
-- ==== Proof.lean ====
/-
  The claim: every run of the kernel and of the reference ends with the arguments unchanged and the semaphores at zero, the kernel's
  replaced operation is preserved, and on token ids within the vocabulary and finite weights both programs leave the same logits.
-/
module

public import proofs.«01_k».proof.Defs
public import proofs.«01_k».proof.Proof.FrameKernel
public import proofs.«01_k».proof.Proof.FrameKernelIdeal
public import proofs.«01_k».proof.Proof.KArray
public import proofs.«01_k».proof.Proof.RefVal
public import proofs.«01_k».proof.Proof.RefRun
public import proofs.«01_k».proof.Proof.Gen.ReferenceIdeal
public import proofs.«01_k».proof.Proof.Gen.ReferenceIdeal.Run
public import proofs.«01_k».proof.Proof.Gen.Pre_tame
public import Idealize.ShloMosaic.Adequacy
public import Idealize.ShloMosaic.Init

@[expose] public section

noncomputable section

namespace Cert.Proof

open Idealize.ShloMosaic Idealize.SL.Sem

/-- The reference declares no semaphore, so the run's statement about its arguments is the frame. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m ρ)

open Cert.ReferenceIdeal.StepRun (initState run_iter) in
/-- On arguments within `tame` both programs leave the model's logits. -/
theorem same_logits : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hargs
  refine ⟨fun c => (Cert.KernelIdeal.Gen.dats m 0 c).arrAt 19 Cert.KernelIdeal.cfg0.N, Cert.KernelIdeal.Value.run_blocks m g, ?_⟩
  refine (θ_run (Cert.ReferenceIdeal.defs (F := Ideal)) _ _).mono (fun r h c => ⟨(h c).1.trans ?_, (h c).2⟩)
    (run_iter m' g' (fun c => Cert.RefVal.states (initState m' c)) (fun _ => rfl) (fun _ _ => rfl))
  obtain ⟨e0, e1, e2, e3, e4, e5, e6, e7, e8, e9, e10, e11, e12, e13, e14, e15, e16⟩ := hargs c
  obtain ⟨W, E, q, w, hm⟩ := Cert.Args.means_of _ _ _ _ _ _ _ _ _ _ _ _ _ _ _ _ _ (hpre c)
  simp only [initState]
  rw [e0, e1, e2, e3, e4, e5, e6, e7, e8, e9, e10, e11, e12, e13, e14, e15, e16]
  funext i
  rw [eq_ix3 i]
  exact (Cert.RefVal.result hm _ _ _).trans (Cert.KernelArray.array_is hm _ _ _).symm

theorem claim : Cert.Claim :=
  ⟨Cert.Kernel.Gen.facts, Cert.KernelIdeal.Gen.facts, Cert.ReferenceIdeal.Gen.facts, Cert.Pre_tame.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, same_logits⟩

end Cert.Proof

end
